-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_rotary [hPre_rotary : Cert.Pre_rotary.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.2.2.1 = (fun _ => 1#1)
    ∧ (Cert.Pre_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_rotary [hPre_rotary : Cert.Pre_rotary.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.2.2.1 = (fun _ => 1#1)
    ∧ (Cert.Pre_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_rotary_heads [hPre_rotary_heads : Cert.Pre_rotary_heads.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rotary_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_rotary_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_rotary_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_rotary_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_rotary_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_rotary_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_rotary_heads.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_rotary_heads [hPre_rotary_heads : Cert.Pre_rotary_heads.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rotary_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_rotary_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_rotary_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_rotary_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_rotary_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_rotary_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_rotary_heads.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_rotary [hKernel3Ideal : Cert.Kernel3Ideal.Facts] [hPre_rotary : Cert.Pre_rotary.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_rotary m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_rotary [hReference3Ideal : Cert.Reference3Ideal.Facts] [hPre_rotary : Cert.Pre_rotary.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_rotary m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_rotary_heads [hKernel4Ideal : Cert.Kernel4Ideal.Facts] [hPre_rotary_heads : Cert.Pre_rotary_heads.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_rotary_heads m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_rotary_heads [hReference4Ideal : Cert.Reference4Ideal.Facts] [hPre_rotary_heads : Cert.Pre_rotary_heads.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_rotary_heads m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_rotary [hKernel3Ideal : Cert.Kernel3Ideal.Facts] [hReference3Ideal : Cert.Reference3Ideal.Facts] [hPre_rotary : Cert.Pre_rotary.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_rotary m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_4)) (v3 : (c : Dev Cert.Kernel3Ideal.nD) → Buf (Elt Ideal) ((c.tc : Thread Cert.Kernel3Ideal.nD Cert.Kernel3Ideal.τ).loc Cert.Kernel3Ideal.main_v0_5)) (v4 : (c : Dev Cert.Kernel3Ideal.nD) → Buf (Elt Ideal) ((c.tc : Thread Cert.Kernel3Ideal.nD Cert.Kernel3Ideal.τ).loc Cert.Kernel3Ideal.main_v0_7)) (v5 : (c : Dev Cert.Kernel3Ideal.nD) → Buf (Elt Ideal) ((c.tc : Thread Cert.Kernel3Ideal.nD Cert.Kernel3Ideal.τ).loc Cert.Kernel3Ideal.main_v0_8)) (v6 : (c : Dev Cert.Kernel3Ideal.nD) → Buf (Elt Ideal) ((c.tc : Thread Cert.Kernel3Ideal.nD Cert.Kernel3Ideal.τ).loc Cert.Kernel3Ideal.main_v0_6)) (v7 : (c : Dev Cert.Kernel3Ideal.nD) → Buf (Elt Ideal) ((c.tc : Thread Cert.Kernel3Ideal.nD Cert.Kernel3Ideal.τ).loc Cert.Kernel3Ideal.main_v0_3)) (v8 : (c : Dev Cert.Kernel3Ideal.nD) → Buf (Elt Ideal) ((c.tc : Thread Cert.Kernel3Ideal.nD Cert.Kernel3Ideal.τ).loc Cert.Kernel3Ideal.main_v0_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_4) = v2 c
          ∧ r.2.mem ((c.tc : Thread Cert.Kernel3Ideal.nD Cert.Kernel3Ideal.τ).loc Cert.Kernel3Ideal.main_v0_5) = v3 c
          ∧ r.2.mem ((c.tc : Thread Cert.Kernel3Ideal.nD Cert.Kernel3Ideal.τ).loc Cert.Kernel3Ideal.main_v0_7) = v4 c
          ∧ r.2.mem ((c.tc : Thread Cert.Kernel3Ideal.nD Cert.Kernel3Ideal.τ).loc Cert.Kernel3Ideal.main_v0_8) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_v0_3) = v7 c
          ∧ r.2.mem ((c.tc : Thread Cert.Kernel3Ideal.nD Cert.Kernel3Ideal.τ).loc Cert.Kernel3Ideal.main_v0_9) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v43) = v3 c
          ∧ r.2.mem ((c.tc : Thread Cert.Reference3Ideal.nD Cert.Reference3Ideal.τ).loc Cert.Reference3Ideal.main_v84) = v4 c
          ∧ r.2.mem ((c.tc : Thread Cert.Reference3Ideal.nD Cert.Reference3Ideal.τ).loc Cert.Reference3Ideal.main_v9) = v5 c
          ∧ r.2.mem ((c.tc : Thread Cert.Reference3Ideal.nD Cert.Reference3Ideal.τ).loc Cert.Reference3Ideal.main_v87) = v6 c
          ∧ r.2.mem ((c.tc : Thread Cert.Reference3Ideal.nD Cert.Reference3Ideal.τ).loc Cert.Reference3Ideal.main_v89) = v7 c
          ∧ r.2.mem ((c.tc : Thread Cert.Reference3Ideal.nD Cert.Reference3Ideal.τ).loc Cert.Reference3Ideal.main_v91) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_rotary_heads [hKernel4Ideal : Cert.Kernel4Ideal.Facts] [hReference4Ideal : Cert.Reference4Ideal.Facts] [hPre_rotary_heads : Cert.Pre_rotary_heads.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_rotary_heads m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_rows : Cert.Pre_finite_rows.Facts) (hPre_routed : Cert.Pre_routed.Facts) (hPre_rotary : Cert.Pre_rotary.Facts) (hPre_rotary_heads : Cert.Pre_rotary_heads.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Kernel3Ideal_pre_rotary (hKernel3Ideal := hKernel3Ideal) (hPre_rotary := hPre_rotary)
    ∧ quiescent_Reference3Ideal (hReference3Ideal := hReference3Ideal)
    ∧ quiescent_Reference3Ideal_pre_rotary (hReference3Ideal := hReference3Ideal) (hPre_rotary := hPre_rotary)
    ∧ quiescent_Kernel4 (hKernel4 := hKernel4)
    ∧ quiescent_Kernel4Ideal (hKernel4Ideal := hKernel4Ideal)
    ∧ quiescent_Kernel4Ideal_pre_rotary_heads (hKernel4Ideal := hKernel4Ideal) (hPre_rotary_heads := hPre_rotary_heads)
    ∧ quiescent_Reference4Ideal (hReference4Ideal := hReference4Ideal)
    ∧ quiescent_Reference4Ideal_pre_rotary_heads (hReference4Ideal := hReference4Ideal) (hPre_rotary_heads := hPre_rotary_heads)
    ∧ preserves_Kernel_KernelIdeal
    ∧ algebraic_KernelIdeal_ReferenceIdeal_pre_finite_rows (hKernelIdeal := hKernelIdeal) (hReferenceIdeal := hReferenceIdeal) (hPre_finite_rows := hPre_finite_rows)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal_pre_rotary (hKernel3Ideal := hKernel3Ideal) (hReference3Ideal := hReference3Ideal) (hPre_rotary := hPre_rotary)
    ∧ preserves_Kernel4_Kernel4Ideal
    ∧ algebraic_Kernel4Ideal_Reference4Ideal_pre_rotary_heads (hKernel4Ideal := hKernel4Ideal) (hReference4Ideal := hReference4Ideal) (hPre_rotary_heads := hPre_rotary_heads)
-- ==== Pre_finite_rows.lean ====
abbrev S6x33792x160 : Shape := ⟨3, ![6, 33792, 160]⟩
abbrev S33792x160 : Shape := ⟨2, ![33792, 160]⟩
abbrev S6x128x64 : Shape := ⟨3, ![6, 128, 64]⟩
abbrev S_ : Shape := ⟨0, ![]⟩

class Facts : Prop where
  bitsLt_bf16_f32 : FTy.bits .bf16 < FTy.bits .f32
  bcast_S_S6x33792x160 : S_.BroadcastsInDim S6x33792x160 (![] : Fin 0 → Fin S6x33792x160.rank)
  bcast_S_S33792x160 : S_.BroadcastsInDim S33792x160 (![] : Fin 0 → Fin S33792x160.rank)

variable [Facts]

def fn {F : FTy → Type} [FloatOps F] (main_arg0 : FVec F S6x33792x160 .bf16) (main_arg1 : FVec F S33792x160 .bf16) (main_arg2 : FVec F S6x128x64 .bf16) : IVec S6x33792x160 1 × IVec S33792x160 1 :=
  let main_v0 : FVec F S6x33792x160 .f32 := (extf .f32 · bitsLt_bf16_f32) main_arg0
  let main_v1 : FVec F S6x33792x160 .f32 := Host.absf main_v0
  let main_cst : FVec F S_ .f32 := constant S_ .f32 0x7F800000#32
  let main_v2 : FVec F S6x33792x160 .f32 := broadcastInDim S6x33792x160 ![] bcast_S_S6x33792x160 main_cst
  let main_v3 : IVec S6x33792x160 1 := cmpf .olt main_v1 main_v2
  let main_v4 : FVec F S33792x160 .f32 := (extf .f32 · bitsLt_bf16_f32) main_arg1
  let main_v5 : FVec F S33792x160 .f32 := Host.absf main_v4
  let main_cst_0 : FVec F S_ .f32 := constant S_ .f32 0x7F800000#32
  let main_v6 : FVec F S33792x160 .f32 := broadcastInDim S33792x160 ![] bcast_S_S33792x160 main_cst_0
  let main_v7 : IVec S33792x160 1 := cmpf .olt main_v5 main_v6
  (main_v3, main_v7)
-- ==== Pre_rotary.lean ====
abbrev S33792x1024 : Shape := ⟨2, ![33792, 1024]⟩
abbrev S2560x768 : Shape := ⟨2, ![2560, 768]⟩
abbrev S1024x1920 : Shape := ⟨2, ![1024, 1920]⟩
abbrev S256x640 : Shape := ⟨2, ![256, 640]⟩
abbrev S384x768 : Shape := ⟨2, ![384, 768]⟩
abbrev S1x256 : Shape := ⟨2, ![1, 256]⟩
abbrev S1x128 : Shape := ⟨2, ![1, 128]⟩
abbrev S2560x32 : Shape := ⟨2, ![2560, 32]⟩
abbrev S2560x384 : Shape := ⟨2, ![2560, 384]⟩
abbrev S2560x3x2x64 : Shape := ⟨4, ![2560, 3, 2, 64]⟩
abbrev S2560x1x2x64 : Shape := ⟨4, ![2560, 1, 2, 64]⟩
abbrev S2560x2x64 : Shape := ⟨3, ![2560, 2, 64]⟩
abbrev S2560x1x8 : Shape := ⟨3, ![2560, 1, 8]⟩
abbrev S2560x16 : Shape := ⟨2, ![2560, 16]⟩
abbrev S_ : Shape := ⟨0, ![]⟩
abbrev S2560x2x8 : Shape := ⟨3, ![2560, 2, 8]⟩
abbrev S2560x2x48 : Shape := ⟨3, ![2560, 2, 48]⟩
abbrev S2560x2x56 : Shape := ⟨3, ![2560, 2, 56]⟩

class Facts : Prop where
  slices_S2560x768_S2560x32_0_0 : S2560x768.Slices ![0, 0] S2560x32
  slices_S2560x768_S2560x32_0_128 : S2560x768.Slices ![0, 128] S2560x32
  slices_S2560x768_S2560x32_0_256 : S2560x768.Slices ![0, 256] S2560x32
  slices_S2560x768_S2560x384_0_384 : S2560x768.Slices ![0, 384] S2560x384
  shapeCasts_S2560x384_S2560x3x2x64 : S2560x384.ShapeCasts S2560x3x2x64
  slices_S2560x3x2x64_S2560x1x2x64_0_0_0_0 : S2560x3x2x64.Slices ![0, 0, 0, 0] S2560x1x2x64
  shapeCasts_S2560x1x2x64_S2560x2x64 : S2560x1x2x64.ShapeCasts S2560x2x64
  slices_S2560x3x2x64_S2560x1x2x64_0_1_0_0 : S2560x3x2x64.Slices ![0, 1, 0, 0] S2560x1x2x64
  slices_S2560x3x2x64_S2560x1x2x64_0_2_0_0 : S2560x3x2x64.Slices ![0, 2, 0, 0] S2560x1x2x64
  slices_S2560x2x64_S2560x1x8_0_0_0 : S2560x2x64.Slices ![0, 0, 0] S2560x1x8
  slices_S2560x2x64_S2560x1x8_0_0_8 : S2560x2x64.Slices ![0, 0, 8] S2560x1x8
  slices_S2560x32_S2560x16_0_16 : S2560x32.Slices ![0, 16] S2560x16
  slices_S2560x32_S2560x16_0_0 : S2560x32.Slices ![0, 0] S2560x16
  bcast_S_S2560x16 : S_.BroadcastsInDim S2560x16 (![] : Fin 0 → Fin S2560x16.rank)
  slices_S2560x2x64_S2560x2x8_0_0_0 : S2560x2x64.Slices ![0, 0, 0] S2560x2x8
  bcast_S2560x1x8_S2560x2x8_0_1_2 : S2560x1x8.BroadcastsInDim S2560x2x8 (![0, 1, 2] : Fin 3 → Fin S2560x2x8.rank)
  slices_S2560x2x64_S2560x2x8_0_0_8 : S2560x2x64.Slices ![0, 0, 8] S2560x2x8
  slices_S2560x2x64_S2560x2x48_0_0_16 : S2560x2x64.Slices ![0, 0, 16] S2560x2x48
  bcast_S_S2560x2x48 : S_.BroadcastsInDim S2560x2x48 (![] : Fin 0 → Fin S2560x2x48.rank)
  slices_S2560x2x64_S2560x2x56_0_0_8 : S2560x2x64.Slices ![0, 0, 8] S2560x2x56
  bcast_S_S2560x2x56 : S_.BroadcastsInDim S2560x2x56 (![] : Fin 0 → Fin S2560x2x56.rank)
  bcast_S_S2560x2x8 : S_.BroadcastsInDim S2560x2x8 (![] : Fin 0 → Fin S2560x2x8.rank)

variable [Facts]

def fn_part2 {F : FTy → Type} [FloatOps F] (main_v10 : FVec F S2560x2x64 .f32) (main_v12 : FVec F S2560x1x8 .f32) (main_v15 : IVec S2560x16 1) (main_v19 : IVec S2560x16 1) (main_v22 : IVec S2560x16 1) (main_v25 : IVec S2560x16 1) (main_v28 : IVec S2560x2x8 1) (main_v31 : IVec S2560x2x8 1) (main_v34 : IVec S2560x2x48 1) (main_v38 : IVec S2560x2x8 1) (main_v41 : IVec S2560x2x56 1) (main_v42 : FVec F S2560x2x8 .f32) (main_cst_3 : FVec F S_ .f32) : IVec S2560x16 1 × IVec S2560x16 1 × IVec S2560x16 1 × IVec S2560x16 1 × IVec S2560x2x8 1 × IVec S2560x2x8 1 × IVec S2560x2x48 1 × IVec S2560x2x8 1 × IVec S2560x2x56 1 × IVec S2560x2x8 1 × IVec S2560x2x8 1 × IVec S2560x2x48 1 :=
  let main_v43 : FVec F S2560x2x8 .f32 := broadcastInDim S2560x2x8 ![] bcast_S_S2560x2x8 main_cst_3
  let main_v44 : IVec S2560x2x8 1 := cmpf .oeq main_v42 main_v43
  let main_v45 : FVec F S2560x2x8 .f32 := (extractStridedSlice S2560x2x8 ![0, 0, 8] · slices_S2560x2x64_S2560x2x8_0_0_8) main_v10
  let main_v46 : FVec F S2560x2x8 .f32 := broadcastInDim S2560x2x8 ![0, 1, 2] bcast_S2560x1x8_S2560x2x8_0_1_2 main_v12
  let main_v47 : IVec S2560x2x8 1 := cmpf .oeq main_v45 main_v46
  let main_v48 : FVec F S2560x2x48 .f32 := (extractStridedSlice S2560x2x48 ![0, 0, 16] · slices_S2560x2x64_S2560x2x48_0_0_16) main_v10
  let main_cst_4 : FVec F S_ .f32 := constant S_ .f32 0x00000000#32
  let main_v49 : FVec F S2560x2x48 .f32 := broadcastInDim S2560x2x48 ![] bcast_S_S2560x2x48 main_cst_4
  let main_v50 : IVec S2560x2x48 1 := cmpf .oeq main_v48 main_v49
  (main_v15, main_v19, main_v22, main_v25, main_v28, main_v31, main_v34, main_v38, main_v41, main_v44, main_v47, main_v50)

def fn_part1 {F : FTy → Type} [FloatOps F] (main_v2 : FVec F S2560x32 .f32) (main_v6 : FVec F S2560x2x64 .f32) (main_v8 : FVec F S2560x2x64 .f32) (main_v10 : FVec F S2560x2x64 .f32) (main_v11 : FVec F S2560x1x8 .f32) (main_v12 : FVec F S2560x1x8 .f32) (main_v15 : IVec S2560x16 1) (main_v19 : IVec S2560x16 1) (main_v22 : IVec S2560x16 1) : IVec S2560x16 1 × IVec S2560x16 1 × IVec S2560x16 1 × IVec S2560x16 1 × IVec S2560x2x8 1 × IVec S2560x2x8 1 × IVec S2560x2x48 1 × IVec S2560x2x8 1 × IVec S2560x2x56 1 × IVec S2560x2x8 1 × IVec S2560x2x8 1 × IVec S2560x2x48 1 :=
  let main_v23 : FVec F S2560x16 .f32 := (extractStridedSlice S2560x16 ![0, 0] · slices_S2560x32_S2560x16_0_0) main_v2
  let main_cst_0 : FVec F S_ .f32 := constant S_ .f32 0x00000000#32
  let main_v24 : FVec F S2560x16 .f32 := broadcastInDim S2560x16 ![] bcast_S_S2560x16 main_cst_0
  let main_v25 : IVec S2560x16 1 := cmpf .oeq main_v23 main_v24
  let main_v26 : FVec F S2560x2x8 .f32 := (extractStridedSlice S2560x2x8 ![0, 0, 0] · slices_S2560x2x64_S2560x2x8_0_0_0) main_v6
  let main_v27 : FVec F S2560x2x8 .f32 := broadcastInDim S2560x2x8 ![0, 1, 2] bcast_S2560x1x8_S2560x2x8_0_1_2 main_v11
  let main_v28 : IVec S2560x2x8 1 := cmpf .oeq main_v26 main_v27
  let main_v29 : FVec F S2560x2x8 .f32 := (extractStridedSlice S2560x2x8 ![0, 0, 8] · slices_S2560x2x64_S2560x2x8_0_0_8) main_v6
  let main_v30 : FVec F S2560x2x8 .f32 := broadcastInDim S2560x2x8 ![0, 1, 2] bcast_S2560x1x8_S2560x2x8_0_1_2 main_v11
  let main_v31 : IVec S2560x2x8 1 := cmpf .oeq main_v29 main_v30
  let main_v32 : FVec F S2560x2x48 .f32 := (extractStridedSlice S2560x2x48 ![0, 0, 16] · slices_S2560x2x64_S2560x2x48_0_0_16) main_v6
  let main_cst_1 : FVec F S_ .f32 := constant S_ .f32 0x3F800000#32
  let main_v33 : FVec F S2560x2x48 .f32 := broadcastInDim S2560x2x48 ![] bcast_S_S2560x2x48 main_cst_1
  let main_v34 : IVec S2560x2x48 1 := cmpf .oeq main_v32 main_v33
  let main_v35 : FVec F S2560x2x8 .f32 := (extractStridedSlice S2560x2x8 ![0, 0, 0] · slices_S2560x2x64_S2560x2x8_0_0_0) main_v8
  let main_v36 : FVec F S2560x1x8 .f32 := Host.negf main_v12
  let main_v37 : FVec F S2560x2x8 .f32 := broadcastInDim S2560x2x8 ![0, 1, 2] bcast_S2560x1x8_S2560x2x8_0_1_2 main_v36
  let main_v38 : IVec S2560x2x8 1 := cmpf .oeq main_v35 main_v37
  let main_v39 : FVec F S2560x2x56 .f32 := (extractStridedSlice S2560x2x56 ![0, 0, 8] · slices_S2560x2x64_S2560x2x56_0_0_8) main_v8
  let main_cst_2 : FVec F S_ .f32 := constant S_ .f32 0x00000000#32
  let main_v40 : FVec F S2560x2x56 .f32 := broadcastInDim S2560x2x56 ![] bcast_S_S2560x2x56 main_cst_2
  let main_v41 : IVec S2560x2x56 1 := cmpf .oeq main_v39 main_v40
  let main_v42 : FVec F S2560x2x8 .f32 := (extractStridedSlice S2560x2x8 ![0, 0, 0] · slices_S2560x2x64_S2560x2x8_0_0_0) main_v10
  let main_cst_3 : FVec F S_ .f32 := constant S_ .f32 0x00000000#32
  fn_part2 (F := F) main_v10 main_v12 main_v15 main_v19 main_v22 main_v25 main_v28 main_v31 main_v34 main_v38 main_v41 main_v42 main_cst_3

def fn {F : FTy → Type} [FloatOps F] (main_arg0 : FVec F S33792x1024 .f32) (main_arg1 : FVec F S2560x768 .f32) (main_arg2 : FVec F S1024x1920 .bf16) (main_arg3 : FVec F S256x640 .bf16) (main_arg4 : FVec F S384x768 .bf16) (main_arg5 : FVec F S1x256 .f32) (main_arg6 : FVec F S1x128 .f32) : IVec S2560x16 1 × IVec S2560x16 1 × IVec S2560x16 1 × IVec S2560x16 1 × IVec S2560x2x8 1 × IVec S2560x2x8 1 × IVec S2560x2x48 1 × IVec S2560x2x8 1 × IVec S2560x2x56 1 × IVec S2560x2x8 1 × IVec S2560x2x8 1 × IVec S2560x2x48 1 :=
  let main_v0 : FVec F S2560x32 .f32 := (extractStridedSlice S2560x32 ![0, 0] · slices_S2560x768_S2560x32_0_0) main_arg1
  let main_v1 : FVec F S2560x32 .f32 := (extractStridedSlice S2560x32 ![0, 128] · slices_S2560x768_S2560x32_0_128) main_arg1
  let main_v2 : FVec F S2560x32 .f32 := (extractStridedSlice S2560x32 ![0, 256] · slices_S2560x768_S2560x32_0_256) main_arg1
  let main_v3 : FVec F S2560x384 .f32 := (extractStridedSlice S2560x384 ![0, 384] · slices_S2560x768_S2560x384_0_384) main_arg1
  let main_v4 : FVec F S2560x3x2x64 .f32 := shapeCast S2560x3x2x64 main_v3 shapeCasts_S2560x384_S2560x3x2x64
  let main_v5 : FVec F S2560x1x2x64 .f32 := (extractStridedSlice S2560x1x2x64 ![0, 0, 0, 0] · slices_S2560x3x2x64_S2560x1x2x64_0_0_0_0) main_v4
  let main_v6 : FVec F S2560x2x64 .f32 := shapeCast S2560x2x64 main_v5 shapeCasts_S2560x1x2x64_S2560x2x64
  let main_v7 : FVec F S2560x1x2x64 .f32 := (extractStridedSlice S2560x1x2x64 ![0, 1, 0, 0] · slices_S2560x3x2x64_S2560x1x2x64_0_1_0_0) main_v4
  let main_v8 : FVec F S2560x2x64 .f32 := shapeCast S2560x2x64 main_v7 shapeCasts_S2560x1x2x64_S2560x2x64
  let main_v9 : FVec F S2560x1x2x64 .f32 := (extractStridedSlice S2560x1x2x64 ![0, 2, 0, 0] · slices_S2560x3x2x64_S2560x1x2x64_0_2_0_0) main_v4
  let main_v10 : FVec F S2560x2x64 .f32 := shapeCast S2560x2x64 main_v9 shapeCasts_S2560x1x2x64_S2560x2x64
  let main_v11 : FVec F S2560x1x8 .f32 := (extractStridedSlice S2560x1x8 ![0, 0, 0] · slices_S2560x2x64_S2560x1x8_0_0_0) main_v6
  let main_v12 : FVec F S2560x1x8 .f32 := (extractStridedSlice S2560x1x8 ![0, 0, 8] · slices_S2560x2x64_S2560x1x8_0_0_8) main_v10
  let main_v13 : FVec F S2560x16 .f32 := (extractStridedSlice S2560x16 ![0, 16] · slices_S2560x32_S2560x16_0_16) main_v0
  let main_v14 : FVec F S2560x16 .f32 := (extractStridedSlice S2560x16 ![0, 0] · slices_S2560x32_S2560x16_0_0) main_v0
  let main_v15 : IVec S2560x16 1 := cmpf .oeq main_v13 main_v14
  let main_v16 : FVec F S2560x16 .f32 := (extractStridedSlice S2560x16 ![0, 0] · slices_S2560x32_S2560x16_0_0) main_v1
  let main_v17 : FVec F S2560x16 .f32 := (extractStridedSlice S2560x16 ![0, 16] · slices_S2560x32_S2560x16_0_16) main_v2
  let main_v18 : FVec F S2560x16 .f32 := Host.negf main_v17
  let main_v19 : IVec S2560x16 1 := cmpf .oeq main_v16 main_v18
  let main_v20 : FVec F S2560x16 .f32 := (extractStridedSlice S2560x16 ![0, 16] · slices_S2560x32_S2560x16_0_16) main_v1
  let main_cst : FVec F S_ .f32 := constant S_ .f32 0x00000000#32
  let main_v21 : FVec F S2560x16 .f32 := broadcastInDim S2560x16 ![] bcast_S_S2560x16 main_cst
  let main_v22 : IVec S2560x16 1 := cmpf .oeq main_v20 main_v21
  fn_part1 (F := F) main_v2 main_v6 main_v8 main_v10 main_v11 main_v12 main_v15 main_v19 main_v22
-- ==== Pre_rotary_heads.lean ====
abbrev S33792x1024 : Shape := ⟨2, ![33792, 1024]⟩
abbrev S2560x768 : Shape := ⟨2, ![2560, 768]⟩
abbrev S1024x1920 : Shape := ⟨2, ![1024, 1920]⟩
abbrev S256x640 : Shape := ⟨2, ![256, 640]⟩
abbrev S384x768 : Shape := ⟨2, ![384, 768]⟩
abbrev S1x256 : Shape := ⟨2, ![1, 256]⟩
abbrev S1x128 : Shape := ⟨2, ![1, 128]⟩
abbrev S2560x384 : Shape := ⟨2, ![2560, 384]⟩
abbrev S2560x3x4x32 : Shape := ⟨4, ![2560, 3, 4, 32]⟩
abbrev S2560x1x4x32 : Shape := ⟨4, ![2560, 1, 4, 32]⟩
abbrev S2560x4x32 : Shape := ⟨3, ![2560, 4, 32]⟩
abbrev S2560x1x16 : Shape := ⟨3, ![2560, 1, 16]⟩
abbrev S2560x4x16 : Shape := ⟨3, ![2560, 4, 16]⟩
abbrev S_ : Shape := ⟨0, ![]⟩
abbrev S6x64x6x128 : Shape := ⟨4, ![6, 64, 6, 128]⟩

class Facts : Prop where
  slices_S2560x768_S2560x384_0_0 : S2560x768.Slices ![0, 0] S2560x384
  shapeCasts_S2560x384_S2560x3x4x32 : S2560x384.ShapeCasts S2560x3x4x32
  slices_S2560x3x4x32_S2560x1x4x32_0_0_0_0 : S2560x3x4x32.Slices ![0, 0, 0, 0] S2560x1x4x32
  shapeCasts_S2560x1x4x32_S2560x4x32 : S2560x1x4x32.ShapeCasts S2560x4x32
  slices_S2560x3x4x32_S2560x1x4x32_0_1_0_0 : S2560x3x4x32.Slices ![0, 1, 0, 0] S2560x1x4x32
  slices_S2560x3x4x32_S2560x1x4x32_0_2_0_0 : S2560x3x4x32.Slices ![0, 2, 0, 0] S2560x1x4x32
  slices_S2560x4x32_S2560x1x16_0_0_0 : S2560x4x32.Slices ![0, 0, 0] S2560x1x16
  slices_S2560x4x32_S2560x1x16_0_0_16 : S2560x4x32.Slices ![0, 0, 16] S2560x1x16
  slices_S2560x4x32_S2560x4x16_0_0_0 : S2560x4x32.Slices ![0, 0, 0] S2560x4x16
  bcast_S2560x1x16_S2560x4x16_0_1_2 : S2560x1x16.BroadcastsInDim S2560x4x16 (![0, 1, 2] : Fin 3 → Fin S2560x4x16.rank)
  slices_S2560x4x32_S2560x4x16_0_0_16 : S2560x4x32.Slices ![0, 0, 16] S2560x4x16
  bcast_S_S2560x4x16 : S_.BroadcastsInDim S2560x4x16 (![] : Fin 0 → Fin S2560x4x16.rank)
  shapeCasts_S384x768_S6x64x6x128 : S384x768.ShapeCasts S6x64x6x128
  bitsLt_bf16_f32 : FTy.bits .bf16 < FTy.bits .f32
  bcast_S_S6x64x6x128 : S_.BroadcastsInDim S6x64x6x128 (![] : Fin 0 → Fin S6x64x6x128.rank)

variable [Facts]

def fn_where {F : FTy → Type} [FloatOps F] (arg0 : IVec S6x64x6x128 1) (arg1 : FVec F S_ .f32) (arg2 : FVec F S6x64x6x128 .f32) : FVec F S6x64x6x128 .f32 :=
  let v0 : FVec F S_ .f32 := id arg1
  let v1 : FVec F S6x64x6x128 .f32 := broadcastInDim S6x64x6x128 ![] bcast_S_S6x64x6x128 v0
  let v2 : FVec F S6x64x6x128 .f32 := select arg0 v1 arg2
  v2

def fn_part1 {F : FTy → Type} [FloatOps F] (main_arg4 : FVec F S384x768 .bf16) (main_v7 : FVec F S2560x4x32 .f32) (main_v9 : FVec F S2560x1x16 .f32) (main_v12 : IVec S2560x4x16 1) (main_v15 : IVec S2560x4x16 1) (main_v19 : IVec S2560x4x16 1) (main_v22 : IVec S2560x4x16 1) : IVec S2560x4x16 1 × IVec S2560x4x16 1 × IVec S2560x4x16 1 × IVec S2560x4x16 1 × IVec S2560x4x16 1 × IVec S2560x4x16 1 × IVec S6x64x6x128 1 :=
  let main_v23 : FVec F S2560x4x16 .f32 := (extractStridedSlice S2560x4x16 ![0, 0, 0] · slices_S2560x4x32_S2560x4x16_0_0_0) main_v7
  let main_cst_0 : FVec F S_ .f32 := constant S_ .f32 0x00000000#32
  let main_v24 : FVec F S2560x4x16 .f32 := broadcastInDim S2560x4x16 ![] bcast_S_S2560x4x16 main_cst_0
  let main_v25 : IVec S2560x4x16 1 := cmpf .oeq main_v23 main_v24
  let main_v26 : FVec F S2560x4x16 .f32 := (extractStridedSlice S2560x4x16 ![0, 0, 16] · slices_S2560x4x32_S2560x4x16_0_0_16) main_v7
  let main_v27 : FVec F S2560x4x16 .f32 := broadcastInDim S2560x4x16 ![0, 1, 2] bcast_S2560x1x16_S2560x4x16_0_1_2 main_v9
  let main_v28 : IVec S2560x4x16 1 := cmpf .oeq main_v26 main_v27
  let main_v29 : IVec S6x64x6x128 32 := iotaInDim S6x64x6x128 32 0
  let main_v30 : IVec S6x64x6x128 32 := iotaInDim S6x64x6x128 32 2
  let main_v31 : IVec S6x64x6x128 1 := cmpi .eq main_v29 main_v30
  let main_v32 : FVec F S6x64x6x128 .bf16 := shapeCast S6x64x6x128 main_arg4 shapeCasts_S384x768_S6x64x6x128
  let main_v33 : FVec F S6x64x6x128 .f32 := (extf .f32 · bitsLt_bf16_f32) main_v32
  let main_cst_1 : FVec F S_ .f32 := constant S_ .f32 0x00000000#32
  let main_v34 : FVec F S6x64x6x128 .f32 := fn_where (F := F) main_v31 main_cst_1 main_v33
  let main_cst_2 : FVec F S_ .f32 := constant S_ .f32 0x00000000#32
  let main_v35 : FVec F S6x64x6x128 .f32 := broadcastInDim S6x64x6x128 ![] bcast_S_S6x64x6x128 main_cst_2
  let main_v36 : IVec S6x64x6x128 1 := cmpf .oeq main_v34 main_v35
  (main_v12, main_v15, main_v19, main_v22, main_v25, main_v28, main_v36)

def fn {F : FTy → Type} [FloatOps F] (main_arg0 : FVec F S33792x1024 .f32) (main_arg1 : FVec F S2560x768 .f32) (main_arg2 : FVec F S1024x1920 .bf16) (main_arg3 : FVec F S256x640 .bf16) (main_arg4 : FVec F S384x768 .bf16) (main_arg5 : FVec F S1x256 .f32) (main_arg6 : FVec F S1x128 .f32) : IVec S2560x4x16 1 × IVec S2560x4x16 1 × IVec S2560x4x16 1 × IVec S2560x4x16 1 × IVec S2560x4x16 1 × IVec S2560x4x16 1 × IVec S6x64x6x128 1 :=
  let main_v0 : FVec F S2560x384 .f32 := (extractStridedSlice S2560x384 ![0, 0] · slices_S2560x768_S2560x384_0_0) main_arg1
  let main_v1 : FVec F S2560x3x4x32 .f32 := shapeCast S2560x3x4x32 main_v0 shapeCasts_S2560x384_S2560x3x4x32
  let main_v2 : FVec F S2560x1x4x32 .f32 := (extractStridedSlice S2560x1x4x32 ![0, 0, 0, 0] · slices_S2560x3x4x32_S2560x1x4x32_0_0_0_0) main_v1
  let main_v3 : FVec F S2560x4x32 .f32 := shapeCast S2560x4x32 main_v2 shapeCasts_S2560x1x4x32_S2560x4x32
  let main_v4 : FVec F S2560x1x4x32 .f32 := (extractStridedSlice S2560x1x4x32 ![0, 1, 0, 0] · slices_S2560x3x4x32_S2560x1x4x32_0_1_0_0) main_v1
  let main_v5 : FVec F S2560x4x32 .f32 := shapeCast S2560x4x32 main_v4 shapeCasts_S2560x1x4x32_S2560x4x32
  let main_v6 : FVec F S2560x1x4x32 .f32 := (extractStridedSlice S2560x1x4x32 ![0, 2, 0, 0] · slices_S2560x3x4x32_S2560x1x4x32_0_2_0_0) main_v1
  let main_v7 : FVec F S2560x4x32 .f32 := shapeCast S2560x4x32 main_v6 shapeCasts_S2560x1x4x32_S2560x4x32
  let main_v8 : FVec F S2560x1x16 .f32 := (extractStridedSlice S2560x1x16 ![0, 0, 0] · slices_S2560x4x32_S2560x1x16_0_0_0) main_v3
  let main_v9 : FVec F S2560x1x16 .f32 := (extractStridedSlice S2560x1x16 ![0, 0, 16] · slices_S2560x4x32_S2560x1x16_0_0_16) main_v7
  let main_v10 : FVec F S2560x4x16 .f32 := (extractStridedSlice S2560x4x16 ![0, 0, 0] · slices_S2560x4x32_S2560x4x16_0_0_0) main_v3
  let main_v11 : FVec F S2560x4x16 .f32 := broadcastInDim S2560x4x16 ![0, 1, 2] bcast_S2560x1x16_S2560x4x16_0_1_2 main_v8
  let main_v12 : IVec S2560x4x16 1 := cmpf .oeq main_v10 main_v11
  let main_v13 : FVec F S2560x4x16 .f32 := (extractStridedSlice S2560x4x16 ![0, 0, 16] · slices_S2560x4x32_S2560x4x16_0_0_16) main_v3
  let main_v14 : FVec F S2560x4x16 .f32 := broadcastInDim S2560x4x16 ![0, 1, 2] bcast_S2560x1x16_S2560x4x16_0_1_2 main_v8
  let main_v15 : IVec S2560x4x16 1 := cmpf .oeq main_v13 main_v14
  let main_v16 : FVec F S2560x4x16 .f32 := (extractStridedSlice S2560x4x16 ![0, 0, 0] · slices_S2560x4x32_S2560x4x16_0_0_0) main_v5
  let main_v17 : FVec F S2560x1x16 .f32 := Host.negf main_v9
  let main_v18 : FVec F S2560x4x16 .f32 := broadcastInDim S2560x4x16 ![0, 1, 2] bcast_S2560x1x16_S2560x4x16_0_1_2 main_v17
  let main_v19 : IVec S2560x4x16 1 := cmpf .oeq main_v16 main_v18
  let main_v20 : FVec F S2560x4x16 .f32 := (extractStridedSlice S2560x4x16 ![0, 0, 16] · slices_S2560x4x32_S2560x4x16_0_0_16) main_v5
  let main_cst : FVec F S_ .f32 := constant S_ .f32 0x00000000#32
  let main_v21 : FVec F S2560x4x16 .f32 := broadcastInDim S2560x4x16 ![] bcast_S_S2560x4x16 main_cst
  let main_v22 : IVec S2560x4x16 1 := cmpf .oeq main_v20 main_v21
  fn_part1 (F := F) main_arg4 main_v7 main_v9 main_v12 main_v15 main_v19 main_v22
-- ==== Pre_routed.lean ====
abbrev S560 : Shape := ⟨1, ![560]⟩
abbrev S560x1x256 : Shape := ⟨3, ![560, 1, 256]⟩
abbrev S33792x1024 : Shape := ⟨2, ![33792, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S560 : S_.BroadcastsInDim S560 (![] : Fin 0 → Fin S560.rank)
  bcast_S_S560x1x256 : S_.BroadcastsInDim S560x1x256 (![] : Fin 0 → Fin S560x1x256.rank)

variable [Facts]

def fn {F : FTy → Type} [FloatOps F] (main_arg0 : IVec S560 32) (main_arg1 : IVec S560x1x256 32) (main_arg2 : FVec F S33792x1024 .f32) (main_arg3 : FVec F S32x1024x2048 .bf16) (main_arg4 : FVec F S32x1x2048 .f32) (main_arg5 : FVec F S32x1024x1024 .bf16) (main_arg6 : FVec F S32x1x1024 .f32) : IVec S560 1 × IVec S560x1x256 1 :=
  let main_c : IVec S_ 32 := constantI S_ 32 0#32
  let main_v0 : IVec S560 32 := broadcastInDim S560 ![] bcast_S_S560 main_c
  let main_v1 : IVec S560 1 := cmpi .sge main_arg0 main_v0
  let main_c_0 : IVec S_ 32 := constantI S_ 32 32#32
  let main_v2 : IVec S560 32 := broadcastInDim S560 ![] bcast_S_S560 main_c_0
  let main_v3 : IVec S560 1 := cmpi .slt main_arg0 main_v2
  let main_v4 : IVec S560 1 := andi main_v1 main_v3
  let main_c_1 : IVec S_ 32 := constantI S_ 32 0#32
  let main_v5 : IVec S560x1x256 32 := broadcastInDim S560x1x256 ![] bcast_S_S560x1x256 main_c_1
  let main_v6 : IVec S560x1x256 1 := cmpi .sge main_arg1 main_v5
  let main_c_2 : IVec S_ 32 := constantI S_ 32 33792#32
  let main_v7 : IVec S560x1x256 32 := broadcastInDim S560x1x256 ![] bcast_S_S560x1x256 main_c_2
  let main_v8 : IVec S560x1x256 1 := cmpi .slt main_arg1 main_v7
  let main_v9 : IVec S560x1x256 1 := andi main_v6 main_v8
  (main_v4, main_v9)
-- ==== Kernel.lean ====
abbrev S6x33792x160 : Shape := ⟨3, ![6, 33792, 160]⟩
abbrev S33792x160 : Shape := ⟨2, ![33792, 160]⟩
abbrev S6x128x64 : Shape := ⟨3, ![6, 128, 64]⟩
abbrev S32768x384 : Shape := ⟨2, ![32768, 384]⟩
abbrev S6x256x160 : Shape := ⟨3, ![6, 256, 160]⟩
abbrev S2048x160 : Shape := ⟨2, ![2048, 160]⟩
abbrev S256x384 : Shape := ⟨2, ![256, 384]⟩
abbrev S1536x160 : Shape := ⟨2, ![1536, 160]⟩
abbrev S256x160 : Shape := ⟨2, ![256, 160]⟩
abbrev S1536x256 : Shape := ⟨2, ![1536, 256]⟩
abbrev S256x128 : Shape := ⟨2, ![256, 128]⟩
abbrev S1536x1 : Shape := ⟨2, ![1536, 1]⟩
abbrev S1536x128 : Shape := ⟨2, ![1536, 128]⟩
abbrev S1536 : Shape := ⟨1, ![1536]⟩
abbrev S1x128x64 : Shape := ⟨3, ![1, 128, 64]⟩
abbrev S128x64 : Shape := ⟨2, ![128, 64]⟩
abbrev S256x64 : Shape := ⟨2, ![256, 64]⟩

abbrev nBuf : Space → Nat
  | .hbm => 4
  | .vmem => 7
  | .smem => 0
  | _ => 0

abbrev bufTy : (tb : Table) → Fin (tcTables nBuf tb) → BufTy
  | .hbm, ⟨0, _⟩ => ⟨S6x33792x160, .bf16⟩
  | .hbm, ⟨1, _⟩ => ⟨S33792x160, .bf16⟩
  | .hbm, ⟨2, _⟩ => ⟨S6x128x64, .bf16⟩
  | .hbm, ⟨3, _⟩ => ⟨S32768x384, .bf16⟩
  | .local _ .vmem, ⟨0, _⟩ => ⟨S6x256x160, .bf16⟩
  | .local _ .vmem, ⟨1, _⟩ => ⟨S6x256x160, .bf16⟩
  | .local _ .vmem, ⟨2, _⟩ => ⟨S2048x160, .bf16⟩
  | .local _ .vmem, ⟨3, _⟩ => ⟨S2048x160, .bf16⟩
  | .local _ .vmem, ⟨4, _⟩ => ⟨S6x128x64, .bf16⟩
  | .local _ .vmem, ⟨5, _⟩ => ⟨S256x384, .bf16⟩
  | .local _ .vmem, ⟨6, _⟩ => ⟨S256x384, .bf16⟩
  | _, _ => ⟨S6x33792x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v2 : BitVec 32 := Scalar.muli arg1 c256_i32
  v2
def k0_off1 (i : grid0.Coords) : Fin 2 → Nat :=
  let arg1 : BitVec 32 := BitVec.ofNat 32 (i 1).val
  let c256_i32 : BitVec 32 := 256#32
  let v2 : BitVec 32 := Scalar.muli arg1 c256_i32
  let v3 : BitVec 32 := v2
  let v4 : Index := Scalar.indexCast v3
  let c0_2 : Index := 0#32
  ![v4.toNat, 0]
@[reducible] def k0_t1_loop (i : grid0.Coords) : Scf.Loop 32 :=
  let c0_i32_14 : BitVec 32 := 0#32
  let arg1 : BitVec 32 := BitVec.ofNat 32 (i 1).val
  let v49 : BitVec 32 := Scalar.subi arg1 c0_i32_14
  let c1_i32_15 : BitVec 32 := 1#32
  let v51 : BitVec 32 := Scalar.divsi v49 c1_i32_15
  let v52 : BitVec 32 := Scalar.muli v51 c1_i32_15
  let v53 : BitVec 32 := Scalar.addi c0_i32_14 v52
  let c1_i32_16 : BitVec 32 := 1#32
  ⟨c0_i32_14, v53, c1_i32_16⟩
def k0_mult2 (i : grid0.Coords) (k0_t1 : Fin (k0_t1_loop i).trips) : BitVec 32 :=
  let c0_i32_14 : BitVec 32 := 0#32
  let c1_i32_16 : BitVec 32 := 1#32
  let arg6 : BitVec 32 := Scf.iv c0_i32_14 c1_i32_16 k0_t1
  let c256_i32_39 : BitVec 32 := 256#32
  let v91 : BitVec 32 := Scalar.muli arg6 c256_i32_39
  v91
def k0_off2 (i : grid0.Coords) (k0_t1 : Fin (k0_t1_loop i).trips) : Fin 2 → Nat :=
  let c0_i32_14 : BitVec 32 := 0#32
  let c1_i32_16 : BitVec 32 := 1#32
  let arg6 : BitVec 32 := Scf.iv c0_i32_14 c1_i32_16 k0_t1
  let c256_i32_39 : BitVec 32 := 256#32
  let v91 : BitVec 32 := Scalar.muli arg6 c256_i32_39
  let v92 : BitVec 32 := v91
  let v93 : Index := Scalar.indexCast v92
  let c0_40 : Index := 0#32
  ![v93.toNat, 0]
@[reducible] def k0_t2_loop (i : grid0.Coords) : Scf.Loop 32 :=
  let c0_i32_14 : BitVec 32 := 0#32
  let arg1 : BitVec 32 := BitVec.ofNat 32 (i 1).val
  let v49 : BitVec 32 := Scalar.subi arg1 c0_i32_14
  let c1_i32_15 : BitVec 32 := 1#32
  let v51 : BitVec 32 := Scalar.divsi v49 c1_i32_15
  let v52 : BitVec 32 := Scalar.muli v51 c1_i32_15
  let v53 : BitVec 32 := Scalar.addi c0_i32_14 v52
  let v50 : BitVec 32 := Scalar.addi c0_i32_14 v49
  let c1_i32_17 : BitVec 32 := 1#32
  ⟨v53, v50, c1_i32_17⟩
def k0_mult3 (i : grid0.Coords) (k0_t2 : Fin (k0_t2_loop i).trips) : BitVec 32 :=
  let c0_i32_14 : BitVec 32 := 0#32
  let arg1 : BitVec 32 := BitVec.ofNat 32 (i 1).val
  let v49 : BitVec 32 := Scalar.subi arg1 c0_i32_14
  let c1_i32_15 : BitVec 32 := 1#32
  let v51 : BitVec 32 := Scalar.divsi v49 c1_i32_15
  let v52 : BitVec 32 := Scalar.muli v51 c1_i32_15
  let v53 : BitVec 32 := Scalar.addi c0_i32_14 v52
  let c1_i32_17 : BitVec 32 := 1#32
  let arg6 : BitVec 32 := Scf.iv v53 c1_i32_17 k0_t2
  let c256_i32_39 : BitVec 32 := 256#32
  let v91 : BitVec 32 := Scalar.muli arg6 c256_i32_39
  v91
def k0_off3 (i : grid0.Coords) (k0_t2 : Fin (k0_t2_loop i).trips) : Fin 2 → Nat :=
  let c0_i32_14 : BitVec 32 := 0#32
  let arg1 : BitVec 32 := BitVec.ofNat 32 (i 1).val
  let v49 : BitVec 32 := Scalar.subi arg1 c0_i32_14
  let c1_i32_15 : BitVec 32 := 1#32
  let v51 : BitVec 32 := Scalar.divsi v49 c1_i32_15
  let v52 : BitVec 32 := Scalar.muli v51 c1_i32_15
  let v53 : BitVec 32 := Scalar.addi c0_i32_14 v52
  let c1_i32_17 : BitVec 32 := 1#32
  let arg6 : BitVec 32 := Scf.iv v53 c1_i32_17 k0_t2
  let c256_i32_39 : BitVec 32 := 256#32
  let v91 : BitVec 32 := Scalar.muli arg6 c256_i32_39
  let v92 : BitVec 32 := v91
  let v93 : Index := Scalar.indexCast v92
  let c0_40 : Index := 0#32
  ![v93.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S6x256x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x160 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S6x33792x160 : Shape := ⟨3, ![6, 33792, 160]⟩
abbrev S33792x160 : Shape := ⟨2, ![33792, 160]⟩
abbrev S6x128x64 : Shape := ⟨3, ![6, 128, 64]⟩
abbrev S6x32768x160 : Shape := ⟨3, ![6, 32768, 160]⟩
abbrev S6x16x2048x160 : Shape := ⟨4, ![6, 16, 2048, 160]⟩
abbrev S32768x160 : Shape := ⟨2, ![32768, 160]⟩
abbrev S16x2048x160 : Shape := ⟨3, ![16, 2048, 160]⟩
abbrev S6x16x2048x128 : Shape := ⟨4, ![6, 16, 2048, 128]⟩
abbrev S6x16x2048x32 : Shape := ⟨4, ![6, 16, 2048, 32]⟩
abbrev S16x2048x128 : Shape := ⟨3, ![16, 2048, 128]⟩
abbrev S16x2048x32 : Shape := ⟨3, ![16, 2048, 32]⟩
abbrev S16x6x2048x2048 : Shape := ⟨4, ![16, 6, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x6x2048 : Shape := ⟨3, ![16, 6, 2048]⟩
abbrev S16x6x2048x1 : Shape := ⟨4, ![16, 6, 2048, 1]⟩
abbrev S16x128x6x2048 : Shape := ⟨4, ![16, 128, 6, 2048]⟩
abbrev S16x2048x6x128 : Shape := ⟨4, ![16, 2048, 6, 128]⟩
abbrev S6x64x16x2048 : Shape := ⟨4, ![6, 64, 16, 2048]⟩
abbrev S16x2048x6x64 : Shape := ⟨4, ![16, 2048, 6, 64]⟩
abbrev S32768x384 : Shape := ⟨2, ![32768, 384]⟩

abbrev nBuf : Space → Nat
  | .hbm => 48
  | .vmem => 0
  | .smem => 0
  | _ => 0

abbrev bufTy : (tb : Table) → Fin (tcTables nBuf tb) → BufTy
  | .hbm, ⟨0, _⟩ => ⟨S6x33792x160, .bf16⟩
  | .hbm, ⟨1, _⟩ => ⟨S33792x160, .bf16⟩
  | .hbm, ⟨2, _⟩ => ⟨S6x128x64, .bf16⟩
  | .hbm, ⟨3, _⟩ => ⟨S6x32768x160, .bf16⟩
  | .hbm, ⟨4, _⟩ => ⟨S6x32768x160, .f32⟩
  | .hbm, ⟨5, _⟩ => ⟨S6x16x2048x160, .f32⟩
  | .hbm, ⟨6, _⟩ => ⟨S32768x160, .bf16⟩
  | .hbm, ⟨7, _⟩ => ⟨S32768x160, .f32⟩
  | .hbm, ⟨8, _⟩ => ⟨S16x2048x160, .f32⟩
  | .hbm, ⟨9, _⟩ => ⟨S6x16x2048x128, .f32⟩
  | .hbm, ⟨10, _⟩ => ⟨S6x16x2048x32, .f32⟩
  | .hbm, ⟨11, _⟩ => ⟨S16x2048x128, .f32⟩
  | .hbm, ⟨12, _⟩ => ⟨S16x2048x32, .f32⟩
  | .hbm, ⟨13, _⟩ => ⟨S16x6x2048x2048, .f32⟩
  | .hbm, ⟨14, _⟩ => ⟨S16x6x2048x2048, .f32⟩
  | .hbm, ⟨15, _⟩ => ⟨S16x6x2048x2048, .f32⟩
  | .hbm, ⟨16, _⟩ => ⟨S2048, .i32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S16x6x2048x2048, .i1⟩
  | .hbm, ⟨25, _⟩ => ⟨S16x6x2048x2048, .f32⟩
  | .hbm, ⟨26, _⟩ => ⟨S16x6x2048x2048, .f32⟩
  | .hbm, ⟨27, _⟩ => ⟨S_, .f32⟩
  | .hbm, ⟨28, _⟩ => ⟨S16x6x2048, .f32⟩
  | .hbm, ⟨29, _⟩ => ⟨S_, .f32⟩
  | .hbm, ⟨30, _⟩ => ⟨S16x6x2048, .f32⟩
  | .hbm, ⟨31, _⟩ => ⟨S16x6x2048, .f32⟩
  | .hbm, ⟨32, _⟩ => ⟨S16x6x2048x1, .f32⟩
  | .hbm, ⟨33, _⟩ => ⟨S16x6x2048x2048, .f32⟩
  | .hbm, ⟨34, _⟩ => ⟨S16x6x2048x2048, .f32⟩
  | .hbm, ⟨35, _⟩ => ⟨S16x6x2048x2048, .f32⟩
  | .hbm, ⟨36, _⟩ => ⟨S_, .f32⟩
  | .hbm, ⟨37, _⟩ => ⟨S16x6x2048, .f32⟩
  | .hbm, ⟨38, _⟩ => ⟨S16x6x2048x1, .f32⟩
  | .hbm, ⟨39, _⟩ => ⟨S16x6x2048x2048, .f32⟩
  | .hbm, ⟨40, _⟩ => ⟨S16x6x2048x2048, .f32⟩
  | .hbm, ⟨41, _⟩ => ⟨S16x128x6x2048, .f32⟩
  | .hbm, ⟨42, _⟩ => ⟨S16x2048x6x128, .f32⟩
  | .hbm, ⟨43, _⟩ => ⟨S6x128x64, .f32⟩
  | .hbm, ⟨44, _⟩ => ⟨S6x64x16x2048, .f32⟩
  | .hbm, ⟨45, _⟩ => ⟨S16x2048x6x64, .f32⟩
  | .hbm, ⟨46, _⟩ => ⟨S32768x384, .f32⟩
  | .hbm, ⟨47, _⟩ => ⟨S32768x384, .bf16⟩
  | _, _ => ⟨S6x33792x160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

def κ : String → Option EReal := fun
  | "mask" => some ⊥
  | _ => none
-- ==== Kernel2.lean ====
abbrev S560 : Shape := ⟨1, ![560]⟩
abbrev S560x1x256 : Shape := ⟨3, ![560, 1, 256]⟩
abbrev S33792x1024 : Shape := ⟨2, ![33792, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S143360x1024 : Shape := ⟨2, ![143360, 1024]⟩
abbrev S1x1x256 : Shape := ⟨3, ![1, 1, 256]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x1024 : Shape := ⟨2, ![256, 1024]⟩
abbrev S2x256x1024 : Shape := ⟨3, ![2, 256, 1024]⟩
abbrev S2 : Shape := ⟨1, ![2]⟩
abbrev S1x1x1 : Shape := ⟨3, ![1, 1, 1]⟩
abbrev S_ : Shape := ⟨0, ![]⟩
abbrev S1x1024 : Shape := ⟨2, ![1, 1024]⟩
abbrev S1x256x1024 : Shape := ⟨3, ![1, 256, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩

abbrev nBuf : Space → Nat
  | .hbm => 7
  | .vmem => 11
  | .smem => 5
  | _ => 0

abbrev bufTy : (tb : Table) → Fin (tcTables nBuf tb) → BufTy
  | .hbm, ⟨0, _⟩ => ⟨S560x1x256, .i32⟩
  | .hbm, ⟨1, _⟩ => ⟨S33792x1024, .f32⟩
  | .hbm, ⟨2, _⟩ => ⟨S32x1024x2048, .bf16⟩
  | .hbm, ⟨3, _⟩ => ⟨S32x1x2048, .f32⟩
  | .hbm, ⟨4, _⟩ => ⟨S32x1024x1024, .bf16⟩
  | .hbm, ⟨5, _⟩ => ⟨S32x1x1024, .f32⟩
  | .hbm, ⟨6, _⟩ => ⟨S143360x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | .local _ .vmem, ⟨10, _⟩ => ⟨S2x256x1024, .f32⟩
  | .local _ .smem, ⟨0, _⟩ => ⟨S560, .i32⟩
  | .local _ .smem, ⟨1, _⟩ => ⟨S1x1x256, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | _, _ => ⟨S560x1x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg0_0 : Ref sig .tc := ⟨.smem, 1, rfl⟩
abbrev cc0_stg0_1 : Ref sig .tc := ⟨.smem, 2, rfl⟩
abbrev cc0_stg1_0 : Ref sig .tc := ⟨.smem, 3, rfl⟩
abbrev cc0_stg1_1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![560], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_35 : BitVec 32 := 0#32
  let c256_i32_36 : BitVec 32 := 256#32
  let v54 : BitVec 32 := Scalar.addi c0_i32_35 c256_i32_36
  let c1_i32_37 : BitVec 32 := 1#32
  ⟨c0_i32_35, v54, c1_i32_37⟩
def k0_off2 (k0_t1 : Fin k0_t1_loop.trips) : Fin 3 → Nat :=
  let c0_39 : Index := 0#32
  let c0_40 : Index := 0#32
  let c0_i32_35 : BitVec 32 := 0#32
  let c1_i32_37 : BitVec 32 := 1#32
  let arg12 : BitVec 32 := Scf.iv c0_i32_35 c1_i32_37 k0_t1
  let v55 : Index := Scalar.indexCast arg12
  ![0, 0, v55.toNat]
def k0_off3 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off4 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_35 : BitVec 32 := 0#32
  let c1_i32_37 : BitVec 32 := 1#32
  let arg12 : BitVec 32 := Scf.iv c0_i32_35 c1_i32_37 k0_t1
  let c0_i32_41 : BitVec 32 := 0#32
  ![v9.toNat, arg12.toNat, 0]
def k0_off5 (v56 : BitVec 32) : Fin 2 → Nat :=
  let c0_i32_42 : BitVec 32 := 0#32
  ![v56.toNat, 0]

def k0_chk1 (i : grid0.Coords) (v56 : BitVec 32) : Prop :=
  (∀ (k0_h1 : k0_cond1 i = 1#1), ∀ a, (k0_off5 v56) a + S1x1024.size a ≤ S33792x1024.size a)
theorem k0_off5_inb : ∀ (i : grid0.Coords) (v56 : BitVec 32) (k0_hw1 : k0_chk1 i v56), ∀ (k0_h1 : k0_cond1 i = 1#1), ∀ a, (k0_off5 v56) a + S1x1024.size a ≤ S33792x1024.size a := fun i v56 k0_hw1 k0_h1 => k0_hw1 k0_h1

@[reducible] def k0_t2_loop : Scf.Loop 32 :=
  let c0_i32_6 : BitVec 32 := 0#32
  let c256_i32 : BitVec 32 := 256#32
  let v14 : BitVec 32 := Scalar.addi c0_i32_6 c256_i32
  let c1_i32_7 : BitVec 32 := 1#32
  ⟨c0_i32_6, v14, c1_i32_7⟩
def k0_off6 (k0_t2 : Fin k0_t2_loop.trips) : Fin 3 → Nat :=
  let c0_35 : Index := 0#32
  let c0_36 : Index := 0#32
  let c0_i32_6 : BitVec 32 := 0#32
  let c1_i32_7 : BitVec 32 := 1#32
  let arg12 : BitVec 32 := Scf.iv c0_i32_6 c1_i32_7 k0_t2
  let v54 : Index := Scalar.indexCast arg12
  ![0, 0, v54.toNat]
def k0_off7 (i : grid0.Coords) : Fin 1 → Nat :=
  let c1_i32_5 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : BitVec 32 := Scalar.subi c1_i32_5 v9
  ![v13.toNat]
def k0_off8 (i : grid0.Coords) (k0_t2 : Fin k0_t2_loop.trips) : Fin 3 → Nat :=
  let c1_i32_5 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : BitVec 32 := Scalar.subi c1_i32_5 v9
  let c0_i32_6 : BitVec 32 := 0#32
  let c1_i32_7 : BitVec 32 := 1#32
  let arg12 : BitVec 32 := Scf.iv c0_i32_6 c1_i32_7 k0_t2
  let c0_i32_37 : BitVec 32 := 0#32
  ![v13.toNat, arg12.toNat, 0]
def k0_off9 (v55 : BitVec 32) : Fin 2 → Nat :=
  let c0_i32_38 : BitVec 32 := 0#32
  ![v55.toNat, 0]

def k0_chk2 (v55 : BitVec 32) : Prop :=
  (∀ a, (k0_off9 v55) a + S1x1024.size a ≤ S33792x1024.size a)
theorem k0_off9_inb : ∀ (v55 : BitVec 32) (k0_hw2 : k0_chk2 v55), ∀ a, (k0_off9 v55) a + S1x1024.size a ≤ S33792x1024.size a := fun v55 k0_hw2 => k0_hw2

@[reducible] def k0_t3_loop : Scf.Loop 32 :=
  let c0_i32_9 : BitVec 32 := 0#32
  let c256_i32_10 : BitVec 32 := 256#32
  let v15 : BitVec 32 := Scalar.addi c0_i32_9 c256_i32_10
  let c1_i32_11 : BitVec 32 := 1#32
  ⟨c0_i32_9, v15, c1_i32_11⟩
def k0_off10 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off11 (i : grid0.Coords) (k0_t3 : Fin k0_t3_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_9 : BitVec 32 := 0#32
  let c1_i32_11 : BitVec 32 := 1#32
  let arg12 : BitVec 32 := Scf.iv c0_i32_9 c1_i32_11 k0_t3
  let c0_i32_35 : BitVec 32 := 0#32
  ![v9.toNat, arg12.toNat, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v16 : Index := Scalar.indexCast v9
  let c0 : Index := 0#32
  let c0_13 : Index := 0#32
  ![v16.toNat, 0, 0]
def k0_cond2 (i : grid0.Coords) : BitVec 1 :=
  let arg0 : BitVec 32 := BitVec.ofNat 32 (i 0).val
  let c559_i32 : BitVec 32 := 559#32
  let v51 : BitVec 1 := Scalar.cmpi .eq arg0 c559_i32
  let v52 : BitVec 32 := Scalar.extui v51
  let c0_i32_34 : BitVec 32 := 0#32
  let v53 : BitVec 1 := Scalar.cmpi .ne v52 c0_i32_34
  v53

@[reducible] def k0_t4_loop : Scf.Loop 32 :=
  let c0_i32_36 : BitVec 32 := 0#32
  let c256_i32_37 : BitVec 32 := 256#32
  let v55 : BitVec 32 := Scalar.addi c0_i32_36 c256_i32_37
  let c1_i32_38 : BitVec 32 := 1#32
  ⟨c0_i32_36, v55, c1_i32_38⟩
def k0_off13 (i : grid0.Coords) : Fin 1 → Nat :=
  let c1_i32_35 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_35 v9
  ![v54.toNat]
def k0_off14 (i : grid0.Coords) (k0_t4 : Fin k0_t4_loop.trips) : Fin 3 → Nat :=
  let c1_i32_35 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : BitVec 32 := Scalar.subi c1_i32_35 v9
  let c0_i32_36 : BitVec 32 := 0#32
  let c1_i32_38 : BitVec 32 := 1#32
  let arg12 : BitVec 32 := Scf.iv c0_i32_36 c1_i32_38 k0_t4
  let c0_i32_40 : BitVec 32 := 0#32
  ![v54.toNat, arg12.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c559_i32 : BitVec 32 := 559#32
  let v1 : BitVec 32 := Scalar.minsi v0 c559_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S560 : Shape := ⟨1, ![560]⟩
abbrev S560x1x256 : Shape := ⟨3, ![560, 1, 256]⟩
abbrev S33792x1024 : Shape := ⟨2, ![33792, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S143360 : Shape := ⟨1, ![143360]⟩
abbrev S_ : Shape := ⟨0, ![]⟩
abbrev S143360x1 : Shape := ⟨2, ![143360, 1]⟩
abbrev S143360x1024 : Shape := ⟨2, ![143360, 1024]⟩
abbrev S560x256x1024 : Shape := ⟨3, ![560, 256, 1024]⟩
abbrev S560x1 : Shape := ⟨2, ![560, 1]⟩
abbrev S560x1024x2048 : Shape := ⟨3, ![560, 1024, 2048]⟩
abbrev S560x256x2048 : Shape := ⟨3, ![560, 256, 2048]⟩
abbrev S560x1x2048 : Shape := ⟨3, ![560, 1, 2048]⟩
abbrev S560x1024x1024 : Shape := ⟨3, ![560, 1024, 1024]⟩
abbrev S560x1x1024 : Shape := ⟨3, ![560, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S560, .i32⟩
  | .hbm, ⟨1, _⟩ => ⟨S560x1x256, .i32⟩
  | .hbm, ⟨2, _⟩ => ⟨S33792x1024, .f32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S143360, .i32⟩
  | .hbm, ⟨8, _⟩ => ⟨S_, .i32⟩
  | .hbm, ⟨9, _⟩ => ⟨S143360, .i32⟩
  | .hbm, ⟨10, _⟩ => ⟨S143360, .i1⟩
  | .hbm, ⟨11, _⟩ => ⟨S_, .i32⟩
  | .hbm, ⟨12, _⟩ => ⟨S143360, .i32⟩
  | .hbm, ⟨13, _⟩ => ⟨S143360, .i32⟩
  | .hbm, ⟨14, _⟩ => ⟨S143360, .i32⟩
  | .hbm, ⟨15, _⟩ => ⟨S143360x1, .i32⟩
  | .hbm, ⟨16, _⟩ => ⟨S143360x1024, .f32⟩
  | .hbm, ⟨17, _⟩ => ⟨S560x256x1024, .f32⟩
  | .hbm, ⟨18, _⟩ => ⟨S_, .i32⟩
  | .hbm, ⟨19, _⟩ => ⟨S560, .i32⟩
  | .hbm, ⟨20, _⟩ => ⟨S560, .i1⟩
  | .hbm, ⟨21, _⟩ => ⟨S_, .i32⟩
  | .hbm, ⟨22, _⟩ => ⟨S560, .i32⟩
  | .hbm, ⟨23, _⟩ => ⟨S560, .i32⟩
  | .hbm, ⟨24, _⟩ => ⟨S560, .i32⟩
  | .hbm, ⟨25, _⟩ => ⟨S560x1, .i32⟩
  | .hbm, ⟨26, _⟩ => ⟨S560x1024x2048, .bf16⟩
  | .hbm, ⟨27, _⟩ => ⟨S560x1024x2048, .f32⟩
  | .hbm, ⟨28, _⟩ => ⟨S560x256x2048, .f32⟩
  | .hbm, ⟨29, _⟩ => ⟨S_, .i32⟩
  | .hbm, ⟨30, _⟩ => ⟨S560, .i32⟩
  | .hbm, ⟨31, _⟩ => ⟨S560, .i1⟩
  | .hbm, ⟨32, _⟩ => ⟨S_, .i32⟩
  | .hbm, ⟨33, _⟩ => ⟨S560, .i32⟩
  | .hbm, ⟨34, _⟩ => ⟨S560, .i32⟩
  | .hbm, ⟨35, _⟩ => ⟨S560, .i32⟩
  | .hbm, ⟨36, _⟩ => ⟨S560x1, .i32⟩
  | .hbm, ⟨37, _⟩ => ⟨S560x1x2048, .f32⟩
  | .hbm, ⟨38, _⟩ => ⟨S560x256x2048, .f32⟩
  | .hbm, ⟨39, _⟩ => ⟨S560x256x2048, .f32⟩
  | .hbm, ⟨40, _⟩ => ⟨S560x256x1024, .f32⟩
  | .hbm, ⟨41, _⟩ => ⟨S_, .f32⟩
  | .hbm, ⟨42, _⟩ => ⟨S560x256x1024, .f32⟩
  | .hbm, ⟨43, _⟩ => ⟨S560x256x1024, .f32⟩
  | .hbm, ⟨44, _⟩ => ⟨S560x256x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S560x256x1024, .f32⟩
  | .hbm, ⟨49, _⟩ => ⟨S560x256x1024, .f32⟩
  | .hbm, ⟨50, _⟩ => ⟨S_, .f32⟩
  | .hbm, ⟨51, _⟩ => ⟨S560x256x1024, .f32⟩
  | .hbm, ⟨52, _⟩ => ⟨S560x256x1024, .f32⟩
  | .hbm, ⟨53, _⟩ => ⟨S_, .f32⟩
  | .hbm, ⟨54, _⟩ => ⟨S560x256x1024, .f32⟩
  | .hbm, ⟨55, _⟩ => ⟨S560x256x1024, .f32⟩
  | .hbm, ⟨56, _⟩ => ⟨S_, .f32⟩
  | .hbm, ⟨57, _⟩ => ⟨S560x256x1024, .f32⟩
  | .hbm, ⟨58, _⟩ => ⟨S560x256x1024, .f32⟩
  | .hbm, ⟨59, _⟩ => ⟨S560x256x1024, .f32⟩
  | .hbm, ⟨60, _⟩ => ⟨S560x256x1024, .f32⟩
  | .hbm, ⟨61, _⟩ => ⟨S_, .f32⟩
  | .hbm, ⟨62, _⟩ => ⟨S560x256x1024, .f32⟩
  | .hbm, ⟨63, _⟩ => ⟨S560x256x1024, .f32⟩
  | .hbm, ⟨64, _⟩ => ⟨S_, .f32⟩
  | .hbm, ⟨65, _⟩ => ⟨S560x256x1024, .f32⟩
  | .hbm, ⟨66, _⟩ => ⟨S560x256x1024, .f32⟩
  | .hbm, ⟨67, _⟩ => ⟨S560x256x1024, .f32⟩
  | .hbm, ⟨68, _⟩ => ⟨S560x256x1024, .f32⟩
  | .hbm, ⟨69, _⟩ => ⟨S_, .i32⟩
  | .hbm, ⟨70, _⟩ => ⟨S560, .i32⟩
  | .hbm, ⟨71, _⟩ => ⟨S560, .i1⟩
  | .hbm, ⟨72, _⟩ => ⟨S_, .i32⟩
  | .hbm, ⟨73, _⟩ => ⟨S560, .i32⟩
  | .hbm, ⟨74, _⟩ => ⟨S560, .i32⟩
  | .hbm, ⟨75, _⟩ => ⟨S560, .i32⟩
  | .hbm, ⟨76, _⟩ => ⟨S560x1, .i32⟩
  | .hbm, ⟨77, _⟩ => ⟨S560x1024x1024, .bf16⟩
  | .hbm, ⟨78, _⟩ => ⟨S560x1024x1024, .f32⟩
  | .hbm, ⟨79, _⟩ => ⟨S560x256x1024, .f32⟩
  | .hbm, ⟨80, _⟩ => ⟨S_, .i32⟩
  | .hbm, ⟨81, _⟩ => ⟨S560, .i32⟩
  | .hbm, ⟨82, _⟩ => ⟨S560, .i1⟩
  | .hbm, ⟨83, _⟩ => ⟨S_, .i32⟩
  | .hbm, ⟨84, _⟩ => ⟨S560, .i32⟩
  | .hbm, ⟨85, _⟩ => ⟨S560, .i32⟩
  | .hbm, ⟨86, _⟩ => ⟨S560, .i32⟩
  | .hbm, ⟨87, _⟩ => ⟨S560x1, .i32⟩
  | .hbm, ⟨88, _⟩ => ⟨S560x1x1024, .f32⟩
  | .hbm, ⟨89, _⟩ => ⟨S560x256x1024, .f32⟩
  | .hbm, ⟨90, _⟩ => ⟨S560x256x1024, .f32⟩
  | .hbm, ⟨91, _⟩ => ⟨S143360x1024, .f32⟩
  | _, _ => ⟨S560, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_13 : Ref sig .tc := ⟨.hbm, 80, rfl⟩
abbrev main_v53 : Ref sig .tc := ⟨.hbm, 81, rfl⟩
abbrev main_v54 : Ref sig .tc := ⟨.hbm, 82, rfl⟩
abbrev main_c_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Kernel3.lean ====
abbrev S33792x1024 : Shape := ⟨2, ![33792, 1024]⟩
abbrev S2560x768 : Shape := ⟨2, ![2560, 768]⟩
abbrev S1024x1920 : Shape := ⟨2, ![1024, 1920]⟩
abbrev S256x640 : Shape := ⟨2, ![256, 640]⟩
abbrev S384x768 : Shape := ⟨2, ![384, 768]⟩
abbrev S1x256 : Shape := ⟨2, ![1, 256]⟩
abbrev S1x128 : Shape := ⟨2, ![1, 128]⟩
abbrev S33792x256 : Shape := ⟨2, ![33792, 256]⟩
abbrev S6x33792x160 : Shape := ⟨3, ![6, 33792, 160]⟩
abbrev S33792x160 : Shape := ⟨2, ![33792, 160]⟩
abbrev S33792x128 : Shape := ⟨2, ![33792, 128]⟩
abbrev S33792x32 : Shape := ⟨2, ![33792, 32]⟩
abbrev S33792x384 : Shape := ⟨2, ![33792, 384]⟩
abbrev S512x1024 : Shape := ⟨2, ![512, 1024]⟩
abbrev S512x768 : Shape := ⟨2, ![512, 768]⟩
abbrev S512x256 : Shape := ⟨2, ![512, 256]⟩
abbrev S6x512x160 : Shape := ⟨3, ![6, 512, 160]⟩
abbrev S512x160 : Shape := ⟨2, ![512, 160]⟩
abbrev S512x128 : Shape := ⟨2, ![512, 128]⟩
abbrev S512x32 : Shape := ⟨2, ![512, 32]⟩
abbrev S512x384 : Shape := ⟨2, ![512, 384]⟩
abbrev S512x1920 : Shape := ⟨2, ![512, 1920]⟩
abbrev S512 : Shape := ⟨1, ![512]⟩
abbrev S512x1 : Shape := ⟨2, ![512, 1]⟩
abbrev S512x640 : Shape := ⟨2, ![512, 640]⟩
abbrev S1x512x128 : Shape := ⟨3, ![1, 512, 128]⟩
abbrev S1x512x32 : Shape := ⟨3, ![1, 512, 32]⟩

abbrev nBuf : Space → Nat
  | .hbm => 17
  | .vmem => 29
  | .smem => 0
  | _ => 0

abbrev bufTy : (tb : Table) → Fin (tcTables nBuf tb) → BufTy
  | .hbm, ⟨0, _⟩ => ⟨S33792x1024, .f32⟩
  | .hbm, ⟨1, _⟩ => ⟨S2560x768, .f32⟩
  | .hbm, ⟨2, _⟩ => ⟨S1024x1920, .bf16⟩
  | .hbm, ⟨3, _⟩ => ⟨S256x640, .bf16⟩
  | .hbm, ⟨4, _⟩ => ⟨S384x768, .bf16⟩
  | .hbm, ⟨5, _⟩ => ⟨S1x256, .f32⟩
  | .hbm, ⟨6, _⟩ => ⟨S1x128, .f32⟩
  | .hbm, ⟨7, _⟩ => ⟨S33792x256, .f32⟩
  | .hbm, ⟨8, _⟩ => ⟨S33792x256, .f32⟩
  | .hbm, ⟨9, _⟩ => ⟨S6x33792x160, .bf16⟩
  | .hbm, ⟨10, _⟩ => ⟨S33792x160, .bf16⟩
  | .hbm, ⟨11, _⟩ => ⟨S33792x128, .f32⟩
  | .hbm, ⟨12, _⟩ => ⟨S33792x32, .f32⟩
  | .hbm, ⟨13, _⟩ => ⟨S33792x384, .bf16⟩
  | .hbm, ⟨14, _⟩ => ⟨S33792x128, .f32⟩
  | .hbm, ⟨15, _⟩ => ⟨S33792x128, .f32⟩
  | .hbm, ⟨16, _⟩ => ⟨S33792x256, .bf16⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S1024x1920, .bf16⟩
  | .local _ .vmem, ⟨5, _⟩ => ⟨S256x640, .bf16⟩
  | .local _ .vmem, ⟨6, _⟩ => ⟨S384x768, .bf16⟩
  | .local _ .vmem, ⟨7, _⟩ => ⟨S1x256, .f32⟩
  | .local _ .vmem, ⟨8, _⟩ => ⟨S1x128, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S6x512x160, .bf16⟩
  | .local _ .vmem, ⟨14, _⟩ => ⟨S6x512x160, .bf16⟩
  | .local _ .vmem, ⟨15, _⟩ => ⟨S512x160, .bf16⟩
  | .local _ .vmem, ⟨16, _⟩ => ⟨S512x160, .bf16⟩
  | .local _ .vmem, ⟨17, _⟩ => ⟨S512x128, .f32⟩
  | .local _ .vmem, ⟨18, _⟩ => ⟨S512x128, .f32⟩
  | .local _ .vmem, ⟨19, _⟩ => ⟨S512x32, .f32⟩
  | .local _ .vmem, ⟨20, _⟩ => ⟨S512x32, .f32⟩
  | .local _ .vmem, ⟨21, _⟩ => ⟨S512x384, .bf16⟩
  | .local _ .vmem, ⟨22, _⟩ => ⟨S512x384, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x256, .bf16⟩
  | .local _ .vmem, ⟨28, _⟩ => ⟨S512x256, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v0_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 1 := Scalar.cmpi .slt arg0 c64_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x512x160 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x160 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S33792x1024 : Shape := ⟨2, ![33792, 1024]⟩
abbrev S2560x768 : Shape := ⟨2, ![2560, 768]⟩
abbrev S1024x1920 : Shape := ⟨2, ![1024, 1920]⟩
abbrev S256x640 : Shape := ⟨2, ![256, 640]⟩
abbrev S384x768 : Shape := ⟨2, ![384, 768]⟩
abbrev S1x256 : Shape := ⟨2, ![1, 256]⟩
abbrev S1x128 : Shape := ⟨2, ![1, 128]⟩
abbrev S33792x1920 : Shape := ⟨2, ![33792, 1920]⟩
abbrev S33792x256 : Shape := ⟨2, ![33792, 256]⟩
abbrev S33792x128 : Shape := ⟨2, ![33792, 128]⟩
abbrev S33792x384 : Shape := ⟨2, ![33792, 384]⟩
abbrev S33792x32 : Shape := ⟨2, ![33792, 32]⟩
abbrev S33792x96 : Shape := ⟨2, ![33792, 96]⟩
abbrev S2048x768 : Shape := ⟨2, ![2048, 768]⟩
abbrev S1x2048x1x768 : Shape := ⟨4, ![1, 2048, 1, 768]⟩
abbrev S16x2048x1x768 : Shape := ⟨4, ![16, 2048, 1, 768]⟩
abbrev S32768x768 : Shape := ⟨2, ![32768, 768]⟩
abbrev S512x768 : Shape := ⟨2, ![512, 768]⟩
abbrev S1x512x1x768 : Shape := ⟨4, ![1, 512, 1, 768]⟩
abbrev S2x512x1x768 : Shape := ⟨4, ![2, 512, 1, 768]⟩
abbrev S1024x768 : Shape := ⟨2, ![1024, 768]⟩
abbrev S33792x768 : Shape := ⟨2, ![33792, 768]⟩
abbrev S_ : Shape := ⟨0, ![]⟩
abbrev S33792 : Shape := ⟨1, ![33792]⟩
abbrev S33792x1 : Shape := ⟨2, ![33792, 1]⟩
abbrev S33792x16 : Shape := ⟨2, ![33792, 16]⟩
abbrev S33792x8 : Shape := ⟨2, ![33792, 8]⟩
abbrev S33792x1x8 : Shape := ⟨3, ![33792, 1, 8]⟩
abbrev S33792x6x64 : Shape := ⟨3, ![33792, 6, 64]⟩
abbrev S33792x6x16 : Shape := ⟨3, ![33792, 6, 16]⟩
abbrev S33792x6x8 : Shape := ⟨3, ![33792, 6, 8]⟩
abbrev S33792x6x48 : Shape := ⟨3, ![33792, 6, 48]⟩
abbrev S33792x2x64 : Shape := ⟨3, ![33792, 2, 64]⟩
abbrev S33792x2x16 : Shape := ⟨3, ![33792, 2, 16]⟩
abbrev S33792x2x8 : Shape := ⟨3, ![33792, 2, 8]⟩
abbrev S33792x2x48 : Shape := ⟨3, ![33792, 2, 48]⟩
abbrev S33792x160 : Shape := ⟨2, ![33792, 160]⟩

abbrev nBuf : Space → Nat
  | .hbm => 103
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2560x768, .f32⟩
  | .hbm, ⟨2, _⟩ => ⟨S1024x1920, .bf16⟩
  | .hbm, ⟨3, _⟩ => ⟨S256x640, .bf16⟩
  | .hbm, ⟨4, _⟩ => ⟨S384x768, .bf16⟩
  | .hbm, ⟨5, _⟩ => ⟨S1x256, .f32⟩
  | .hbm, ⟨6, _⟩ => ⟨S1x128, .f32⟩
  | .hbm, ⟨7, _⟩ => ⟨S1024x1920, .f32⟩
  | .hbm, ⟨8, _⟩ => ⟨S33792x1920, .f32⟩
  | .hbm, ⟨9, _⟩ => ⟨S33792x256, .f32⟩
  | .hbm, ⟨10, _⟩ => ⟨S33792x256, .f32⟩
  | .hbm, ⟨11, _⟩ => ⟨S33792x256, .f32⟩
  | .hbm, ⟨12, _⟩ => ⟨S33792x256, .f32⟩
  | .hbm, ⟨13, _⟩ => ⟨S33792x128, .f32⟩
  | .hbm, ⟨14, _⟩ => ⟨S33792x384, .f32⟩
  | .hbm, ⟨15, _⟩ => ⟨S33792x128, .f32⟩
  | .hbm, ⟨16, _⟩ => ⟨S33792x128, .f32⟩
  | .hbm, ⟨17, _⟩ => ⟨S33792x32, .f32⟩
  | .hbm, ⟨18, _⟩ => ⟨S33792x96, .f32⟩
  | .hbm, ⟨19, _⟩ => ⟨S2048x768, .f32⟩
  | .hbm, ⟨20, _⟩ => ⟨S1x2048x1x768, .f32⟩
  | .hbm, ⟨21, _⟩ => ⟨S16x2048x1x768, .f32⟩
  | .hbm, ⟨22, _⟩ => ⟨S32768x768, .f32⟩
  | .hbm, ⟨23, _⟩ => ⟨S512x768, .f32⟩
  | .hbm, ⟨24, _⟩ => ⟨S1x512x1x768, .f32⟩
  | .hbm, ⟨25, _⟩ => ⟨S2x512x1x768, .f32⟩
  | .hbm, ⟨26, _⟩ => ⟨S1024x768, .f32⟩
  | .hbm, ⟨27, _⟩ => ⟨S33792x768, .f32⟩
  | .hbm, ⟨28, _⟩ => ⟨S33792x128, .f32⟩
  | .hbm, ⟨29, _⟩ => ⟨S_, .f32⟩
  | .hbm, ⟨30, _⟩ => ⟨S33792, .f32⟩
  | .hbm, ⟨31, _⟩ => ⟨S33792x1, .f32⟩
  | .hbm, ⟨32, _⟩ => ⟨S_, .f32⟩
  | .hbm, ⟨33, _⟩ => ⟨S33792x1, .f32⟩
  | .hbm, ⟨34, _⟩ => ⟨S33792x1, .f32⟩
  | .hbm, ⟨35, _⟩ => ⟨S_, .f32⟩
  | .hbm, ⟨36, _⟩ => ⟨S33792x1, .f32⟩
  | .hbm, ⟨37, _⟩ => ⟨S33792x1, .f32⟩
  | .hbm, ⟨38, _⟩ => ⟨S33792x1, .f32⟩
  | .hbm, ⟨39, _⟩ => ⟨S33792x128, .f32⟩
  | .hbm, ⟨40, _⟩ => ⟨S33792x128, .f32⟩
  | .hbm, ⟨41, _⟩ => ⟨S33792x128, .f32⟩
  | .hbm, ⟨42, _⟩ => ⟨S33792x128, .f32⟩
  | .hbm, ⟨43, _⟩ => ⟨S33792x16, .f32⟩
  | .hbm, ⟨44, _⟩ => ⟨S33792x16, .f32⟩
  | .hbm, ⟨45, _⟩ => ⟨S33792x16, .f32⟩
  | .hbm, ⟨46, _⟩ => ⟨S33792x16, .f32⟩
  | .hbm, ⟨47, _⟩ => ⟨S33792x16, .f32⟩
  | .hbm, ⟨48, _⟩ => ⟨S33792x16, .f32⟩
  | .hbm, ⟨49, _⟩ => ⟨S33792x16, .f32⟩
  | .hbm, ⟨50, _⟩ => ⟨S33792x16, .f32⟩
  | .hbm, ⟨51, _⟩ => ⟨S33792x16, .f32⟩
  | .hbm, ⟨52, _⟩ => ⟨S33792x16, .f32⟩
  | .hbm, ⟨53, _⟩ => ⟨S33792x32, .f32⟩
  | .hbm, ⟨54, _⟩ => ⟨S33792x8, .f32⟩
  | .hbm, ⟨55, _⟩ => ⟨S33792x1x8, .f32⟩
  | .hbm, ⟨56, _⟩ => ⟨S33792x8, .f32⟩
  | .hbm, ⟨57, _⟩ => ⟨S33792x1x8, .f32⟩
  | .hbm, ⟨58, _⟩ => ⟨S33792x6x64, .f32⟩
  | .hbm, ⟨59, _⟩ => ⟨S33792x6x16, .f32⟩
  | .hbm, ⟨60, _⟩ => ⟨S33792x6x8, .f32⟩
  | .hbm, ⟨61, _⟩ => ⟨S33792x6x8, .f32⟩
  | .hbm, ⟨62, _⟩ => ⟨S33792x6x8, .f32⟩
  | .hbm, ⟨63, _⟩ => ⟨S33792x6x8, .f32⟩
  | .hbm, ⟨64, _⟩ => ⟨S33792x6x8, .f32⟩
  | .hbm, ⟨65, _⟩ => ⟨S33792x6x8, .f32⟩
  | .hbm, ⟨66, _⟩ => ⟨S33792x6x8, .f32⟩
  | .hbm, ⟨67, _⟩ => ⟨S33792x6x8, .f32⟩
  | .hbm, ⟨68, _⟩ => ⟨S33792x6x8, .f32⟩
  | .hbm, ⟨69, _⟩ => ⟨S33792x6x8, .f32⟩
  | .hbm, ⟨70, _⟩ => ⟨S33792x6x8, .f32⟩
  | .hbm, ⟨71, _⟩ => ⟨S33792x6x8, .f32⟩
  | .hbm, ⟨72, _⟩ => ⟨S33792x6x16, .f32⟩
  | .hbm, ⟨73, _⟩ => ⟨S33792x6x48, .f32⟩
  | .hbm, ⟨74, _⟩ => ⟨S33792x6x64, .f32⟩
  | .hbm, ⟨75, _⟩ => ⟨S_, .f32⟩
  | .hbm, ⟨76, _⟩ => ⟨S33792x6x64, .f32⟩
  | .hbm, ⟨77, _⟩ => ⟨S33792x6x64, .f32⟩
  | .hbm, ⟨78, _⟩ => ⟨S33792x2x64, .f32⟩
  | .hbm, ⟨79, _⟩ => ⟨S33792x2x16, .f32⟩
  | .hbm, ⟨80, _⟩ => ⟨S33792x2x8, .f32⟩
  | .hbm, ⟨81, _⟩ => ⟨S33792x2x8, .f32⟩
  | .hbm, ⟨82, _⟩ => ⟨S33792x2x8, .f32⟩
  | .hbm, ⟨83, _⟩ => ⟨S33792x2x8, .f32⟩
  | .hbm, ⟨84, _⟩ => ⟨S33792x2x8, .f32⟩
  | .hbm, ⟨85, _⟩ => ⟨S33792x2x8, .f32⟩
  | .hbm, ⟨86, _⟩ => ⟨S33792x2x8, .f32⟩
  | .hbm, ⟨87, _⟩ => ⟨S33792x2x8, .f32⟩
  | .hbm, ⟨88, _⟩ => ⟨S33792x2x8, .f32⟩
  | .hbm, ⟨89, _⟩ => ⟨S33792x2x8, .f32⟩
  | .hbm, ⟨90, _⟩ => ⟨S33792x2x8, .f32⟩
  | .hbm, ⟨91, _⟩ => ⟨S33792x2x8, .f32⟩
  | .hbm, ⟨92, _⟩ => ⟨S33792x2x16, .f32⟩
  | .hbm, ⟨93, _⟩ => ⟨S33792x2x48, .f32⟩
  | .hbm, ⟨94, _⟩ => ⟨S33792x2x64, .f32⟩
  | .hbm, ⟨95, _⟩ => ⟨S33792x128, .f32⟩
  | .hbm, ⟨96, _⟩ => ⟨S33792x256, .f32⟩
  | .hbm, ⟨97, _⟩ => ⟨S33792x384, .f32⟩
  | .hbm, ⟨98, _⟩ => ⟨S33792x384, .bf16⟩
  | .hbm, ⟨99, _⟩ => ⟨S33792x160, .f32⟩
  | .hbm, ⟨100, _⟩ => ⟨S33792x160, .bf16⟩
  | .hbm, ⟨101, _⟩ => ⟨S33792x256, .f32⟩
  | .hbm, ⟨102, _⟩ => ⟨S33792x256, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_2 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩

abbrev nD : Nat := 1
abbrev τ : Topo := Topo.v7x

variable {F : FTy → Type} [FloatOps F]
-- ==== Kernel4.lean ====
abbrev S33792x1024 : Shape := ⟨2, ![33792, 1024]⟩
abbrev S2560x768 : Shape := ⟨2, ![2560, 768]⟩
abbrev S1024x1920 : Shape := ⟨2, ![1024, 1920]⟩
abbrev S256x640 : Shape := ⟨2, ![256, 640]⟩
abbrev S384x768 : Shape := ⟨2, ![384, 768]⟩
abbrev S1x256 : Shape := ⟨2, ![1, 256]⟩
abbrev S1x128 : Shape := ⟨2, ![1, 128]⟩
abbrev S33792x256 : Shape := ⟨2, ![33792, 256]⟩
abbrev S6x33792x160 : Shape := ⟨3, ![6, 33792, 160]⟩
abbrev S33792x160 : Shape := ⟨2, ![33792, 160]⟩
abbrev S33792x128 : Shape := ⟨2, ![33792, 128]⟩
abbrev S33792x32 : Shape := ⟨2, ![33792, 32]⟩
abbrev S33792x384 : Shape := ⟨2, ![33792, 384]⟩
abbrev S512x1024 : Shape := ⟨2, ![512, 1024]⟩
abbrev S512x768 : Shape := ⟨2, ![512, 768]⟩
abbrev S512x256 : Shape := ⟨2, ![512, 256]⟩
abbrev S6x512x160 : Shape := ⟨3, ![6, 512, 160]⟩
abbrev S512x160 : Shape := ⟨2, ![512, 160]⟩
abbrev S512x128 : Shape := ⟨2, ![512, 128]⟩
abbrev S512x32 : Shape := ⟨2, ![512, 32]⟩
abbrev S512x384 : Shape := ⟨2, ![512, 384]⟩
abbrev S512x1920 : Shape := ⟨2, ![512, 1920]⟩
abbrev S512 : Shape := ⟨1, ![512]⟩
abbrev S512x1 : Shape := ⟨2, ![512, 1]⟩
abbrev S512x640 : Shape := ⟨2, ![512, 640]⟩
abbrev S1x512x128 : Shape := ⟨3, ![1, 512, 128]⟩
abbrev S1x512x32 : Shape := ⟨3, ![1, 512, 32]⟩

abbrev nBuf : Space → Nat
  | .hbm => 17
  | .vmem => 29
  | .smem => 0
  | _ => 0

abbrev bufTy : (tb : Table) → Fin (tcTables nBuf tb) → BufTy
  | .hbm, ⟨0, _⟩ => ⟨S33792x1024, .f32⟩
  | .hbm, ⟨1, _⟩ => ⟨S2560x768, .f32⟩
  | .hbm, ⟨2, _⟩ => ⟨S1024x1920, .bf16⟩
  | .hbm, ⟨3, _⟩ => ⟨S256x640, .bf16⟩
  | .hbm, ⟨4, _⟩ => ⟨S384x768, .bf16⟩
  | .hbm, ⟨5, _⟩ => ⟨S1x256, .f32⟩
  | .hbm, ⟨6, _⟩ => ⟨S1x128, .f32⟩
  | .hbm, ⟨7, _⟩ => ⟨S33792x256, .f32⟩
  | .hbm, ⟨8, _⟩ => ⟨S33792x256, .f32⟩
  | .hbm, ⟨9, _⟩ => ⟨S6x33792x160, .bf16⟩
  | .hbm, ⟨10, _⟩ => ⟨S33792x160, .bf16⟩
  | .hbm, ⟨11, _⟩ => ⟨S33792x128, .f32⟩
  | .hbm, ⟨12, _⟩ => ⟨S33792x32, .f32⟩
  | .hbm, ⟨13, _⟩ => ⟨S33792x384, .bf16⟩
  | .hbm, ⟨14, _⟩ => ⟨S33792x128, .f32⟩
  | .hbm, ⟨15, _⟩ => ⟨S33792x128, .f32⟩
  | .hbm, ⟨16, _⟩ => ⟨S33792x256, .bf16⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S1024x1920, .bf16⟩
  | .local _ .vmem, ⟨5, _⟩ => ⟨S256x640, .bf16⟩
  | .local _ .vmem, ⟨6, _⟩ => ⟨S384x768, .bf16⟩
  | .local _ .vmem, ⟨7, _⟩ => ⟨S1x256, .f32⟩
  | .local _ .vmem, ⟨8, _⟩ => ⟨S1x128, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S6x512x160, .bf16⟩
  | .local _ .vmem, ⟨14, _⟩ => ⟨S6x512x160, .bf16⟩
  | .local _ .vmem, ⟨15, _⟩ => ⟨S512x160, .bf16⟩
  | .local _ .vmem, ⟨16, _⟩ => ⟨S512x160, .bf16⟩
  | .local _ .vmem, ⟨17, _⟩ => ⟨S512x128, .f32⟩
  | .local _ .vmem, ⟨18, _⟩ => ⟨S512x128, .f32⟩
  | .local _ .vmem, ⟨19, _⟩ => ⟨S512x32, .f32⟩
  | .local _ .vmem, ⟨20, _⟩ => ⟨S512x32, .f32⟩
  | .local _ .vmem, ⟨21, _⟩ => ⟨S512x384, .bf16⟩
  | .local _ .vmem, ⟨22, _⟩ => ⟨S512x384, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x256, .bf16⟩
  | .local _ .vmem, ⟨28, _⟩ => ⟨S512x256, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev main_v0_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 1 := Scalar.cmpi .slt arg0 c64_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x512x160 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x160 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S33792x1024 : Shape := ⟨2, ![33792, 1024]⟩
abbrev S2560x768 : Shape := ⟨2, ![2560, 768]⟩
abbrev S1024x1920 : Shape := ⟨2, ![1024, 1920]⟩
abbrev S256x640 : Shape := ⟨2, ![256, 640]⟩
abbrev S384x768 : Shape := ⟨2, ![384, 768]⟩
abbrev S1x256 : Shape := ⟨2, ![1, 256]⟩
abbrev S1x128 : Shape := ⟨2, ![1, 128]⟩
abbrev S33792x1920 : Shape := ⟨2, ![33792, 1920]⟩
abbrev S33792x256 : Shape := ⟨2, ![33792, 256]⟩
abbrev S2048x768 : Shape := ⟨2, ![2048, 768]⟩
abbrev S1x2048x1x768 : Shape := ⟨4, ![1, 2048, 1, 768]⟩
abbrev S16x2048x1x768 : Shape := ⟨4, ![16, 2048, 1, 768]⟩
abbrev S32768x768 : Shape := ⟨2, ![32768, 768]⟩
abbrev S512x768 : Shape := ⟨2, ![512, 768]⟩
abbrev S1x512x1x768 : Shape := ⟨4, ![1, 512, 1, 768]⟩
abbrev S2x512x1x768 : Shape := ⟨4, ![2, 512, 1, 768]⟩
abbrev S1024x768 : Shape := ⟨2, ![1024, 768]⟩
abbrev S33792x768 : Shape := ⟨2, ![33792, 768]⟩
abbrev S_ : Shape := ⟨0, ![]⟩
abbrev S33792 : Shape := ⟨1, ![33792]⟩
abbrev S33792x1 : Shape := ⟨2, ![33792, 1]⟩
abbrev S33792x640 : Shape := ⟨2, ![33792, 640]⟩
abbrev S64x128 : Shape := ⟨2, ![64, 128]⟩
abbrev S1x64x128 : Shape := ⟨3, ![1, 64, 128]⟩
abbrev S6x64x128 : Shape := ⟨3, ![6, 64, 128]⟩
abbrev S33792x384 : Shape := ⟨2, ![33792, 384]⟩
abbrev S33792x6x64 : Shape := ⟨3, ![33792, 6, 64]⟩
abbrev S6x33792x128 : Shape := ⟨3, ![6, 33792, 128]⟩
abbrev S33792x192 : Shape := ⟨2, ![33792, 192]⟩
abbrev S33792x6x32 : Shape := ⟨3, ![33792, 6, 32]⟩
abbrev S33792x16 : Shape := ⟨2, ![33792, 16]⟩
abbrev S33792x1x16 : Shape := ⟨3, ![33792, 1, 16]⟩
abbrev S33792x6x16 : Shape := ⟨3, ![33792, 6, 16]⟩
abbrev S6x33792x32 : Shape := ⟨3, ![6, 33792, 32]⟩
abbrev S6x33792x160 : Shape := ⟨3, ![6, 33792, 160]⟩

abbrev nBuf : Space → Nat
  | .hbm => 78
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2560x768, .f32⟩
  | .hbm, ⟨2, _⟩ => ⟨S1024x1920, .bf16⟩
  | .hbm, ⟨3, _⟩ => ⟨S256x640, .bf16⟩
  | .hbm, ⟨4, _⟩ => ⟨S384x768, .bf16⟩
  | .hbm, ⟨5, _⟩ => ⟨S1x256, .f32⟩
  | .hbm, ⟨6, _⟩ => ⟨S1x128, .f32⟩
  | .hbm, ⟨7, _⟩ => ⟨S1024x1920, .f32⟩
  | .hbm, ⟨8, _⟩ => ⟨S33792x1920, .f32⟩
  | .hbm, ⟨9, _⟩ => ⟨S33792x256, .f32⟩
  | .hbm, ⟨10, _⟩ => ⟨S2048x768, .f32⟩
  | .hbm, ⟨11, _⟩ => ⟨S1x2048x1x768, .f32⟩
  | .hbm, ⟨12, _⟩ => ⟨S16x2048x1x768, .f32⟩
  | .hbm, ⟨13, _⟩ => ⟨S32768x768, .f32⟩
  | .hbm, ⟨14, _⟩ => ⟨S512x768, .f32⟩
  | .hbm, ⟨15, _⟩ => ⟨S1x512x1x768, .f32⟩
  | .hbm, ⟨16, _⟩ => ⟨S2x512x1x768, .f32⟩
  | .hbm, ⟨17, _⟩ => ⟨S1024x768, .f32⟩
  | .hbm, ⟨18, _⟩ => ⟨S33792x768, .f32⟩
  | .hbm, ⟨19, _⟩ => ⟨S33792x256, .f32⟩
  | .hbm, ⟨20, _⟩ => ⟨S_, .f32⟩
  | .hbm, ⟨21, _⟩ => ⟨S33792, .f32⟩
  | .hbm, ⟨22, _⟩ => ⟨S33792x1, .f32⟩
  | .hbm, ⟨23, _⟩ => ⟨S_, .f32⟩
  | .hbm, ⟨24, _⟩ => ⟨S33792x1, .f32⟩
  | .hbm, ⟨25, _⟩ => ⟨S33792x1, .f32⟩
  | .hbm, ⟨26, _⟩ => ⟨S_, .f32⟩
  | .hbm, ⟨27, _⟩ => ⟨S33792x1, .f32⟩
  | .hbm, ⟨28, _⟩ => ⟨S33792x1, .f32⟩
  | .hbm, ⟨29, _⟩ => ⟨S33792x1, .f32⟩
  | .hbm, ⟨30, _⟩ => ⟨S33792x256, .f32⟩
  | .hbm, ⟨31, _⟩ => ⟨S33792x256, .f32⟩
  | .hbm, ⟨32, _⟩ => ⟨S33792x256, .f32⟩
  | .hbm, ⟨33, _⟩ => ⟨S33792x256, .f32⟩
  | .hbm, ⟨34, _⟩ => ⟨S256x640, .f32⟩
  | .hbm, ⟨35, _⟩ => ⟨S33792x640, .f32⟩
  | .hbm, ⟨36, _⟩ => ⟨S64x128, .bf16⟩
  | .hbm, ⟨37, _⟩ => ⟨S64x128, .bf16⟩
  | .hbm, ⟨38, _⟩ => ⟨S64x128, .bf16⟩
  | .hbm, ⟨39, _⟩ => ⟨S64x128, .bf16⟩
  | .hbm, ⟨40, _⟩ => ⟨S64x128, .bf16⟩
  | .hbm, ⟨41, _⟩ => ⟨S64x128, .bf16⟩
  | .hbm, ⟨42, _⟩ => ⟨S1x64x128, .bf16⟩
  | .hbm, ⟨43, _⟩ => ⟨S1x64x128, .bf16⟩
  | .hbm, ⟨44, _⟩ => ⟨S1x64x128, .bf16⟩
  | .hbm, ⟨45, _⟩ => ⟨S1x64x128, .bf16⟩
  | .hbm, ⟨46, _⟩ => ⟨S1x64x128, .bf16⟩
  | .hbm, ⟨47, _⟩ => ⟨S1x64x128, .bf16⟩
  | .hbm, ⟨48, _⟩ => ⟨S6x64x128, .bf16⟩
  | .hbm, ⟨49, _⟩ => ⟨S6x64x128, .f32⟩
  | .hbm, ⟨50, _⟩ => ⟨S33792x384, .f32⟩
  | .hbm, ⟨51, _⟩ => ⟨S33792x6x64, .f32⟩
  | .hbm, ⟨52, _⟩ => ⟨S6x33792x128, .f32⟩
  | .hbm, ⟨53, _⟩ => ⟨S33792x192, .f32⟩
  | .hbm, ⟨54, _⟩ => ⟨S33792x6x32, .f32⟩
  | .hbm, ⟨55, _⟩ => ⟨S33792x16, .f32⟩
  | .hbm, ⟨56, _⟩ => ⟨S33792x1x16, .f32⟩
  | .hbm, ⟨57, _⟩ => ⟨S33792x16, .f32⟩
  | .hbm, ⟨58, _⟩ => ⟨S33792x1x16, .f32⟩
  | .hbm, ⟨59, _⟩ => ⟨S33792x6x16, .f32⟩
  | .hbm, ⟨60, _⟩ => ⟨S33792x6x16, .f32⟩
  | .hbm, ⟨61, _⟩ => ⟨S33792x6x16, .f32⟩
  | .hbm, ⟨62, _⟩ => ⟨S33792x6x16, .f32⟩
  | .hbm, ⟨63, _⟩ => ⟨S33792x6x16, .f32⟩
  | .hbm, ⟨64, _⟩ => ⟨S33792x6x16, .f32⟩
  | .hbm, ⟨65, _⟩ => ⟨S33792x6x16, .f32⟩
  | .hbm, ⟨66, _⟩ => ⟨S33792x6x16, .f32⟩
  | .hbm, ⟨67, _⟩ => ⟨S33792x6x16, .f32⟩
  | .hbm, ⟨68, _⟩ => ⟨S33792x6x16, .f32⟩
  | .hbm, ⟨69, _⟩ => ⟨S33792x6x16, .f32⟩
  | .hbm, ⟨70, _⟩ => ⟨S33792x6x16, .f32⟩
  | .hbm, ⟨71, _⟩ => ⟨S33792x6x32, .f32⟩
  | .hbm, ⟨72, _⟩ => ⟨S6x33792x32, .f32⟩
  | .hbm, ⟨73, _⟩ => ⟨S6x33792x160, .f32⟩
  | .hbm, ⟨74, _⟩ => ⟨S_, .f32⟩
  | .hbm, ⟨75, _⟩ => ⟨S6x33792x160, .f32⟩
  | .hbm, ⟨76, _⟩ => ⟨S6x33792x160, .f32⟩
  | .hbm, ⟨77, _⟩ => ⟨S6x33792x160, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_2 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== Proof.Online.lean ====
/-
  The arithmetic of the softmax-weighted sum, on one row of scores: no program is named here.

  A row has real scores `S p` and real value rows `V p`, `p` the key's position. `Inv S V T m l a` says that the running
  maximum `m`, the running denominator `l` and the running numerators `a` are those of the keys in `T`, relative to some
  real shift. A tile of 256 keys moves `T` to `T` and the tile (`Inv.step`), the diagonal tile under the causal mask
  starts it (`Inv.diag`), and the quotient at the end is `W`, whatever the shift was (`Inv.quot`). The same number is
  what the softmax over the whole masked row gives (`softmax_row`).
-/
module

public import Mathlib.Data.EReal.Operations
public import Idealize.ShloMosaic.PureOps.Ideal

@[expose] public section

set_option maxRecDepth 16384

noncomputable section

open Idealize.ShloMosaic

namespace Cert.Attn

/-- A finite sum of reals is the same sum among the extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The greatest of finitely many elements below `⊤`, one of them above `⊥`, is a real. -/
theorem fold_max_real {n : ℕ} (b : EReal) (f : Fin n → EReal) (hb : b < ⊤) (hf : ∀ k, f k < ⊤)
    (k : Fin n) (hk : ⊥ < f k) : ∃ M : ℝ, (Finset.univ.fold max b f : EReal) = M := by
  have h1 : Finset.univ.fold max b f < ⊤ := (Finset.fold_max_lt _).2 ⟨hb, fun x _ => hf x⟩
  have h2 : ⊥ < Finset.univ.fold max b f := (Finset.lt_fold_max _).2 (.inr ⟨k, Finset.mem_univ _, hk⟩)
  exact ⟨_, (EReal.coe_toReal h1.ne h2.ne').symm⟩

/-- The keys in `T` folded into `m` (maximum), `l` (denominator) and `a` (numerators), relative to a real shift. -/
def Inv (S : ℕ → ℝ) (V : ℕ → Fin 128 → ℝ) (T : Finset ℕ) (m l : EReal) (a : Fin 128 → EReal) : Prop :=
  ∃ M : ℝ, m = M ∧ l = ((∑ p ∈ T, Real.exp (S p - M) : ℝ) : EReal)
    ∧ ∀ r, a r = ((∑ p ∈ T, Real.exp (S p - M) * V p r : ℝ) : EReal)

/-- The softmax-weighted sum of the value rows of the keys at positions up to `n`. -/
def W (S : ℕ → ℝ) (V : ℕ → Fin 128 → ℝ) (n : ℕ) (r : Fin 128) : ℝ :=
  (∑ p ∈ Finset.range (n + 1), Real.exp (S p) * V p r) / ∑ p ∈ Finset.range (n + 1), Real.exp (S p)

theorem exp_shift (S : ℕ → ℝ) (f : ℕ → ℝ) (T : Finset ℕ) (M M' : ℝ) :
    (∑ p ∈ T, Real.exp (S p - M) * f p) * Real.exp (M - M') = ∑ p ∈ T, Real.exp (S p - M') * f p := by
  rw [Finset.sum_mul]
  refine Finset.sum_congr rfl fun p _ => ?_
  rw [mul_right_comm, ← Real.exp_add]
  congr 2; ring

theorem exp_shift' (S : ℕ → ℝ) (T : Finset ℕ) (M M' : ℝ) :
    (∑ p ∈ T, Real.exp (S p - M)) * Real.exp (M - M') = ∑ p ∈ T, Real.exp (S p - M') := by
  simpa using exp_shift S (fun _ => 1) T M M'

/-- A sum over a tile's 256 keys is the sum over their positions. -/
theorem sum_tile (f : ℕ → ℝ) (b : ℕ) : ∑ k : Fin 256, f (b + k.val) = ∑ p ∈ Finset.Ico b (b + 256), f p := by
  rw [Finset.sum_Ico_eq_sum_range, Nat.add_sub_cancel_left, Fin.sum_univ_eq_sum_range (fun k => f (b + k)) 256]

/-- A sum over the first `n` indices under the mask `k ≤ q` is the sum over the positions up to `q`. -/
theorem sum_masked (N : ℕ) (f : ℕ → ℝ) (b q : ℕ) (hq : q < N) :
    ∑ k : Fin N, (if k.val ≤ q then f (b + k.val) else 0) = ∑ p ∈ Finset.Ico b (b + q + 1), f p := by
  rw [Fin.sum_univ_eq_sum_range (fun k => if k ≤ q then f (b + k) else 0) N, Finset.sum_Ico_eq_sum_range,
    show b + q + 1 - b = q + 1 by omega, ← Finset.sum_filter]
  refine Finset.sum_congr ?_ fun _ _ => rfl
  ext x; simp only [Finset.mem_filter, Finset.mem_range]; omega

/-- One tile of 256 keys, none seen before. -/
theorem Inv.step {S : ℕ → ℝ} {V : ℕ → Fin 128 → ℝ} {T : Finset ℕ} {m l : EReal} {a : Fin 128 → EReal}
    (h : Inv S V T m l a) (b : ℕ) (hT : Disjoint T (Finset.Ico b (b + 256)))
    (x : Fin 256 → EReal) (hx : ∀ k, x k = (S (b + k.val) : EReal))
    (v : Fin 256 → Fin 128 → EReal) (hv : ∀ k r, v k r = (V (b + k.val) r : EReal))
    {m' : EReal} (hm : ∃ M' : ℝ, m' = M') :
    Inv S V (T ∪ Finset.Ico b (b + 256)) m' (l * Ideal.exp (m - m') + ∑ k, Ideal.exp (x k - m'))
      (fun r => a r * Ideal.exp (m - m') + ∑ k, Ideal.exp (x k - m') * v k r) := by
  obtain ⟨M, rfl, rfl, ha⟩ := h
  obtain ⟨M', rfl⟩ := hm
  refine ⟨M', rfl, ?_, fun r => ?_⟩
  · simp only [hx, ← EReal.coe_sub, Ideal.exp_coe, sum_coe, ← EReal.coe_mul, ← EReal.coe_add]
    rw [Finset.sum_union hT, exp_shift', sum_tile (fun p => Real.exp (S p - M'))]
  · simp only [ha, hx, hv, ← EReal.coe_sub, Ideal.exp_coe, ← EReal.coe_mul, sum_coe, ← EReal.coe_add]
    rw [Finset.sum_union hT, exp_shift, sum_tile (fun p => Real.exp (S p - M') * V p r)]

/-- An exponential of a masked score less a real: zero where the mask hides the key. -/
theorem exp_masked (c : Prop) [Decidable c] (s M : ℝ) :
    Ideal.exp ((if c then (s : EReal) else ⊥) - (M : EReal)) = ((if c then Real.exp (s - M) else 0 : ℝ) : EReal) := by
  split
  · rw [← EReal.coe_sub, Ideal.exp_coe]
  · rw [EReal.bot_sub, Ideal.exp_bot, EReal.coe_zero]

/-- The diagonal tile, under the mask: the keys from the tile's first to the query's own position. -/
theorem Inv.diag {S : ℕ → ℝ} {V : ℕ → Fin 128 → ℝ} (b q : ℕ) (hq : q < 256)
    (x : Fin 256 → EReal) (hx : ∀ k, x k = if k.val ≤ q then (S (b + k.val) : EReal) else ⊥)
    (v : Fin 256 → Fin 128 → EReal) (hv : ∀ k r, v k r = (V (b + k.val) r : EReal))
    {m' : EReal} (hm : ∃ M' : ℝ, m' = M') :
    Inv S V (Finset.Ico b (b + q + 1)) m' (∑ k, Ideal.exp (x k - m')) (fun r => ∑ k, Ideal.exp (x k - m') * v k r) := by
  obtain ⟨M', rfl⟩ := hm
  refine ⟨M', rfl, ?_, fun r => ?_⟩
  · simp only [hx, exp_masked, sum_coe]
    rw [sum_masked 256 (fun p => Real.exp (S p - M')) b q hq]
  · simp only [hx, hv, exp_masked, ← EReal.coe_mul, sum_coe, ite_mul, zero_mul]
    rw [sum_masked 256 (fun p => Real.exp (S p - M') * V p r) b q hq]

theorem sum_exp_pos (S : ℕ → ℝ) (n : ℕ) : 0 < ∑ p ∈ Finset.range (n + 1), Real.exp (S p) :=
  Finset.sum_pos (fun _ _ => Real.exp_pos _) ⟨0, by simp⟩

theorem W_shift (S : ℕ → ℝ) (V : ℕ → Fin 128 → ℝ) (n : ℕ) (r : Fin 128) (M : ℝ) :
    (∑ p ∈ Finset.range (n + 1), Real.exp (S p - M) * V p r) / (∑ p ∈ Finset.range (n + 1), Real.exp (S p - M)) = W S V n r := by
  have h0 : ∀ f : ℕ → ℝ, (∑ p ∈ Finset.range (n + 1), Real.exp (S p - M) * f p) * Real.exp M = ∑ p ∈ Finset.range (n + 1), Real.exp (S p) * f p := by
    intro f
    have := exp_shift S f (Finset.range (n + 1)) M 0
    simpa using this
  have h1 := h0 fun _ => 1
  simp only [mul_one] at h1
  unfold W
  rw [← h0 (fun p => V p r), ← h1, mul_div_mul_right _ _ (Real.exp_pos M).ne']

theorem div_real (x y : ℝ) (hy : y ≠ 0) : Ideal.div (x : EReal) (y : EReal) = ((x / y : ℝ) : EReal) := by
  rw [Ideal.div_coe hy, ← EReal.coe_mul, mul_one_div]

/-- All keys up to position `n` folded in: the quotient is the softmax-weighted sum. -/
theorem Inv.quot {S : ℕ → ℝ} {V : ℕ → Fin 128 → ℝ} {n : ℕ} {m l : EReal} {a : Fin 128 → EReal}
    (h : Inv S V (Finset.range (n + 1)) m l a) (r : Fin 128) : Ideal.div (a r) l = (W S V n r : EReal) := by
  obtain ⟨M, -, rfl, ha⟩ := h
  rw [ha, div_real _ _ (sum_exp_pos (fun p => S p - M) n).ne', W_shift]

/-- The softmax over the whole masked row, weighted by the value rows. -/
theorem softmax_row {S : ℕ → ℝ} {V : ℕ → Fin 128 → ℝ} (N n : ℕ) (hn : n < N) (r : Fin 128)
    (x : Fin N → EReal) (hx : ∀ k, x k = if k.val ≤ n then (S k.val : EReal) else ⊥)
    (v : Fin N → EReal) (hv : ∀ k, v k = (V k.val r : EReal)) {m' : EReal} (hm : ∃ M : ℝ, m' = M) :
    ∑ k, v k * Ideal.div (Ideal.exp (x k - m')) (0 + ∑ k', Ideal.exp (x k' - m')) = (W S V n r : EReal) := by
  obtain ⟨M, rfl⟩ := hm
  have hs : ∀ f : ℕ → ℝ, ∑ k : Fin N, (if k.val ≤ n then f k.val else 0) = ∑ p ∈ Finset.range (n + 1), f p := by
    intro f
    have := sum_masked N f 0 n hn
    simpa using this
  simp only [hx, hv, exp_masked, sum_coe, zero_add]
  rw [hs (fun p => Real.exp (S p - M))]
  simp only [div_real _ _ (sum_exp_pos (fun p => S p - M) n).ne', ← EReal.coe_mul, sum_coe]
  rw [← W_shift S V n r M, ← hs (fun p => Real.exp (S p - M) * V p r), Finset.sum_div]
  congr 1
  refine Finset.sum_congr rfl fun k _ => ?_
  split <;> ring

end Cert.Attn

end
-- ==== Proof.Tile.lean ====
/-
  The kernel body's vector operations read at an index, over the extended reals: the scores of a tile, the running
  maximum, the exponentials, the running denominator and numerators, and the mask of the diagonal tile.
-/
module

public import proofs.«01_k».proof.Proof.Online
public import proofs.«01_k».proof.Proof.Gen.KernelIdeal.Frame
public import Idealize.ShloMosaic.Lib.Pointwise

@[expose] public section

set_option maxRecDepth 16384

noncomputable section

open Idealize.ShloMosaic

namespace Cert.KernelIdeal.Tile

open Cert.KernelIdeal Cert.KernelIdeal.Gen Cert.Attn

theorem neg_inf : Ideal.ofBits FTy.f32 0xFF800000#32 = ⊥ := rfl

/-- The named constant standing for −∞. -/
theorem mask_bot : (Named.named (F := Ideal) κ "mask" 0xF149F2CA#32 : Ideal .f32) = ⊥ :=
  IdealRules.named_const.ideal_named_scalar _ _ _ _ rfl

/-- The body's spelling of a row's position in its tile: the row number modulo 256. -/
theorem row_mod : ∀ n : Fin 1536,
    Scalar.select
      (IntOp.andi
        (IntOp.xori
          (IntOp.cmpi CmpIPredicate.slt
            (IntOp.remsi ArithUnit.vector (BitVec.ofNat 32 n.val)
              (Scalar.select (Scalar.cmpi CmpIPredicate.eq 256#32 0#32) 1#32 256#32))
            0#32)
          (Scalar.cmpi CmpIPredicate.slt (Scalar.select (Scalar.cmpi CmpIPredicate.eq 256#32 0#32) 1#32 256#32) 0#32))
        (IntOp.cmpi CmpIPredicate.ne
          (IntOp.remsi ArithUnit.vector (BitVec.ofNat 32 n.val)
            (Scalar.select (Scalar.cmpi CmpIPredicate.eq 256#32 0#32) 1#32 256#32))
          0#32))
      (IntOp.addi
        (IntOp.remsi ArithUnit.vector (BitVec.ofNat 32 n.val)
          (Scalar.select (Scalar.cmpi CmpIPredicate.eq 256#32 0#32) 1#32 256#32))
        (Scalar.select (Scalar.cmpi CmpIPredicate.eq 256#32 0#32) 1#32 256#32))
      (IntOp.remsi ArithUnit.vector (BitVec.ofNat 32 n.val)
        (Scalar.select (Scalar.cmpi CmpIPredicate.eq 256#32 0#32) 1#32 256#32)) = BitVec.ofNat 32 (n.val % 256) := by
  decide +kernel

theorem sle_iff (k : Fin 256) (q : ℕ) (hq : q < 256) :
    IntOp.cmpi CmpIPredicate.sle (BitVec.ofNat 32 k.val) (BitVec.ofNat 32 q) = if k.val ≤ q then 1#1 else 0#1 :=
  (by decide +kernel : ∀ k q : Fin 256, IntOp.cmpi CmpIPredicate.sle (BitVec.ofNat 32 k.val) (BitVec.ofNat 32 q.val) =
    if k.val ≤ q.val then 1#1 else 0#1) k ⟨q, hq⟩

/-! ## A tile before the diagonal -/

theorem pay13_apply (v1 : FVec Ideal S1536x160 .bf16) (v94 : Vec Ideal S256x160 .bf16) (n : Fin 1536) (k : Fin 256) :
    k0_pay13 v1 v94 (ix2 n k) = ∑ d : Fin 160, v1 (ix2 n d) * v94 (ix2 k d) := by
  pointwise [k0_pay13]

theorem pay14_apply (v1 : FVec Ideal S1536x160 .bf16) (m : FVec Ideal S1536x1 .f32) (v94 : Vec Ideal S256x160 .bf16)
    (n : Fin 1536) :
    k0_pay14 v1 m v94 (ix2 n 0) = max (m (ix2 n 0)) (Finset.univ.fold max ⊥ fun k : Fin 256 => k0_pay13 v1 v94 (ix2 n k)) := by
  rw [← neg_inf]; pointwise [k0_pay14]

theorem pay15_apply (v1 : FVec Ideal S1536x160 .bf16) (m : FVec Ideal S1536x1 .f32) (v94 : Vec Ideal S256x160 .bf16)
    (n : Fin 1536) (k : Fin 256) :
    k0_pay15 v1 m v94 (ix2 n k) = Ideal.exp (k0_pay13 v1 v94 (ix2 n k) - k0_pay14 v1 m v94 (ix2 n 0)) := by
  pointwise [k0_pay15]

theorem pay16_apply (v1 : FVec Ideal S1536x160 .bf16) (m : FVec Ideal S1536x1 .f32) (v94 : Vec Ideal S256x160 .bf16)
    (n : Fin 1536) :
    k0_pay16 v1 m v94 (ix2 n 0) = Ideal.exp (m (ix2 n 0) - k0_pay14 v1 m v94 (ix2 n 0)) := by
  pointwise [k0_pay16]

theorem pay17_apply (v1 : FVec Ideal S1536x160 .bf16) (m l : FVec Ideal S1536x1 .f32) (v94 : Vec Ideal S256x160 .bf16)
    (n : Fin 1536) :
    k0_pay17 v1 m l v94 (ix2 n 0) = l (ix2 n 0) * k0_pay16 v1 m v94 (ix2 n 0) + ∑ k : Fin 256, k0_pay15 v1 m v94 (ix2 n k) := by
  pointwise [k0_pay17]

theorem pay18_apply (v1 : FVec Ideal S1536x160 .bf16) (m : FVec Ideal S1536x1 .f32) (a : FVec Ideal S1536x128 .f32)
    (v94 : Vec Ideal S256x160 .bf16) (n : Fin 1536) (r : Fin 128) :
    k0_pay18 v1 m a v94 (ix2 n r) = a (ix2 n r) * k0_pay16 v1 m v94 (ix2 n 0)
      + ∑ k : Fin 256, k0_pay15 v1 m v94 (ix2 n k) * v94 (ix2 k ⟨r.val, by omega⟩) := by
  pointwise [k0_pay18]

/-! ## The diagonal tile -/

theorem pay2_apply (v0 : Vec Ideal S6x256x160 .bf16) (n : Fin 1536) (d : Fin 160) :
    k0_pay2 v0 (ix2 n d) = v0 (ix3 ⟨n.val / 256, by omega⟩ ⟨n.val % 256, by omega⟩ d) := by
  pointwise [k0_pay2]

theorem pay4_apply (v0 : Vec Ideal S6x256x160 .bf16) (v5 : Vec Ideal S256x160 .bf16) (n : Fin 1536) (k : Fin 256) :
    k0_pay4 v0 v5 (ix2 n k) = if k.val ≤ n.val % 256 then
      ∑ d : Fin 160, v0 (ix3 ⟨n.val / 256, by omega⟩ ⟨n.val % 256, by omega⟩ d) * v5 (ix2 k d) else ⊥ := by
  pointwise [k0_pay4, k0_pay2]
  rw [row_mod, sle_iff k _ (Nat.mod_lt _ (by omega)), mask_bot]
  split <;> rfl

theorem pay7_apply (v0 : Vec Ideal S6x256x160 .bf16) (v5 : Vec Ideal S256x160 .bf16) (n : Fin 1536) :
    k0_pay7 v0 v5 (ix2 n 0) = Finset.univ.fold max ⊥ fun k : Fin 256 => k0_pay4 v0 v5 (ix2 n k) := by
  pointwise [k0_pay7, k0_pay5]
  rw [mask_bot, neg_inf]
  exact max_eq_right bot_le

theorem pay8_apply (v0 : Vec Ideal S6x256x160 .bf16) (v5 : Vec Ideal S256x160 .bf16) (n : Fin 1536) (k : Fin 256) :
    k0_pay8 v0 v5 (ix2 n k) = Ideal.exp (k0_pay4 v0 v5 (ix2 n k) - k0_pay7 v0 v5 (ix2 n 0)) := by
  pointwise [k0_pay8]

/-- The diagonal tile's denominators: what was there before is zero. -/
theorem pay11_apply (v0 : Vec Ideal S6x256x160 .bf16) (v5 : Vec Ideal S256x160 .bf16) (n : Fin 1536) :
    k0_pay11 (k0_pay8 v0 v5) (k0_pay10 v0 v5) (ix2 n 0) = ∑ k : Fin 256, k0_pay8 v0 v5 (ix2 n k) := by
  pointwise [k0_pay11, k0_pay10]
  try rw [zero_mul, zero_add]

theorem pay12_apply (v0 : Vec Ideal S6x256x160 .bf16) (v5 : Vec Ideal S256x160 .bf16) (n : Fin 1536) (r : Fin 128) :
    k0_pay12 (k0_pay3 v5) (k0_pay6 (F := Ideal)) (k0_pay8 v0 v5) (k0_pay9 v0 v5) (ix2 n r)
      = ∑ k : Fin 256, k0_pay8 v0 v5 (ix2 n k) * v5 (ix2 k ⟨r.val, by omega⟩) := by
  pointwise [k0_pay12, k0_pay6, k0_pay3]
  try rw [zero_mul, zero_add]

/-! ## The quotient and the projection -/

theorem pay25_apply (l : FVec Ideal S1536x1 .f32) (a : FVec Ideal S1536x128 .f32) (n : Fin 1536) (r : Fin 128) :
    k0_pay25 l a (ix2 n r) = Ideal.div (a (ix2 n r)) (l (ix2 n 0)) := by
  pointwise [k0_pay25]

end Cert.KernelIdeal.Tile

end
-- ==== Proof.Proj.lean ====
/-
  The block a grid point stores, read at an index: each head's quotient against the head's projection, the heads side by
  side.
-/
module

public import proofs.«01_k».proof.Proof.Tile

@[expose] public section

set_option maxRecDepth 16384

noncomputable section

open Idealize.ShloMosaic

namespace Cert.KernelIdeal.Tile

open Cert.KernelIdeal Cert.KernelIdeal.Gen Cert.Attn

/-- The stored block at row `q`, head `h`, column `v` of the head: the head's rows of the quotient against the head's
    projection. -/
theorem pay1_apply (l : FVec Ideal S1536x1 .f32) (a : FVec Ideal S1536x128 .f32) (w : Fin 6 → Vec Ideal S1x128x64 .bf16)
    (q : Fin 256) (h : Fin 6) (v : Fin 64) :
    k0_pay1 (k0_pay25 l a) (k0_pay26 l a (w 0)) (k0_pay27 l a (w 1)) (k0_pay28 l a (w 2)) (k0_pay29 l a (w 3))
        (k0_pay30 l a) (w 4) (w 5) (ix2 q ⟨64 * h.val + v.val, by omega⟩)
      = ∑ r : Fin 128, k0_pay25 l a (ix2 ⟨256 * h.val + q.val, by omega⟩ r) * w h (ix3 0 r v) := by
  pointwise [k0_pay1, k0_pay26, k0_pay27, k0_pay28, k0_pay29, k0_pay30]
  obtain ⟨h, hh⟩ := h
  interval_cases h
  all_goals simp only [Nat.reduceMul, Nat.sub_sub, Nat.reduceAdd, Nat.add_sub_cancel_left, Fin.eta, Nat.zero_add]
  all_goals split_ifs
  all_goals first | omega | rfl

end Cert.KernelIdeal.Tile

end
-- ==== Proof.Block.lean ====
/-
  What a grid point stores, as the recursion over its key tiles: the diagonal tile first, then the tiles before it.
-/
module

public import proofs.«01_k».proof.Proof.Proj
public import Idealize.ShloMosaic.Lib.Tactic

@[expose] public section

set_option maxRecDepth 16384

noncomputable section

open Idealize.ShloMosaic Idealize.ShloMosaic.TcCoe
open Idealize.SL Idealize.SL.RA Idealize.SL.Sem

namespace Cert.KernelIdeal.Block

open Cert.KernelIdeal Cert.KernelIdeal.Gen Cert.Attn Cert.KernelIdeal.Tile

theorem off1_eq : ∀ i : grid0.Coords, k0_off1 i = ![256 * (i 1).val, 0] := by decide +kernel
theorem trips1 : ∀ i : grid0.Coords, (k0_t1_loop i).trips = (i 1).val := by decide +kernel
theorem trips2 : ∀ i : grid0.Coords, (k0_t2_loop i).trips = 0 := by decide +kernel
theorem off2_eq : ∀ (i : grid0.Coords) (k : Fin (k0_t1_loop i).trips), k0_off2 i k = ![256 * k.val, 0] := by
  decide +kernel

/-- Key tile `j`: 256 rows of the keys from row `256 j`. -/
def tile (x1 : Vec Ideal S2048x160 .bf16) (j : ℕ) : Vec Ideal S256x160 .bf16 :=
  fun y => x1 (ix2 ⟨(256 * j + (y 0).val) % 2048, Nat.mod_lt _ (by norm_num)⟩ (y 1))

/-- Head `h`'s projection, as a slice of one head. -/
def head (x2 : Vec Ideal S6x128x64 .bf16) (h : Fin 6) : Vec Ideal S1x128x64 .bf16 :=
  fun y => x2 (ix3 h (y 1) (y 2))

abbrev St := FVec Ideal S1536x1 .f32 × FVec Ideal S1536x1 .f32 × FVec Ideal S1536x128 .f32

/-- The running maximum, denominator and numerators after the diagonal tile `i` and the first `j` tiles. -/
def run (x0 : Vec Ideal S6x256x160 .bf16) (x1 : Vec Ideal S2048x160 .bf16) (i : ℕ) : ℕ → St
  | 0 => (k0_pay7 x0 (tile x1 i), k0_pay11 (k0_pay8 x0 (tile x1 i)) (k0_pay10 x0 (tile x1 i)),
      k0_pay12 (k0_pay3 (tile x1 i)) k0_pay6 (k0_pay8 x0 (tile x1 i)) (k0_pay9 x0 (tile x1 i)))
  | j + 1 => (k0_pay14 (k0_pay2 x0) (run x0 x1 i j).1 (tile x1 j),
      k0_pay17 (k0_pay2 x0) (run x0 x1 i j).1 (run x0 x1 i j).2.1 (tile x1 j),
      k0_pay18 (k0_pay2 x0) (run x0 x1 i j).1 (run x0 x1 i j).2.2 (tile x1 j))

/-- The keys loaded at row `256 j` are tile `j`. -/
theorem ld_tile {arg3 : Memref sig .tc .vmem S2048x160 .bf16} (harg3 : arg3.IsWhole) (x1 : Vec Ideal S2048x160 .bf16)
    (off : Fin 2 → ℕ) (inb : ∀ a, off a + S256x160.size a ≤ S2048x160.size a) (j : ℕ) (h : off = ![256 * j, 0]) :
    View.readAt (Elt Ideal) arg3.view (Rect.unit (s := S2048x160) off S256x160.size inb).toLoadRect (harg3.unread x1)
      = tile x1 j := by
  subst h
  rw [View.readAt_eq_ld, harg3.read_unread]
  have hj : 256 * j + 256 ≤ 2048 := inb 0
  funext y
  idx_vars y
  pointwise [tile]
  exact congrArg x1 (congrArg (fun a => ix2 a y1) (Fin.ext (Nat.mod_eq_of_lt (by omega)).symm))

theorem ld_head {arg4 : Memref sig .tc .vmem S6x128x64 .bf16} (harg4 : arg4.IsWhole) (x2 : Vec Ideal S6x128x64 .bf16)
    (h : Fin 6) (inb : ∀ a, (![h.val, 0, 0] : Fin 3 → ℕ) a + S1x128x64.size a ≤ S6x128x64.size a) :
    View.readAt (Elt Ideal) arg4.view (Rect.unit (s := S6x128x64) ![h.val, 0, 0] S1x128x64.size inb).toLoadRect
      (harg4.unread x2) = head x2 h := by
  rw [View.readAt_eq_ld, harg4.read_unread]
  funext y
  idx_vars y
  pointwise [head]

theorem ld_q {arg2 : Memref sig .tc .vmem S6x256x160 .bf16} (harg2 : arg2.IsWhole) (x0 : Vec Ideal S6x256x160 .bf16)
    (inb : ∀ a, (![0, 0, 0] : Fin 3 → ℕ) a + S6x256x160.size a ≤ S6x256x160.size a) :
    View.readAt (Elt Ideal) arg2.view (Rect.unit (s := S6x256x160) ![0, 0, 0] S6x256x160.size inb).toLoadRect
      (harg2.unread x0) = x0 := by
  rw [View.readAt_eq_ld, harg2.read_unread]
  exact View.ld_unit_zero (funext fun a => by fin_cases a <;> rfl) _ _

section
variable (c : Dev nD) (i : grid0.Coords) (arg2 : Memref sig .tc .vmem S6x256x160 .bf16) (harg2 : arg2.IsWhole)
  (arg3 : Memref sig .tc .vmem S2048x160 .bf16) (harg3 : arg3.IsWhole)
  (arg4 : Memref sig .tc .vmem S6x128x64 .bf16) (harg4 : arg4.IsWhole)
  (arg5 : Memref sig .tc .vmem S256x384 .bf16) (harg5 : arg5.IsWhole)
  (x0 : Vec Ideal S6x256x160 .bf16) (x1 : Vec Ideal S2048x160 .bf16) (x2 : Vec Ideal S6x128x64 .bf16)

/-- The loop over the tiles before the diagonal, from the diagonal tile's values, is the recursion. -/
theorem loop_eq (arg1 : BitVec 32) (v7 : FVec Ideal S256x128 .bf16) (v31 : FVec Ideal S1536x128 .f32)
    (v34 : FVec Ideal S1536x1 .f32) (v37 : FVec Ideal S1536x256 .f32) (v39 v40 : FVec Ideal S1536x1 .f32) (i' : ℕ) :
    ∀ j, j ≤ (k0_t1_loop i).trips →
      st_k0_t1 (F := Ideal) Variants.none c none i arg2 harg2 arg3 harg3 arg4 harg4 arg5 harg5 arg1 (k0_pay2 x0) v7 v31
        v34 v37 v39 v40 (harg3.unread x1) (run x0 x1 i' 0) j = run x0 x1 i' j
  | 0, _ => rfl
  | j + 1, h => by
    rw [st_k0_t1_succ (F := Ideal) Variants.none c none i arg2 harg2 arg3 harg3 arg4 harg4 arg5 harg5 arg1 (k0_pay2 x0)
      v7 v31 v34 v37 v39 v40 (harg3.unread x1) (run x0 x1 i' 0) ⟨j, h⟩]
    rw [loop_eq arg1 v7 v31 v34 v37 v39 v40 i' j (by omega)]
    unfold tripR_k0_t1 trip_k0_t1
    dsimp only
    rw [ld_tile harg3 x1 _ _ j (off2_eq i ⟨j, h⟩)]
    rfl

/-- The remainder loop runs no trip. -/
theorem rest_eq (arg1 : BitVec 32) (v1 : FVec Ideal S1536x160 .bf16) (v7 : FVec Ideal S256x128 .bf16)
    (v31 : FVec Ideal S1536x128 .f32) (v34 : FVec Ideal S1536x1 .f32) (v37 : FVec Ideal S1536x256 .f32)
    (v39 v40 : FVec Ideal S1536x1 .f32) (X : BufTy.Contents (Elt Ideal) arg3.view.ty) (init : St) :
    st_k0_t2 (F := Ideal) Variants.none c none i arg2 harg2 arg3 harg3 arg4 harg4 arg5 harg5 arg1 v1 v7 v31
      v34 v37 v39 v40 X init (k0_t2_loop i).trips = init := by
  rw [trips2]; rfl

/-- The queries and the diagonal tile, as the body loads them. -/
abbrev Q : Vec Ideal S6x256x160 .bf16 :=
  View.readAt (Elt Ideal) arg2.view (Rect.unit (s := S6x256x160) ![0, 0, 0] S6x256x160.size
    inb_S6x256x160_S6x256x160_0_0_0).toLoadRect (harg2.unread x0)
abbrev D : Vec Ideal S256x160 .bf16 :=
  View.readAt (Elt Ideal) arg3.view (Rect.unit (s := S2048x160) (k0_off1 i) S256x160.size (k0_off1_inb i)).toLoadRect
    (harg3.unread x1)

/-- The carried values after both loops, from the queries `q` and the diagonal tile `d`. -/
abbrev last (q : Vec Ideal S6x256x160 .bf16) (d : Vec Ideal S256x160 .bf16) : St :=
  st_k0_t2 (F := Ideal) Variants.none c none i arg2 harg2 arg3 harg3 arg4 harg4 arg5 harg5 (BitVec.ofNat 32 (i 1).val)
    (k0_pay2 q) (k0_pay3 d) k0_pay6 (k0_pay7 q d) (k0_pay8 q d) (k0_pay9 q d) (k0_pay10 q d) (harg3.unread x1)
    (st_k0_t1 (F := Ideal) Variants.none c none i arg2 harg2 arg3 harg3 arg4 harg4 arg5 harg5 (BitVec.ofNat 32 (i 1).val)
      (k0_pay2 q) (k0_pay3 d) k0_pay6 (k0_pay7 q d) (k0_pay8 q d) (k0_pay9 q d) (k0_pay10 q d) (harg3.unread x1)
      (k0_pay7 q d, k0_pay11 (k0_pay8 q d) (k0_pay10 q d), k0_pay12 (k0_pay3 d) k0_pay6 (k0_pay8 q d) (k0_pay9 q d))
      (k0_t1_loop i).trips)
    (k0_t2_loop i).trips

theorem last_eq : last c i arg2 harg2 arg3 harg3 arg4 harg4 arg5 harg5 x1 x0 (tile x1 (i 1).val)
    = run x0 x1 (i 1).val (i 1).val := by
  unfold last
  rw [rest_eq]
  refine (loop_eq c i arg2 harg2 arg3 harg3 arg4 harg4 arg5 harg5 x0 x1 _ _ _ _ _ _ _ (i 1).val _ le_rfl).trans ?_
  rw [trips1]

/-- The block a grid point stores. -/
def block (x2 : Vec Ideal S6x128x64 .bf16) (s : St) :
    Vec Ideal S256x384 .bf16 :=
  k0_pay1 (k0_pay25 s.2.1 s.2.2) (k0_pay26 s.2.1 s.2.2 (head x2 0)) (k0_pay27 s.2.1 s.2.2 (head x2 1))
    (k0_pay28 s.2.1 s.2.2 (head x2 2)) (k0_pay29 s.2.1 s.2.2 (head x2 3)) (k0_pay30 s.2.1 s.2.2) (head x2 4) (head x2 5)

theorem out_eq : out0_A_3 c i arg2 harg2 arg3 harg3 arg4 harg4 arg5 harg5 x0 x1 x2
    = block x2 (run x0 x1 (i 1).val (i 1).val) := by
  have hq : Q arg2 harg2 x0 = x0 := ld_q harg2 x0 _
  have hd : D i arg3 harg3 x1 = tile x1 (i 1).val := ld_tile harg3 x1 _ _ _ (off1_eq i)
  have hs : last c i arg2 harg2 arg3 harg3 arg4 harg4 arg5 harg5 x1 (Q arg2 harg2 x0) (D i arg3 harg3 x1)
      = run x0 x1 (i 1).val (i 1).val := by
    rw [hq, hd]; exact last_eq c i arg2 harg2 arg3 harg3 arg4 harg4 arg5 harg5 x0 x1
  unfold out0_A_3
  rw [View.read_writes_eq_canon _ _ _ (cover0_A_3 c i arg2 harg2 arg3 harg3 arg4 harg4 arg5 harg5 x0 x1 x2)]
  unfold kernelRun0_A
  dsimp only
  rw [View.canon_unit_zero (funext fun a => by fin_cases a <;> rfl)]
  unfold block
  rw [← hs, ← ld_head harg4 x2 0 inb_S6x128x64_S1x128x64_0_0_0, ← ld_head harg4 x2 1 inb_S6x128x64_S1x128x64_1_0_0,
    ← ld_head harg4 x2 2 inb_S6x128x64_S1x128x64_2_0_0, ← ld_head harg4 x2 3 inb_S6x128x64_S1x128x64_3_0_0,
    ← ld_head harg4 x2 4 inb_S6x128x64_S1x128x64_4_0_0, ← ld_head harg4 x2 5 inb_S6x128x64_S1x128x64_5_0_0]
  rfl
end

end Cert.KernelIdeal.Block

end
-- ==== Proof.Row.lean ====
/-
  A grid point's rows: after the tiles up to the diagonal, each row of the quotient is the softmax-weighted sum of the keys
  the row's query may see.
-/
module

public import proofs.«01_k».proof.Proof.Block

@[expose] public section

set_option maxRecDepth 16384

noncomputable section

open Idealize.ShloMosaic

namespace Cert.KernelIdeal.Row

open Cert.KernelIdeal Cert.KernelIdeal.Gen Cert.Attn Cert.KernelIdeal.Tile Cert.KernelIdeal.Block

/-- The score of the query at row `q` of head `h` against the key at position `p`. -/
def S (x0 : Vec Ideal S6x256x160 .bf16) (x1 : Vec Ideal S2048x160 .bf16) (h : Fin 6) (q : Fin 256) (p : ℕ) : ℝ :=
  ∑ d : Fin 160, EReal.toReal (x0 (ix3 h q d)) * EReal.toReal (x1 (ix2 ⟨p % 2048, Nat.mod_lt _ (by norm_num)⟩ d))

/-- The value row at position `p`: the first 128 columns of the key. -/
def V (x1 : Vec Ideal S2048x160 .bf16) (p : ℕ) (r : Fin 128) : ℝ :=
  EReal.toReal (x1 (ix2 ⟨p % 2048, Nat.mod_lt _ (by norm_num)⟩ ⟨r.val, by omega⟩))

/-- Every element is a real number. -/
def Fin' {s : Shape} (x : s.Idx → EReal) : Prop := ∀ y, x y = ((x y).toReal : EReal)

section
variable {x0 : Vec Ideal S6x256x160 .bf16} {x1 : Vec Ideal S2048x160 .bf16} (h0 : Fin' x0) (h1 : Fin' x1)
include h0 h1

theorem score (h : Fin 6) (q : Fin 256) (j : ℕ) (k : Fin 256) :
    ∑ d : Fin 160, x0 (ix3 h q d) * tile x1 j (ix2 k d) = (S x0 x1 h q (256 * j + k.val) : EReal) := by
  unfold S
  rw [← sum_coe]
  refine Finset.sum_congr rfl fun d _ => ?_
  rw [EReal.coe_mul, ← h0, ← h1]
  rfl

omit h0 in
theorem value (j : ℕ) (k : Fin 256) (r : Fin 128) :
    tile x1 j (ix2 k ⟨r.val, by omega⟩) = (V x1 (256 * j + k.val) r : EReal) := by
  unfold V
  rw [← h1]
  rfl

theorem run_inv (i : ℕ) (n : Fin 1536) : ∀ j, j ≤ i →
    Inv (S x0 x1 ⟨n.val / 256, by omega⟩ ⟨n.val % 256, by omega⟩) (V x1)
      (Finset.Ico (256 * i) (256 * i + n.val % 256 + 1) ∪ Finset.range (256 * j))
      ((run x0 x1 i j).1 (ix2 n 0)) ((run x0 x1 i j).2.1 (ix2 n 0)) (fun r => (run x0 x1 i j).2.2 (ix2 n r))
  | 0, _ => by
    have hx : ∀ k : Fin 256, k0_pay4 x0 (tile x1 i) (ix2 n k) = if k.val ≤ n.val % 256 then
        ((S x0 x1 ⟨n.val / 256, by omega⟩ ⟨n.val % 256, by omega⟩ (256 * i + k.val) : ℝ) : EReal) else ⊥ := by
      intro k
      rw [pay4_apply, score h0 h1]
    have hm : ∃ M : ℝ, k0_pay7 x0 (tile x1 i) (ix2 n 0) = M := by
      rw [pay7_apply]
      refine fold_max_real ⊥ _ bot_lt_top (fun k => ?_) 0 ?_
      · rw [hx]; split
        · exact EReal.coe_lt_top _
        · exact bot_lt_top
      · rw [hx, if_pos (show (0 : Fin 256).val ≤ _ from Nat.zero_le _)]; exact EReal.bot_lt_coe _
    have := Inv.diag (256 * i) (n.val % 256) (Nat.mod_lt _ (by norm_num)) (fun k => k0_pay4 x0 (tile x1 i) (ix2 n k)) hx
      (fun k r => tile x1 i (ix2 k ⟨r.val, by omega⟩)) (value h1 i) hm
    unfold run
    simp only [pay11_apply, pay12_apply, pay8_apply]
    rw [Nat.mul_zero, Finset.range_zero, Finset.union_empty]
    exact this
  | j + 1, hj => by
    have ih := run_inv i n j (by omega)
    have hx : ∀ k : Fin 256, k0_pay13 (k0_pay2 x0) (tile x1 j) (ix2 n k)
        = (S x0 x1 ⟨n.val / 256, by omega⟩ ⟨n.val % 256, by omega⟩ (256 * j + k.val) : EReal) := by
      intro k
      rw [pay13_apply]
      simp only [pay2_apply]
      exact score h0 h1 _ _ j k
    have hm : ∃ M : ℝ, k0_pay14 (k0_pay2 x0) (run x0 x1 i j).1 (tile x1 j) (ix2 n 0) = M := by
      rw [pay14_apply]
      obtain ⟨M, hM, -⟩ := ih
      obtain ⟨M', hM'⟩ := fold_max_real ⊥ (fun k : Fin 256 => k0_pay13 (k0_pay2 x0) (tile x1 j) (ix2 n k)) bot_lt_top
        (fun k => by rw [hx]; exact EReal.coe_lt_top _) 0 (by rw [hx]; exact EReal.bot_lt_coe _)
      exact ⟨max M M', by rw [hM, hM']; exact (EReal.coe_strictMono.monotone.map_max).symm⟩
    have := ih.step (256 * j) (by
        rw [Finset.disjoint_left]; intro p hp hp'
        simp only [Finset.mem_union, Finset.mem_Ico, Finset.mem_range] at hp hp'
        omega) (fun k => k0_pay13 (k0_pay2 x0) (tile x1 j) (ix2 n k)) hx
      (fun k r => tile x1 j (ix2 k ⟨r.val, by omega⟩)) (value h1 j) hm
    have hT : Finset.Ico (256 * i) (256 * i + n.val % 256 + 1) ∪ Finset.range (256 * j) ∪ Finset.Ico (256 * j) (256 * j + 256)
        = Finset.Ico (256 * i) (256 * i + n.val % 256 + 1) ∪ Finset.range (256 * (j + 1)) := by
      ext p; simp only [Finset.mem_union, Finset.mem_Ico, Finset.mem_range]; omega
    rw [hT] at this
    rw [run]
    simp only [pay17_apply, pay18_apply, pay15_apply, pay16_apply]
    exact this

/-- The stored block at row `q`, head `h`, column `v` of the head. -/
theorem block_apply (x2 : Vec Ideal S6x128x64 .bf16) (i : ℕ) (q : Fin 256) (h : Fin 6) (v : Fin 64) :
    block x2 (run x0 x1 i i) (ix2 q ⟨64 * h.val + v.val, by omega⟩)
      = ∑ r : Fin 128, (W (S x0 x1 h q) (V x1) (256 * i + q.val) r : EReal) * x2 (ix3 h r v) := by
  refine (pay1_apply (run x0 x1 i i).2.1 (run x0 x1 i i).2.2 (head x2) q h v).trans ?_
  refine Finset.sum_congr rfl fun r _ => ?_
  have hi := run_inv h0 h1 i ⟨256 * h.val + q.val, by omega⟩ i le_rfl
  have e1 : (⟨(256 * h.val + q.val) / 256, by omega⟩ : Fin 6) = h := Fin.ext (by show (256 * h.val + q.val) / 256 = _; omega)
  have e2 : (⟨(256 * h.val + q.val) % 256, by omega⟩ : Fin 256) = q := Fin.ext (by show (256 * h.val + q.val) % 256 = _; omega)
  have e3 : (256 * h.val + q.val) % 256 = q.val := by omega
  have e4 : Finset.Ico (256 * i) (256 * i + q.val + 1) ∪ Finset.range (256 * i) = Finset.range (256 * i + q.val + 1) := by
    ext p; simp only [Finset.mem_union, Finset.mem_Ico, Finset.mem_range]; omega
  simp only [e1, e2, e3, e4] at hi
  rw [pay25_apply, hi.quot r]
  rfl
end

end Cert.KernelIdeal.Row

end
-- ==== Proof.Spec.lean ====
/-
  The attention as one function of its arguments: each query row's softmax-weighted sum of the value rows of its own sequence
  up to its own position, against its head's projection.
-/
module

public import proofs.«01_k».proof.Proof.Online

@[expose] public section

noncomputable section

open Idealize.ShloMosaic

namespace Cert.Attn

/-- The score of the query of head `h` at position `n` of sequence `b` against the key at position `p` of that sequence. -/
def Sq (a0 : Fin 6 → Fin 33792 → Fin 160 → EReal) (a1 : Fin 33792 → Fin 160 → EReal) (h : Fin 6) (b : Fin 16) (n : Fin 2048)
    (p : ℕ) : ℝ :=
  ∑ d : Fin 160, (a0 h ⟨2048 * b.val + n.val, by omega⟩ d).toReal
    * (a1 ⟨2048 * b.val + p % 2048, by have := Nat.mod_lt p (show 0 < 2048 by norm_num); omega⟩ d).toReal

/-- The value row at position `p` of sequence `b`: the first 128 columns of its key. -/
def Vq (a1 : Fin 33792 → Fin 160 → EReal) (b : Fin 16) (p : ℕ) (r : Fin 128) : ℝ :=
  (a1 ⟨2048 * b.val + p % 2048, by have := Nat.mod_lt p (show 0 < 2048 by norm_num); omega⟩ ⟨r.val, by omega⟩).toReal

/-- The result at position `n` of sequence `b`, head `h`, column `v` of the head. -/
def G (a0 : Fin 6 → Fin 33792 → Fin 160 → EReal) (a1 : Fin 33792 → Fin 160 → EReal) (a2 : Fin 6 → Fin 128 → Fin 64 → EReal)
    (b : Fin 16) (n : Fin 2048) (h : Fin 6) (v : Fin 64) : EReal :=
  ∑ r : Fin 128, (W (Sq a0 a1 h b n) (Vq a1 b) n.val r : EReal) * a2 h r v

end Cert.Attn

end
-- ==== Proof.Array.lean ====
/-
  The kernel's result array: the grid points' blocks tile it, and each holds the attention of its 256 query rows.
-/
module

public import proofs.«01_k».proof.Proof.Row
public import proofs.«01_k».proof.Proof.Spec
public import proofs.«01_k».proof.Proof.Gen.KernelIdeal.Value

@[expose] public section

set_option maxRecDepth 16384

noncomputable section

open Idealize.ShloMosaic Idealize.ShloMosaic.TcCoe Idealize.SL.Sem

namespace Cert.KernelIdeal.Array

open Cert.KernelIdeal Cert.KernelIdeal.Gen Cert.Attn Cert.KernelIdeal.Row Cert.KernelIdeal.Block

variable (m : (ℓ : Loc nD τ sig) → Buf (Elt Ideal) ℓ) (ρ : Dev nD → PrngReg)

/-- The arguments, as functions of their indices. -/
def a0 (c : Dev nD) (h : Fin 6) (r : Fin 33792) (d : Fin 160) : EReal := (m ((c : Thread nD τ).loc main_arg0) : S6x33792x160.Idx → EReal) (ix3 h r d)
def a1 (c : Dev nD) (r : Fin 33792) (d : Fin 160) : EReal := (m ((c : Thread nD τ).loc main_arg1) : S33792x160.Idx → EReal) (ix2 r d)
def a2 (c : Dev nD) (h : Fin 6) (r : Fin 128) (v : Fin 64) : EReal := (m ((c : Thread nD τ).loc main_arg2) : S6x128x64.Idx → EReal) (ix3 h r v)

theorem coords0 : ∀ t : Fin grid0.N, (grid0.coords t 0).val = t.val / 8 := by decide +kernel
theorem coords1 : ∀ t : Fin grid0.N, (grid0.coords t 1).val = t.val % 8 := by decide +kernel
theorem index0 : ∀ t : Fin grid0.N, win0_0.index t = ![0, t.val, 0] := by decide +kernel
theorem index1 : ∀ t : Fin grid0.N, win0_1.index t = ![t.val / 8, 0] := by decide +kernel
theorem index2 : ∀ t : Fin grid0.N, win0_2.index t = ![0, 0, 0] := by decide +kernel
theorem index3 : ∀ t : Fin grid0.N, win0_3.index t = ![t.val, 0] := by decide +kernel

theorem lt_N (t : Fin cfg0.N) : t.val < 128 := t.isLt

/-- A grid point's queries: 256 rows of each head from row `256 t`. -/
theorem iblk0 (c : Dev nD) (t : Fin cfg0.N) (h : Fin 6) (q : Fin 256) (d : Fin 160) :
    (iblk m c 0 t : S6x256x160.Idx → EReal) (ix3 h q d)
      = a0 m c h ⟨256 * t.val + q.val, by have := lt_N t; omega⟩ d := by
  unfold iblk a0
  rw [View.read_apply]
  show Gen.V m c main_arg0 _ = m (c.tc.loc main_arg0) _
  rw [V_main_arg0]
  congr 1
  have e := index0 t
  funext a
  apply Fin.ext
  match a with
  | ⟨0, _⟩ => show win0_0.index t 0 * 6 + 1 * h.val = h.val; rw [e]; simp
  | ⟨1, _⟩ => show win0_0.index t 1 * 256 + 1 * q.val = 256 * t.val + q.val; rw [e]; simp; omega
  | ⟨2, _⟩ => show win0_0.index t 2 * 160 + 1 * d.val = d.val; rw [e]; simp

/-- A grid point's keys: the 2048 rows of its sequence. -/
theorem keys (c : Dev nD) (t : Fin cfg0.N) (p : Fin 2048) (d : Fin 160) :
    (X0_1 m c t : S2048x160.Idx → EReal) (ix2 p d)
      = a1 m c ⟨2048 * (t.val / 8) + p.val, by have := lt_N t; omega⟩ d := by
  unfold X0_1 Pipeline.Window.fill
  rw [dif_pos (moved0_1 t _)]
  unfold iblk a1
  rw [View.read_apply]
  show Gen.V m c main_arg1 _ = m (c.tc.loc main_arg1) _
  rw [V_main_arg1]
  congr 1
  have e := index1 t
  funext a
  apply Fin.ext
  match a with
  | ⟨0, _⟩ => show win0_1.index t 0 * 2048 + 1 * p.val = 2048 * (t.val / 8) + p.val; rw [e]; simp; omega
  | ⟨1, _⟩ => show win0_1.index t 1 * 160 + 1 * d.val = d.val; rw [e]; simp

/-- Every grid point has the whole projection. -/
theorem iblk2 (c : Dev nD) (t : Fin cfg0.N) (h : Fin 6) (r : Fin 128) (v : Fin 64) :
    (iblk m c 2 t : S6x128x64.Idx → EReal) (ix3 h r v) = a2 m c h r v := by
  unfold iblk a2
  rw [View.read_apply]
  show Gen.V m c main_arg2 _ = m (c.tc.loc main_arg2) _
  rw [V_main_arg2]
  congr 1
  have e := index2 t
  funext a
  apply Fin.ext
  match a with
  | ⟨0, _⟩ => show win0_2.index t 0 * 6 + 1 * h.val = h.val; rw [e]; simp
  | ⟨1, _⟩ => show win0_2.index t 1 * 128 + 1 * r.val = r.val; rw [e]; simp
  | ⟨2, _⟩ => show win0_2.index t 2 * 64 + 1 * v.val = v.val; rw [e]; simp

/-- The result array: the attention at each row and column. -/
def result (c : Dev nD) : S32768x384.Idx → EReal := fun y =>
  G (a0 m c) (a1 m c) (a2 m c) ⟨(y 0).val / 2048, by have : (y 0).val < 32768 := (y 0).isLt; omega⟩
    ⟨(y 0).val % 2048, Nat.mod_lt _ (by norm_num)⟩ ⟨(y 1).val / 64, by have : (y 1).val < 384 := (y 1).isLt; omega⟩
    ⟨(y 1).val % 64, Nat.mod_lt _ (by norm_num)⟩

section
variable (c : Dev nD) (h0 : ∀ h r d, a0 m c h r d = ((a0 m c h r d).toReal : EReal))
  (h1 : ∀ r d, a1 m c r d = ((a1 m c r d).toReal : EReal))
include h0 h1

/-- What a grid point stores at row `q`, head `h`, column `v` of the head. -/
theorem stored (t : Fin cfg0.N) (q : Fin 256) (h : Fin 6) (v : Fin 64) :
    block (iblk m c 2 t) (run (iblk m c 0 t) (X0_1 m c t) (t.val % 8) (t.val % 8)) (ix2 q ⟨64 * h.val + v.val, by omega⟩)
      = G (a0 m c) (a1 m c) (a2 m c) ⟨t.val / 8, by have := lt_N t; omega⟩ ⟨256 * (t.val % 8) + q.val, by omega⟩ h v := by
  have hf0 : Fin' (iblk m c 0 t : S6x256x160.Idx → EReal) := fun y => by idx_vars y; rw [iblk0]; exact h0 _ _ _
  have hf1 : Fin' (X0_1 m c t : S2048x160.Idx → EReal) := fun y => by idx_vars y; rw [keys]; exact h1 _ _
  rw [block_apply hf0 hf1]
  unfold G
  have hS : S (iblk m c 0 t) (X0_1 m c t) h q
      = Sq (a0 m c) (a1 m c) h ⟨t.val / 8, by have := lt_N t; omega⟩ ⟨256 * (t.val % 8) + q.val, by omega⟩ := by
    funext p
    unfold S Sq
    refine Finset.sum_congr rfl fun d _ => ?_
    rw [iblk0, keys]
    have e : (⟨256 * t.val + q.val, by have := lt_N t; omega⟩ : Fin 33792)
      = ⟨2048 * (t.val / 8) + (256 * (t.val % 8) + q.val), by have := lt_N t; omega⟩ := Fin.ext (by dsimp only; omega)
    rw [e]
  have hV : Row.V (X0_1 m c t) = Vq (a1 m c) ⟨t.val / 8, by have := lt_N t; omega⟩ := by
    funext p r
    unfold Row.V Vq
    rw [keys]
  rw [hS, hV]
  exact Finset.sum_congr rfl fun r _ => by rw [iblk2]

theorem flushed_eq (t : Fin cfg0.N) :
    (dats m 0 c).flushed 3 t = ((cfg0.win 3).blk t).view.read (Elt Ideal) (result m c) := by
  rw [Value.flushed3_A, out_eq, coords1]
  funext y
  obtain ⟨q, k, rfl⟩ : ∃ (q : Fin 256) (k : Fin 384), y = ix2 q k :=
    ⟨y 0, y 1, funext fun a => by match a with | ⟨0, _⟩ => rfl | ⟨1, _⟩ => rfl⟩
  rw [View.read_apply]
  have hk : k = ⟨64 * (⟨k.val / 64, by omega⟩ : Fin 6).val + (⟨k.val % 64, by omega⟩ : Fin 64).val, by dsimp only; omega⟩ :=
    Fin.ext (by dsimp only; omega)
  have hs := stored m c h0 h1 t q ⟨k.val / 64, by omega⟩ ⟨k.val % 64, by omega⟩
  rw [← hk] at hs
  refine hs.trans ?_
  have e := index3 t
  have ht := lt_N t
  have r0 : ((((cfg0.win 3).blk t).view.emb (ix2 q k)) 0).val = 256 * t.val + q.val := by
    show win0_3.index t 0 * 256 + 1 * q.val = _
    rw [e]; simp; omega
  have r1 : ((((cfg0.win 3).blk t).view.emb (ix2 q k)) 1).val = k.val := by
    show win0_3.index t 1 * 384 + 1 * k.val = _
    rw [e]; simp
  show _ = result m c (((cfg0.win 3).blk t).view.emb (ix2 q k))
  unfold result
  simp only [r0, r1]
  congr 1 <;> apply Fin.ext <;> dsimp only <;> omega

omit h0 h1 in
/-- Every row of the result is in some grid point's block. -/
theorem cover (i : S32768x384.Idx) : ∃ t : Fin cfg0.N, (cfg0.win 3).flush t = true ∧ i ∈ ((cfg0.win 3).blk t).view.set := by
  have i0 : (i 0).val < 32768 := (i 0).isLt
  have i1 : (i 1).val < 384 := (i 1).isLt
  have hlt : (i 0).val / 256 < cfg0.N := by show (i 0).val / 256 < 128; omega
  refine ⟨⟨(i 0).val / 256, hlt⟩, flush0_3 _, ?_⟩
  show i ∈ ((View.whole main_v0).slice (win0_3.rect ⟨(i 0).val / 256, hlt⟩)).set
  rw [View.set_slice_whole, Rect.mem_set_unit]
  have e := index3 ⟨(i 0).val / 256, hlt⟩
  intro a
  match a with
  | ⟨0, _⟩ =>
    show win0_3.index ⟨(i 0).val / 256, hlt⟩ 0 * 256 ≤ (i 0).val ∧ (i 0).val < win0_3.index ⟨(i 0).val / 256, hlt⟩ 0 * 256 + 256
    rw [e]; simp; omega
  | ⟨1, _⟩ =>
    show win0_3.index ⟨(i 0).val / 256, hlt⟩ 1 * 384 ≤ (i 1).val ∧ (i 1).val < win0_3.index ⟨(i 0).val / 256, hlt⟩ 1 * 384 + 384
    rw [e]; simp; omega

theorem arr_eq : (dats m 0 c).arrAt 3 cfg0.N = result m c :=
  (dats m 0 c).arrAt_eq_of_cover 3 (result m c) (fun t _ => flushed_eq m c h0 h1 t) cover
end

end Cert.KernelIdeal.Array

end
-- ==== Proof.RowMax.lean ====
/-
  The maximum over the last of four axes, at any sizes, read at an index.
-/
module

public import Idealize.ShloMosaic.Lib.Pointwise

@[expose] public section

noncomputable section

open Idealize.ShloMosaic

namespace Cert.Attn

theorem row_max {n0 n1 n2 n3 : ℕ} (z : FVec Ideal ⟨4, ![n0, n1, n2, n3]⟩ .f32) (v : FVec Ideal ⟨0, ![]⟩ .f32)
    (hr : Shape.ReducesTo ⟨4, ![n0, n1, n2, n3]⟩ [3] ⟨3, ![n0, n1, n2]⟩) (hu : 0 < Shape.numel ⟨0, ![]⟩)
    (i : Fin n0) (j : Fin n1) (k : Fin n2) :
    Host.reduce (FloatOps.maximumf (F := Ideal) (φ := .f32)) z v hr hu (ix3 i j k)
      = Finset.univ.fold max (v (Shape.Idx.first hu)) fun p : Fin n3 => z (ix4 i j k p) := by
  pointwise

end Cert.Attn

end
-- ==== Proof.RefValue.lean ====
/-
  The reference's result read at an index: the softmax over the whole masked row, weighted by the value rows, against each
  head's projection.
-/
module

public import proofs.«01_k».proof.Proof.Spec
public import proofs.«01_k».proof.Proof.RowMax
public import proofs.«01_k».proof.Proof.Gen.ReferenceIdeal.Read
public import Idealize.ShloMosaic.Lib.Pointwise

@[expose] public section

set_option maxRecDepth 16384

noncomputable section

open Idealize.ShloMosaic

namespace Cert.ReferenceIdeal.RefValue

open Cert.ReferenceIdeal Cert.ReferenceIdeal.Gen Cert.ReferenceIdeal.Read Cert.Attn

theorem neg_inf : Ideal.ofBits FTy.f32 0xFF800000#32 = ⊥ := rfl

variable (x0 : S6x33792x160.Idx → EReal) (x1 : S33792x160.Idx → EReal) (x2 : S6x128x64.Idx → EReal)

/-- The arguments, as functions of their indices. -/
abbrev b0 (h : Fin 6) (r : Fin 33792) (d : Fin 160) : EReal := x0 (ix3 h r d)
abbrev b1 (r : Fin 33792) (d : Fin 160) : EReal := x1 (ix2 r d)
abbrev b2 (h : Fin 6) (r : Fin 128) (v : Fin 64) : EReal := x2 (ix3 h r v)

theorem v2_at (h : Fin 6) (b : Fin 16) (n : Fin 2048) (d : Fin 160) :
    val_main_v2 (F := Ideal) x0 (ix4 h b n d) = b0 x0 h ⟨2048 * b.val + n.val, by omega⟩ d := by
  pointwise [val_main_v2, val_main_v1, val_main_v0]
  exact congrArg (fun r => x0 (ix3 h r d)) (Fin.ext (by dsimp only; omega))

theorem v5_at (b : Fin 16) (n : Fin 2048) (d : Fin 160) :
    val_main_v5 (F := Ideal) x1 (ix3 b n d) = b1 x1 ⟨2048 * b.val + n.val, by omega⟩ d := by
  pointwise [val_main_v5, val_main_v4, val_main_v3]
  exact congrArg (fun r => x1 (ix2 r d)) (Fin.ext (by dsimp only; omega))

theorem v12_at (b : Fin 16) (h : Fin 6) (n p : Fin 2048) :
    val_main_v12 (F := Ideal) x0 x1 (ix4 b h n p)
      = ∑ d : Fin 128, val_main_v2 (F := Ideal) x0 (ix4 h b n ⟨d.val, by omega⟩) * val_main_v5 (F := Ideal) x1 (ix3 b p ⟨d.val, by omega⟩)
        + ∑ d : Fin 32, val_main_v2 (F := Ideal) x0 (ix4 h b n ⟨128 + d.val, by omega⟩) * val_main_v5 (F := Ideal) x1 (ix3 b p ⟨128 + d.val, by omega⟩) := by
  pointwise [val_main_v12, val_main_v11, val_main_v10, val_main_v9, val_main_v8, val_main_v7, val_main_v6]

theorem sle_iff (k n : Fin 2048) :
    IntOp.cmpi CmpIPredicate.sle (BitVec.ofNat 32 k.val) (BitVec.ofNat 32 n.val) = if k.val ≤ n.val then 1#1 else 0#1 := by
  have e : ∀ k : Fin 2048, (BitVec.ofNat 32 k.val).toInt = k.val := fun k => by
    have h : (BitVec.ofNat 32 k.val).toNat = k.val := by
      rw [BitVec.toNat_ofNat]; exact Nat.mod_eq_of_lt (by omega)
    rw [BitVec.toInt_eq_toNat_of_lt (by rw [h]; omega), h]
  unfold IntOp.cmpi
  simp [BitVec.sle, e]
  by_cases h : k ≤ n <;> simp [h]

theorem v19_at (b : Fin 16) (h : Fin 6) (n p : Fin 2048) :
    val_main_v19 (F := Ideal) x0 x1 (ix4 b h n p)
      = if p.val ≤ n.val then val_main_v12 (F := Ideal) x0 x1 (ix4 b h n p) else ⊥ := by
  pointwise [val_main_v19, val_main_call0_v2, val_main_call0_v1, val_main_call0_v0, val_main_cst, val_main_v18, val_main_v17, val_main_v16, val_main_v15, val_main_v14, val_main_v13]
  rw [sle_iff]
  split
  · rfl
  · exact neg_inf

theorem max_at (b : Fin 16) (h : Fin 6) (n : Fin 2048) (z : FVec Ideal S16x6x2048x2048 .f32) (v : FVec Ideal S_ .f32) :
    Host.reduce (FloatOps.maximumf (F := Ideal) (φ := .f32)) z v reducesTo_S16x6x2048x2048_S16x6x2048_d3 h_S_ (ix3 b h n)
      = Finset.univ.fold max (v (Shape.Idx.first h_S_)) fun p : Fin 2048 => z (ix4 b h n p) :=
  row_max z v reducesTo_S16x6x2048x2048_S16x6x2048_d3 h_S_ b h n

theorem v20_at (b : Fin 16) (h : Fin 6) (n : Fin 2048) :
    val_main_v20 (F := Ideal) x0 x1 (ix3 b h n)
      = Finset.univ.fold max (val_main_cst_0 (F := Ideal) (Shape.Idx.first h_S_))
        fun p : Fin 2048 => val_main_v19 (F := Ideal) x0 x1 (ix4 b h n p) := by
  unfold val_main_v20
  rw [max_at]

theorem cst_0_at : (val_main_cst_0 (F := Ideal) (Shape.Idx.first h_S_) : EReal) = ⊥ := by
  unfold val_main_cst_0
  exact neg_inf

theorem v21_at (i : S16x6x2048.Idx) : (val_main_v21 (F := Ideal) i : EReal) = ⊥ := by
  rw [val_main_v21_apply]
  exact neg_inf

theorem max_v21 (i : S16x6x2048.Idx) (z : FVec Ideal S16x6x2048 .f32) :
    maximumf (val_main_v21 (F := Ideal)) z i = z i := by
  show max (val_main_v21 (F := Ideal) i : EReal) (z i) = _
  rw [v21_at]
  exact max_eq_right bot_le

theorem v22_eq (b : Fin 16) (h : Fin 6) (n : Fin 2048) :
    val_main_v22 (F := Ideal) x0 x1 (ix3 b h n) = val_main_v20 (F := Ideal) x0 x1 (ix3 b h n) := by
  unfold val_main_v22
  rw [max_v21]

theorem v22_at (b : Fin 16) (h : Fin 6) (n : Fin 2048) :
    val_main_v22 (F := Ideal) x0 x1 (ix3 b h n)
      = Finset.univ.fold max ⊥ fun p : Fin 2048 => val_main_v19 (F := Ideal) x0 x1 (ix4 b h n p) := by
  rw [v22_eq, v20_at, cst_0_at]

theorem v26_at (b : Fin 16) (h : Fin 6) (n p : Fin 2048) :
    val_main_v26 (F := Ideal) x0 x1 (ix4 b h n p)
      = Ideal.exp (val_main_v19 (F := Ideal) x0 x1 (ix4 b h n p) - val_main_v22 (F := Ideal) x0 x1 (ix3 b h n)) := by
  pointwise [val_main_v26, val_main_v25, val_main_v24, val_main_v23]

theorem v30_at (b : Fin 16) (h : Fin 6) (n p : Fin 2048) :
    val_main_v30 (F := Ideal) x0 x1 (ix4 b h n p)
      = Ideal.div (val_main_v26 (F := Ideal) x0 x1 (ix4 b h n p))
        (0 + ∑ p' : Fin 2048, val_main_v26 (F := Ideal) x0 x1 (ix4 b h n p')) := by
  pointwise [val_main_v30, val_main_v29, val_main_v28, val_main_v27, val_main_cst_2]

theorem v32_at (b : Fin 16) (n : Fin 2048) (h : Fin 6) (r : Fin 128) :
    val_main_v32 (F := Ideal) x0 x1 (ix4 b n h r)
      = ∑ p : Fin 2048, val_main_v5 (F := Ideal) x1 (ix3 b p ⟨r.val, by omega⟩) * val_main_v30 (F := Ideal) x0 x1 (ix4 b h n p) := by
  pointwise [val_main_v32, val_main_v31, val_main_v8]

theorem v37_at (y : Fin 32768) (z : Fin 384) :
    val_main_v37 (F := Ideal) x0 x1 x2 (ix2 y z)
      = ∑ r : Fin 128, b2 x2 ⟨z.val / 64, by omega⟩ r ⟨z.val % 64, by omega⟩
        * val_main_v32 (F := Ideal) x0 x1 (ix4 ⟨y.val / 2048, by omega⟩ ⟨y.val % 2048, by omega⟩ ⟨z.val / 64, by omega⟩ r) := by
  pointwise [val_main_v37, val_main_v36, val_main_v35, val_main_v34, val_main_v33]

end Cert.ReferenceIdeal.RefValue

end
-- ==== Proof.RefResult.lean ====
/-
  The reference's result is the attention of its arguments, where the queries and the keys are finite.
-/
module

public import proofs.«01_k».proof.Proof.RefValue
public import Idealize.ShloMosaic.Lib.Pointwise

@[expose] public section

set_option maxRecDepth 16384

noncomputable section

open Idealize.ShloMosaic

namespace Cert.ReferenceIdeal.RefValue

open Cert.ReferenceIdeal Cert.ReferenceIdeal.Gen Cert.ReferenceIdeal.Read Cert.Attn

variable {x0 : S6x33792x160.Idx → EReal} {x1 : S33792x160.Idx → EReal} (x2 : S6x128x64.Idx → EReal)
  (h0 : ∀ h r d, b0 x0 h r d = ((b0 x0 h r d).toReal : EReal)) (h1 : ∀ r d, b1 x1 r d = ((b1 x1 r d).toReal : EReal))

theorem sum_split (f : Fin 160 → EReal) :
    ∑ d : Fin 160, f d = ∑ d : Fin 128, f ⟨d.val, by omega⟩ + ∑ d : Fin 32, f ⟨128 + d.val, by omega⟩ :=
  Fin.sum_univ_add (a := 128) (b := 32) f

include h0 h1 in
/-- The two products' sum is the score over all 160 columns. -/
theorem score (b : Fin 16) (h : Fin 6) (n p : Fin 2048) :
    val_main_v12 (F := Ideal) x0 x1 (ix4 b h n p) = (Sq (b0 x0) (b1 x1) h b n p.val : EReal) := by
  rw [v12_at]
  simp only [v2_at, v5_at]
  rw [← sum_split fun d => b0 x0 h ⟨2048 * b.val + n.val, by omega⟩ d * b1 x1 ⟨2048 * b.val + p.val, by omega⟩ d]
  unfold Sq
  rw [← sum_coe]
  refine Finset.sum_congr rfl fun d _ => ?_
  rw [EReal.coe_mul, ← h0, ← h1]
  exact congrArg (fun r => b0 x0 h _ d * b1 x1 r d) (Fin.ext (by dsimp only; rw [Nat.mod_eq_of_lt p.isLt]))

include h1 in
theorem value (b : Fin 16) (p : Fin 2048) (r : Fin 128) :
    val_main_v5 (F := Ideal) x1 (ix3 b p ⟨r.val, by omega⟩) = (Vq (b1 x1) b p.val r : EReal) := by
  rw [v5_at]
  unfold Vq
  rw [← h1]
  exact congrArg (fun q => b1 x1 q _) (Fin.ext (by dsimp only; rw [Nat.mod_eq_of_lt p.isLt]))

include h0 h1 in
theorem attn (b : Fin 16) (n : Fin 2048) (h : Fin 6) (r : Fin 128) :
    val_main_v32 (F := Ideal) x0 x1 (ix4 b n h r) = (W (Sq (b0 x0) (b1 x1) h b n) (Vq (b1 x1) b) n.val r : EReal) := by
  have hx : ∀ p : Fin 2048, val_main_v19 (F := Ideal) x0 x1 (ix4 b h n p)
      = if p.val ≤ n.val then (Sq (b0 x0) (b1 x1) h b n p.val : EReal) else ⊥ := fun p => by rw [v19_at, score h0 h1]
  have hm : ∃ M : ℝ, val_main_v22 (F := Ideal) x0 x1 (ix3 b h n) = (M : EReal) := by
    rw [v22_at]
    refine fold_max_real ⊥ _ bot_lt_top (fun k => ?_) 0 ?_
    · rw [hx]; split
      · exact EReal.coe_lt_top _
      · exact bot_lt_top
    · rw [hx, if_pos (show (0 : Fin 2048).val ≤ _ from Nat.zero_le _)]; exact EReal.bot_lt_coe _
  rw [v32_at]
  simp only [v30_at, v26_at]
  exact softmax_row 2048 n.val n.isLt r (fun p => val_main_v19 (F := Ideal) x0 x1 (ix4 b h n p)) hx
    (fun p => val_main_v5 (F := Ideal) x1 (ix3 b p ⟨r.val, by omega⟩)) (fun p => value h1 b p r) hm

include h0 h1 in
theorem result (y : Fin 32768) (z : Fin 384) :
    val_main_v37 (F := Ideal) x0 x1 x2 (ix2 y z)
      = G (b0 x0) (b1 x1) (b2 x2) ⟨y.val / 2048, by omega⟩ ⟨y.val % 2048, by omega⟩ ⟨z.val / 64, by omega⟩
        ⟨z.val % 64, by omega⟩ := by
  rw [v37_at]
  unfold G
  exact Finset.sum_congr rfl fun r _ => by rw [attn h0 h1]; exact mul_comm _ _

end Cert.ReferenceIdeal.RefValue

end
-- ==== Proof.Claims.lean ====
/-
  The claims: the frames, the named constant, and the equality of the kernel's and the reference's results on finite
  queries and keys.
-/
module

public import proofs.«01_k».proof.Defs
public import proofs.«01_k».proof.Proof.Array
public import proofs.«01_k».proof.Proof.RefResult
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_rows

@[expose] public section

noncomputable section

open Idealize.ShloMosaic Idealize.SL.Sem

namespace Cert.Proof.Claims

/-- The four bytes of `+∞`. -/
theorem pos_inf : (Ideal.ofBits FTy.f32 0x7F800000#32 : EReal) = ⊤ := rfl

/-- A magnitude below `+∞` is a real number's. -/
theorem real_of_cmp (x : EReal) (h : Ideal.cmp .olt (max x (-x)) ⊤ = 1#1) : x = (x.toReal : EReal) := by
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  obtain ⟨h1, h2⟩ := max_lt_iff.mp hlt
  refine (EReal.coe_toReal h1.ne ?_).symm
  rintro rfl
  exact absurd h2 (by simp)

/-- The precondition's first array at an index: that query is finite. -/
theorem finite_left (x0 : FVec Ideal Cert.Pre_finite_rows.S6x33792x160 .bf16) (x1 : FVec Ideal Cert.Pre_finite_rows.S33792x160 .bf16)
    (x2 : FVec Ideal Cert.Pre_finite_rows.S6x128x64 .bf16)
    (h : (Cert.Pre_finite_rows.fn (F := Ideal) x0 x1 x2).1 = fun _ => 1#1) (i : Cert.Pre_finite_rows.S6x33792x160.Idx) :
    (x0 i : EReal) = ((x0 i : EReal).toReal : EReal) :=
  real_of_cmp _ ((congrArg (fun z => Ideal.cmp .olt (max (x0 i : EReal) (-(x0 i : EReal))) z) pos_inf).symm.trans (congrFun h i))

/-- Its second array: that key is finite. -/
theorem finite_right (x0 : FVec Ideal Cert.Pre_finite_rows.S6x33792x160 .bf16) (x1 : FVec Ideal Cert.Pre_finite_rows.S33792x160 .bf16)
    (x2 : FVec Ideal Cert.Pre_finite_rows.S6x128x64 .bf16)
    (h : (Cert.Pre_finite_rows.fn (F := Ideal) x0 x1 x2).2 = fun _ => 1#1) (i : Cert.Pre_finite_rows.S33792x160.Idx) :
    (x1 i : EReal) = ((x1 i : EReal).toReal : EReal) :=
  real_of_cmp _ ((congrArg (fun z => Ideal.cmp .olt (max (x1 i : EReal) (-(x1 i : EReal))) z) pos_inf).symm.trans (congrFun h i))

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_rows := fun m ρ _ => Cert.KernelIdeal.Gen.frame m ρ

/-- The reference declares no semaphore and writes no argument. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_reference_pre : Cert.quiescent_ReferenceIdeal_pre_finite_rows := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's constant, named `−∞`. -/
theorem preserves : Cert.preserves_Kernel_KernelIdeal :=
  IdealRules.named_const.statement Cert.KernelIdeal.κ "mask" .f32 0xF149F2CA#32 ⊥ rfl

/-- Both programs end with the attention of the arguments. -/
theorem algebraic : Cert.algebraic_KernelIdeal_ReferenceIdeal_pre_finite_rows := by
  intro m ρ m' ρ' hpre hagree
  have h0 (c : Dev Cert.KernelIdeal.nD) (h : Fin 6) (r : Fin 33792) (d : Fin 160) :
      Cert.KernelIdeal.Array.a0 m c h r d = ((Cert.KernelIdeal.Array.a0 m c h r d).toReal : EReal) :=
    finite_left _ _ _ (hpre c).1 (ix3 h r d)
  have h1 (c : Dev Cert.KernelIdeal.nD) (r : Fin 33792) (d : Fin 160) :
      Cert.KernelIdeal.Array.a1 m c r d = ((Cert.KernelIdeal.Array.a1 m c r d).toReal : EReal) :=
    finite_right _ _ _ (hpre c).2 (ix2 r d)
  refine ⟨fun c => Cert.KernelIdeal.Array.result m c, ?_, ?_⟩
  · exact (θ_run Cert.KernelIdeal.defs _ _).mono
      (fun _ h c => ⟨(h c).1.trans (Cert.KernelIdeal.Array.arr_eq m c (h0 c) (h1 c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, (hagree c).1, (hagree c).2.1, (hagree c).2.2]
    funext y
    obtain ⟨a, b, rfl⟩ : ∃ (a : Fin 32768) (b : Fin 384), y = ix2 a b := ⟨y 0, y 1, eq_ix2 y⟩
    exact Cert.ReferenceIdeal.RefValue.result _ (h0 c) (h1 c) a b

end Cert.Proof.Claims

end
-- ==== Proof.MoeRows.lean ====
/- The rows the routed kernel moves: the buffer of gathered rows as two slots of 256 rows, the token rows of the
   activations, the two semaphores, and what a row copy delivers. -/
module

public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import Idealize.ShloMosaic.Lib.Batch
public import Idealize.ShloMosaic.Lib.Ring
public import Idealize.ShloMosaic.Lib.Tactic
public import Idealize.ShloMosaic.Lib.Pointwise.Index
public import Idealize.ShloMosaic.Lib.Pipeline.Frame

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The buffer of gathered rows, and the activations. -/
abbrev buf : Memref sig .tc .vmem S2x256x1024 .f32 := Memref.whole cc0_scratch0
abbrev act : Memref sig .tc .hbm S33792x1024 .f32 := Memref.whole main_arg2

theorem row_inb (s : Fin 2) (r : Fin 256) : ∀ a, (![s.val, r.val, 0] : Fin 3 → Nat) a + S1x1x1024.size a ≤ S2x256x1024.size a := by
  have := s.isLt; have := r.isLt; intro a; fin_cases a
  · show s.val + 1 ≤ 2; omega
  · show r.val + 1 ≤ 256; omega
  · show 0 + 1024 ≤ 1024; omega
theorem src_inb (w : Fin 33792) : ∀ a, (![w.val, 0] : Fin 2 → Nat) a + S1x1024.size a ≤ S33792x1024.size a := by
  have := w.isLt; intro a; fin_cases a
  · show w.val + 1 ≤ 33792; omega
  · show 0 + 1024 ≤ 1024; omega
theorem cell_inb (s : Fin 2) : ∀ a, (![s.val] : Fin 1 → Nat) a + S1.size a ≤ S2.size a := by
  have := s.isLt; intro a; fin_cases a
  show s.val + 1 ≤ 2; omega

/-- Row `r` of slot `s`; row `w` of the activations; the semaphore of slot `s`. -/
def row (s : Fin 2) (r : Fin 256) : Memref sig .tc .vmem S1x1024 .f32 :=
  (buf.slice (Rect.unit (s := S2x256x1024) ![s.val, r.val, 0] S1x1x1024.size (row_inb s r)) (fun _ => rfl)).squeeze S1x1024 squeezes_S1x1x1024_S1x1024
def src (w : Fin 33792) : Memref sig .tc .hbm S1x1024 .f32 :=
  act.slice (Rect.unit (s := S33792x1024) ![w.val, 0] S1x1024.size (src_inb w)) (fun _ => rfl)
def cell (s : Fin 2) : DmaSem sig :=
  ((cc0_scratch1.slice (Rect.unit (s := S2) ![s.val] S1.size (cell_inb s))).squeeze S_ squeezes_S1_S_).sem

/-- What one row's copy credits its semaphore. -/
abbrev NN : ℕ := RefSig.tileCredit S1x1024 .f32
theorem nn_eq : NN = 128 := by decide
theorem row_amount (s : Fin 2) (r : Fin 256) : (row s r).view.amount (.dma (cell s)) = NN := rfl
theorem row_credit (s : Fin 2) (r : Fin 256) : (row s r).view.dmaCredit = NN := rfl

/-- What the buffer of gathered rows holds once a block's tokens `tk` are all there (in both slots alike). -/
def gath (h : S33792x1024.Idx → Elt F .f32) (tk : Fin 256 → Fin 33792) : S2x256x1024.Idx → Elt F .f32 :=
  fun y => h (ix2 (tk (y 1)) (y 2))

section
variable (c : Dev nD)

abbrev rowAt (s : Fin 2) (r : Fin 256) (f : S2x256x1024.Idx → Elt F .f32) : sProp 𝕄 :=
  (row s r).view.loc (c : Thread nD τ) ↦[(row s r).view.set]{fullShare} f
abbrev srcAt (w : Fin 33792) (n : ℕ) (h : S33792x1024.Idx → Elt F .f32) : sProp 𝕄 :=
  (src w).view.loc (c : Thread nD τ) ↦[(src w).view.set]{Transfers.shareTokN fullShare n} h
/-- Token `n` of the activations whole; what is left of it while row `w` is lent. -/
abbrev tokAt (n : ℕ) (h : S33792x1024.Idx → Elt F .f32) : sProp 𝕄 :=
  act.view.loc (c : Thread nD τ) ↦{Transfers.shareTokN fullShare n} h
abbrev lentAt (w : Fin 33792) (n : ℕ) (h : S33792x1024.Idx → Elt F .f32) : sProp 𝕄 :=
  act.view.loc (c : Thread nD τ) ↦[Finset.univ \ (src w).view.set]{Transfers.shareTokN fullShare n} h

/-- What copy `j` into slot `s` delivers: the row gathered, and the token's row it was read through. -/
def deliv (s : Fin 2) (h : S33792x1024.Idx → Elt F .f32) (tk : Fin 256 → Fin 33792) (j : Fin 256) : sProp 𝕄 :=
  iprop(rowAt c s j (gath h tk) ∗ srcAt c (tk j) (256 * s.val + j.val) h)

theorem pts_storable (ℓ : Loc nD τ sig) (I : Finset (Idx ℓ)) (q : PosShare TreeShare) (f : Buf (Elt F) ℓ) :
    BI.Storable (upEmb : UEmb _ 𝕄) (ℓ ↦[I]{q} f) := inferInstance

instance deliv_storable (s : Fin 2) (h : S33792x1024.Idx → Elt F .f32) (tk : Fin 256 → Fin 33792) (j : Fin 256) :
    BI.Storable (upEmb : UEmb _ 𝕄) (deliv c s h tk j) := by
  unfold deliv
  haveI h1 : BI.Storable (upEmb : UEmb _ 𝕄) (rowAt c s j (gath h tk)) := pts_storable _ _ _ _
  haveI h2 : BI.Storable (upEmb : UEmb _ 𝕄) (srcAt c (tk j) (256 * s.val + j.val) h) := pts_storable _ _ _ _
  infer_instance

abbrev batch (s : Fin 2) (h : S33792x1024.Idx → Elt F .f32) (tk : Fin 256 → Fin 33792) (j u : ℕ) : sProp 𝕄 :=
  Transfers.Batch (countersEmb (U := Pipeline.UD sig nD τ)) (c : Thread nD τ) (.dma (cell s)) () NN (deliv c s h tk) j u

/-- Before copy `k` into slot `s`. -/
def gat (s : Fin 2) (h : S33792x1024.Idx → Elt F .f32) (tk : Fin 256 → Fin 33792) (k : ℕ) : sProp 𝕄 :=
  iprop(batch c s h tk k 0
    ∗ bigSep (Ring.rangeSet 256 k 256) (fun j => iprop((∃ f, rowAt c s j f) ∗ tokAt c (256 * s.val + j.val) h))
    ∗ bigSep (Ring.rangeSet 256 0 k) (fun j => lentAt c (tk j) (256 * s.val + j.val) h))

theorem row_emb (s : Fin 2) (r : Fin 256) (x : S1x1024.Idx) :
    (row s r).view.emb x = (ix3 s r (x 1) : S2x256x1024.Idx) := by
  unfold row
  show (Rect.unit (s := S2x256x1024) ![s.val, r.val, 0] S1x1x1024.size (row_inb s r)).emb (Shape.reshapeEquiv _ x) = _
  rw [Shape.reshapeEquiv_cons_one]
  funext a
  have h0 : (x 0).val = 0 := by have : (x 0).val < 1 := (x 0).isLt; omega
  fin_cases a <;> apply Fin.ext
  · show s.val + 1 * 0 = s.val; omega
  · show r.val + 1 * (x 0).val = r.val; omega
  · show 0 + 1 * (x 1).val = (x 1).val; omega
theorem src_emb (w : Fin 33792) (x : S1x1024.Idx) :
    (src w).view.emb x = (ix2 w (x 1) : S33792x1024.Idx) := by
  unfold src
  show (Rect.unit (s := S33792x1024) ![w.val, 0] S1x1024.size (src_inb w)).emb x = _
  funext a
  have h0 : (x 0).val = 0 := by have : (x 0).val < 1 := (x 0).isLt; omega
  fin_cases a <;> apply Fin.ext
  · show w.val + 1 * (x 0).val = w.val; omega
  · show 0 + 1 * (x 1).val = (x 1).val; omega

/-- A copied row is the gathered one. -/
theorem copied (s : Fin 2) (r : Fin 256) (h : S33792x1024.Idx → Elt F .f32) (tk : Fin 256 → Fin 33792)
    (fd : S2x256x1024.Idx → Elt F .f32) :
    ∀ i ∈ (row s r).view.set,
      (row s r).view.write (Elt F) fd ((src (tk r)).view.read (Elt F) h) Finset.univ i = gath h tk i := by
  intro i hi
  obtain ⟨x, -, rfl⟩ := Finset.mem_map.mp hi
  refine (View.write_emb_of_mem (v := (row s r).view) fd _ (Finset.mem_univ x)).trans ?_
  show h ((src (tk r)).view.emb x) = gath h tk ((row s r).view.emb x)
  rw [src_emb, row_emb]
  rfl

end

end Cert.Kernel2Ideal.Moe
-- ==== Proof.MoeGather.lean ====
/- One slot of the buffer is filled by 256 row copies on its semaphore: one trip of the loop that starts them. -/
module

public import proofs.«01_k».proof.Proof.MoeRows

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip: read a token number, copy that row of the activations into the slot. -/
def startTrip (A : Memref sig .tc .smem S1x1x256 .i32)
    (C : BitVec 32 → Prop) (dC : ∀ v, Decidable (C v)) (hC : ∀ v, C v → ∀ a, (![v.toNat, 0] : Fin 2 → ℕ) a + S1x1024.size a ≤ S33792x1024.size a)
    (o6 : Fin 3 → ℕ) (h6 : ∀ a, o6 a + S1x1x1.size a ≤ S1x1x256.size a)
    (o7 : Fin 1 → ℕ) (h7 : ∀ a, o7 a + S1.size a ≤ S2.size a)
    (o8 : Fin 3 → ℕ) (h8 : ∀ a, o8 a + S1x1x1024.size a ≤ S2x256x1024.size a) :
    Prog (TpuEff nD τ sig (Elt F) Λ₀ .tc) Unit :=
  smemLoadElt A (Rect.unit (s := S1x1x256) o6 S1x1x1.size h6) (View.loads_smem_one rfl numel1_S1x1x1)
    (Shape.Idx.first (numel1_S1x1x1.symm ▸ Nat.one_pos)) fun v =>
  .op (.assume (C v) (dC v)) fun hw =>
  Prog.op (.enqueueDma (act.slice (Rect.unit (s := S33792x1024) ![v.toNat, 0] S1x1024.size (hC v hw.down)) (fun _ => rfl))
      (.here ((buf.slice (Rect.unit (s := S2x256x1024) o8 S1x1x1024.size h8) (fun _ => rfl)).squeeze S1x1024 squeezes_S1x1x1024_S1x1024))
      (.dma ((cc0_scratch1.slice (Rect.unit (s := S2) o7 S1.size h7)).squeeze S_ squeezes_S1_S_).sem)
      (View.wordExact_bits rfl) ((View.wordExact_bits rfl).reshape _ _) ⟨Or.inl rfl, trivial⟩) fun _ => .ret ⟨⟩

variable (c : Dev nD)

theorem smem_read (A : Memref sig .tc .smem S1x1x256 .i32) (f : Buf (Elt F) (A.view.loc (c : Thread nD τ))) (k : Fin 256)
    (h6 : ∀ a, (![0, 0, k.val] : Fin 3 → ℕ) a + S1x1x1.size a ≤ S1x1x256.size a) (x) :
    (A.access (Rect.unit (s := S1x1x256) ![0, 0, k.val] S1x1x1.size h6)).read (Elt F) f x = A.view.read (Elt F) f (ix3 (0 : Fin 1) (0 : Fin 1) k) := by
  show A.view.read (Elt F) f ((Rect.unit (s := S1x1x256) ![0, 0, k.val] S1x1x1.size h6).emb x) = _
  congr 1
  funext a
  have e0 : (x 0).val = 0 := by have : (x 0).val < 1 := (x 0).isLt; omega
  have e1 : (x 1).val = 0 := by have : (x 1).val < 1 := (x 1).isLt; omega
  have e2 : (x 2).val = 0 := by have : (x 2).val < 1 := (x 2).isLt; omega
  fin_cases a <;> apply Fin.ext
  · show 0 + 1 * (x 0).val = 0; omega
  · show 0 + 1 * (x 1).val = 0; omega
  · show k.val + 1 * (x 2).val = k.val; omega

/-- A whole token lends one row. -/
theorem lend (w : Fin 33792) (n : ℕ) (h : S33792x1024.Idx → Elt F .f32) :
    tokAt c n h ⊢ iprop(srcAt c w n h ∗ lentAt c w n h : sProp 𝕄) :=
  (pointsTo_split_subset (ℓ := act.view.loc (c : Thread nD τ)) (f := h) (Finset.subset_univ (src w).view.set)).1
theorem unlend (w : Fin 33792) (n : ℕ) (h : S33792x1024.Idx → Elt F .f32) :
    iprop(srcAt c w n h ∗ lentAt c w n h) ⊢ (tokAt c n h : sProp 𝕄) :=
  (pointsTo_split_subset (ℓ := act.view.loc (c : Thread nD τ)) (f := h) (Finset.subset_univ (src w).view.set)).2

/-- What a finished copy leaves is its delivery. -/
theorem delivered (s : Fin 2) (k : Fin 256) (h : S33792x1024.Idx → Elt F .f32) (tk : Fin 256 → Fin 33792)
    (fd : S2x256x1024.Idx → Elt F .f32) (w : Fin 33792) (hw : tk k = w) :
    iprop(((row s k).view.loc (c : Thread nD τ) ↦[(row s k).view.set]{fullShare}
          ((row s k).view.write (Elt F) fd ((src w).view.read (Elt F) h) Finset.univ)) ∗ srcAt c w (256 * s.val + k.val) h)
      ⊢ (deliv c s h tk k : sProp 𝕄) := by
  subst hw
  unfold deliv
  exact sep_mono (Entails.of_eq (pointsTo_congr (copied s k h tk fd))) .rfl

theorem start_trip (A : Memref sig .tc .smem S1x1x256 .i32)
    (C : BitVec 32 → Prop) (dC : ∀ v, Decidable (C v)) (hC : ∀ v, C v → ∀ a, (![v.toNat, 0] : Fin 2 → ℕ) a + S1x1024.size a ≤ S33792x1024.size a)
    (hC' : ∀ v : BitVec 32, v.toNat < 33792 → C v)
    (o6 : Fin 3 → ℕ) (h6 : ∀ a, o6 a + S1x1x1.size a ≤ S1x1x256.size a)
    (o7 : Fin 1 → ℕ) (h7 : ∀ a, o7 a + S1.size a ≤ S2.size a)
    (o8 : Fin 3 → ℕ) (h8 : ∀ a, o8 a + S1x1x1024.size a ≤ S2x256x1024.size a)
    (s : Fin 2) (k : Fin 256) (e6 : o6 = ![0, 0, k.val]) (e7 : o7 = ![s.val]) (e8 : o8 = ![s.val, k.val, 0])
    (h : S33792x1024.Idx → Elt F .f32) (tk : Fin 256 → Fin 33792)
    (f : Buf (Elt F) (A.view.loc (c : Thread nD τ))) (q : PosShare TreeShare)
    (hf : ∀ j : Fin 256, BitVec.toNat (A.view.read (Elt F) f (ix3 (0 : Fin 1) (0 : Fin 1) j)) = (tk j).val)
    (acc : Unit) :
    iprop((A.view.loc (c : Thread nD τ) ↦[A.view.set]{q} f) ∗ gat c s h tk k.val)
      ⊢ wp frame (wpE (defs₀ (F := F)) Variants.none (c : Thread nD τ) none) Set.univ
          (startTrip (F := F) A C dC hC o6 h6 o7 h7 o8 h8)
          (fun _ => iprop((A.view.loc (c : Thread nD τ) ↦[A.view.set]{q} f) ∗ gat c s h tk (k.val + 1))) := by
  subst e6 e7 e8
  have hk := k.isLt
  unfold gat startTrip
  rw [Ring.bigSep_rangeSet_head (NB := 256) (lo := k.val) (hi := 256) hk hk,
    Ring.bigSep_rangeSet_last (NB := 256) (lo := 0) (hi := k.val + 1) (by omega) (by omega)]
  iintro ⟨HA, HB, ⟨⟨⟨%fd, Hrow⟩, Htok⟩, Hrest⟩, Hlent⟩
  iapply (wp_smemLoadElt_named Variants.none (c : Thread nD τ) none Set.univ (m := A) (S := A.view.set) (View.set_slice_subset _ _)) $$ HA
  iintro HA %v %hv
  rw [smem_read (F := F) c A f k h6] at hv
  have hvt : v.toNat = (tk k).val := by rw [hv]; exact hf k
  have hvlt : v.toNat < 33792 := by rw [hvt]; exact (tk k).isLt
  iapply (wp_assume Variants.none (c : Thread nD τ) none Set.univ (hC' v hvlt))
  have htk : tk k = ⟨v.toNat, hvlt⟩ := Fin.ext hvt.symm
  ihave Htok' := (lend c (tk k) (256 * s.val + k.val) h) $$ Htok
  icases Htok' with ⟨Hsrc, Haway⟩
  iapply (Transfers.wp_dmaBatch (countersEmb (U := Pipeline.UD sig nD τ)) Variants.none (c : Thread nD τ) none
    (src := src ⟨v.toNat, hvlt⟩) (dst := row s k) (sm := .dma (cell s)) (Sd := (row s k).view.set)
    (q := Transfers.shareTokN fullShare (256 * s.val + k.val)) (fs := h) (fd := fd) (D := deliv c s h tk) (j := k.val) (u := 0)
    () NN (row_amount s k) (Finset.Subset.refl _) hk (Nat.zero_le _) ?hD) $$ [Hsrc Hrow HB]
  case hD => exact delivered c s k h tk fd _ htk
  · rw [htk]
    isplitl [Hsrc]; · iexact Hsrc
    isplitl [Hrow]; · iexact Hrow
    iexact HB
  iintro HB
  sl_step
  isplitl [HA]; · iexact HA
  isplitl [HB]; · iexact HB
  isplitl [Hrest]; · iexact Hrest
  isplitl [Haway]; · iexact Haway
  iexact Hlent

end Cert.Kernel2Ideal.Moe
-- ==== Proof.MoeSlots.lean ====
/- Which slot each grid point uses: point `t` reads slot `t mod 2` and fills the other for point `t + 1`. The offsets the
   body computes, in closed form. -/
module

public import proofs.«01_k».proof.Proof.Gen.Kernel2Ideal
public import Idealize.ShloMosaic.Lib.Affine

@[expose] public section

namespace Cert.Kernel2Ideal.Moe

open Cert.Kernel2Ideal Cert.Kernel2Ideal.Gen
open Idealize.ShloMosaic

/-- The slot of block `n`. -/
def sl (n : ℕ) : Fin 2 := ⟨n % 2, Nat.mod_lt _ (by omega)⟩

theorem sl_ne (n : ℕ) : sl (n + 1) ≠ sl n := by
  intro h; have := congrArg Fin.val h; unfold sl at this; dsimp only at this; omega

/-- The remainder of the grid coordinate by two, with the sign correction the body makes. -/
theorem parity (n : ℕ) (r : n < 560) :
    Affine.IsInt
      (Scalar.select
        (Scalar.andi
          (Scalar.xori (Scalar.cmpi .slt (Scalar.remsi (BitVec.ofNat 32 n) (Scalar.select (Scalar.cmpi .eq 2#32 0#32) 1#32 2#32)) 0#32)
            (Scalar.cmpi .slt (Scalar.select (Scalar.cmpi .eq 2#32 0#32) 1#32 2#32) 0#32))
          (Scalar.cmpi .ne (Scalar.remsi (BitVec.ofNat 32 n) (Scalar.select (Scalar.cmpi .eq 2#32 0#32) 1#32 2#32)) 0#32))
        (Scalar.addi (Scalar.remsi (BitVec.ofNat 32 n) (Scalar.select (Scalar.cmpi .eq 2#32 0#32) 1#32 2#32))
          (Scalar.select (Scalar.cmpi .eq 2#32 0#32) 1#32 2#32))
        (Scalar.remsi (BitVec.ofNat 32 n) (Scalar.select (Scalar.cmpi .eq 2#32 0#32) 1#32 2#32)))
      ((n : Int) % 2) := by
  have h_arg0 : Affine.IsInt (BitVec.ofNat 32 n) ((n : Int)) := Affine.ofNat _ (by omega)
  have h2 : Affine.IsInt 2#32 (2) := Affine.ofNat _ (by omega)
  have h0 : Affine.IsInt 0#32 (0) := Affine.ofNat _ (by omega)
  have h1 : Affine.IsInt 1#32 (1) := Affine.ofNat _ (by omega)
  have h_v0 : Affine.Fails _ := Affine.eq_fails h2 h0 (by omega)
  have h_v1 : Affine.IsInt _ (2) := Affine.select_fails h_v0 h1 h2 (by omega)
  have h_v2 : Affine.IsInt _ ((n : Int) % 2) := Affine.remsi h_arg0 h_v1 (by omega)
  have h_v4 : Affine.Fails _ := Affine.slt_fails h_v2 h0 (by omega)
  have h_v5 : Affine.Fails _ := Affine.slt_fails h_v1 h0 (by omega)
  have h_v6 : Affine.Fails _ := Affine.xori_ff h_v4 h_v5
  have h_v3 : Affine.Term _ := Affine.cmpi_term .ne h_v2 h0
  have h_v7 : Affine.Fails _ := Affine.andi_fails_left h_v6 h_v3
  have h_v8 : Affine.IsInt _ ((n : Int) % 2 + 2) := Affine.addi h_v2 h_v1 (by omega)
  exact Affine.select_fails h_v7 h_v8 h_v2 (by omega)

theorem other (n : ℕ) (r : n < 560) {x : BitVec 32} (h : Affine.IsInt x ((n : Int) % 2)) :
    Affine.IsInt (Scalar.subi 1#32 x) (((sl (n + 1)).val : Int)) :=
  Affine.subi (Affine.ofNat _ (by omega) : Affine.IsInt 1#32 1) h (by unfold sl; dsimp only; omega)

theorem trip_int (k : ℕ) (hk : k < 256) : Affine.IsInt (Scf.iv 0#32 1#32 k) (k : Int) :=
  Affine.iv (Affine.ofNat _ (by omega) : Affine.IsInt 0#32 0) (Affine.ofNat _ (by omega) : Affine.IsInt 1#32 1) k (by omega)

theorem zero_int : Affine.IsInt 0#32 0 := Affine.ofNat 0 (by omega)

variable (i : grid0.Coords)

theorem sl_int (n : ℕ) : ((n : Int) % 2) = ((sl n).val : ℕ) := by unfold sl; dsimp only; omega

theorem off3_eq : k0_off3 i = ![(sl (i 0).val).val] :=
  Affine.vec_cons (parity (i 0).val (i 0).isLt) (sl_int _) Affine.vec_nil
theorem off7_eq : k0_off7 i = ![(sl ((i 0).val + 1)).val] :=
  Affine.vec_cons (other (i 0).val (i 0).isLt (parity (i 0).val (i 0).isLt)) rfl Affine.vec_nil
theorem off10_eq : k0_off10 i = ![(sl (i 0).val).val] :=
  Affine.vec_cons (parity (i 0).val (i 0).isLt) (sl_int _) Affine.vec_nil
theorem off13_eq : k0_off13 i = ![(sl ((i 0).val + 1)).val] :=
  Affine.vec_cons (other (i 0).val (i 0).isLt (parity (i 0).val (i 0).isLt)) rfl Affine.vec_nil
theorem off12_eq : k0_off12 i = ![(sl (i 0).val).val, 0, 0] :=
  Affine.vec_cons (Affine.indexCast (parity (i 0).val (i 0).isLt)) (sl_int _)
    (Affine.vec_cons zero_int rfl (Affine.vec_cons zero_int rfl Affine.vec_nil))

theorem off4_eq (k : Fin k0_t1_loop.trips) : k0_off4 i k = ![(sl (i 0).val).val, k.val, 0] :=
  Affine.vec_cons (parity (i 0).val (i 0).isLt) (sl_int _)
    (Affine.vec_cons (trip_int k.val (Nat.lt_of_lt_of_le k.isLt k0_t1_abs.2.1)) rfl (Affine.vec_cons zero_int rfl Affine.vec_nil))
theorem off8_eq (k : Fin k0_t2_loop.trips) : k0_off8 i k = ![(sl ((i 0).val + 1)).val, k.val, 0] :=
  Affine.vec_cons (other (i 0).val (i 0).isLt (parity (i 0).val (i 0).isLt)) rfl
    (Affine.vec_cons (trip_int k.val (Nat.lt_of_lt_of_le k.isLt k0_t2_abs.2.1)) rfl (Affine.vec_cons zero_int rfl Affine.vec_nil))

theorem trips1 : k0_t1_loop.trips = 256 := by decide
theorem trips2 : k0_t2_loop.trips = 256 := by decide
theorem trips3 : k0_t3_loop.trips = 256 := by decide
theorem trips4 : k0_t4_loop.trips = 256 := by decide

/-- The first point fills its own slot too, and the last one waits for what it started itself. -/
theorem cond1_iff : k0_cond1 i = 1#1 ↔ (i 0).val = 0 := by
  have key : ∀ n : Fin 560, Scalar.cmpi .ne (Scalar.extui (Scalar.cmpi .eq (BitVec.ofNat 32 n.val) 0#32) : BitVec 32) 0#32 = 1#1 ↔ n.val = 0 := by decide
  exact key (i 0)
theorem cond2_iff : k0_cond2 i = 1#1 ↔ (i 0).val = 559 := by
  have key : ∀ n : Fin 560, Scalar.cmpi .ne (Scalar.extui (Scalar.cmpi .eq (BitVec.ofNat 32 n.val) 559#32) : BitVec 32) 0#32 = 1#1 ↔ n.val = 559 := by decide
  exact key (i 0)

end Cert.Kernel2Ideal.Moe
-- ==== Proof.MoeLoops.lean ====
/- The four loops of the body: two start the copies of a slot, two wait for them. -/
module

public import proofs.«01_k».proof.Proof.MoeGather
public import proofs.«01_k».proof.Proof.MoeSlots

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- A slot at rest: its semaphore at zero, its rows owned, its read tokens in hand. -/
def idle (s : Fin 2) (h : S33792x1024.Idx → Elt F .f32) : sProp 𝕄 :=
  iprop(semVal ((c : Thread nD τ), SemLoc.dma (cell s)) 0
    ∗ bigSep Finset.univ (fun j : Fin 256 => iprop((∃ f, rowAt c s j f) ∗ tokAt c (256 * s.val + j.val) h)))

/-- A slot filled: the same, its rows the gathered ones. -/
def full (s : Fin 2) (h : S33792x1024.Idx → Elt F .f32) (tk : Fin 256 → Fin 33792) : sProp 𝕄 :=
  iprop(semVal ((c : Thread nD τ), SemLoc.dma (cell s)) 0
    ∗ bigSep Finset.univ (fun j : Fin 256 => iprop(rowAt c s j (gath h tk) ∗ tokAt c (256 * s.val + j.val) h)))

/-- A slot in flight: all its copies started, none waited for. -/
def flying (s : Fin 2) (h : S33792x1024.Idx → Elt F .f32) (tk : Fin 256 → Fin 33792) : sProp 𝕄 :=
  iprop(batch c s h tk 256 0 ∗ bigSep Finset.univ (fun j : Fin 256 => lentAt c (tk j) (256 * s.val + j.val) h))

theorem full_idle (s : Fin 2) (h : S33792x1024.Idx → Elt F .f32) (tk : Fin 256 → Fin 33792) : full c s h tk ⊢ (idle c s h : sProp 𝕄) := by
  unfold full idle
  have one : ∀ j : Fin 256, iprop(rowAt c s j (gath h tk) ∗ tokAt c (256 * s.val + j.val) h)
      ⊢ (iprop((∃ f, rowAt c s j f) ∗ tokAt c (256 * s.val + j.val) h) : sProp 𝕄) := by
    intro j
    iintro ⟨H, HT⟩
    isplitl [H]; · iexists _; iexact H
    iexact HT
  exact sep_mono .rfl (BI.bigSep_mono fun j _ => one j)

theorem idle_gat (s : Fin 2) (h : S33792x1024.Idx → Elt F .f32) (tk : Fin 256 → Fin 33792) :
    idle c s h ⊢ (iprop(|={Set.univ}=> gat c s h tk 0) : sProp 𝕄) := by
  unfold idle gat
  rw [Ring.rangeSet_univ, Ring.rangeSet_empty (Nat.le_refl 0)]
  iintro ⟨HV, HR⟩
  imod (Transfers.batch_alloc' (Lvl := ℕ) (countersEmb (U := Pipeline.UD sig nD τ)) (c : Thread nD τ) () NN (deliv c s h tk)
    (sm := .dma (cell s)) (E := Set.univ)) $$ HV with HB
  imodintro
  isplitl [HB]; · iexact HB
  isplitl [HR]; · iexact HR
  rw [BI.bigSep_empty]; iempintro

theorem gat_flying (s : Fin 2) (h : S33792x1024.Idx → Elt F .f32) (tk : Fin 256 → Fin 33792) :
    gat c s h tk 256 ⊢ (flying c s h tk : sProp 𝕄) := by
  unfold flying gat
  rw [Ring.rangeSet_univ, Ring.rangeSet_empty (Nat.le_refl 256)]
  iintro ⟨HB, -, HL⟩
  isplitl [HB]; · iexact HB
  iexact HL

/-! ### Starting -/

section Start

variable (i : grid0.Coords) (arg1 : Memref sig .tc .smem S560 .i32) (harg1 : arg1.IsWhole)
  (arg2 : Memref sig .tc .smem S1x1x256 .i32) (harg2 : arg2.IsWhole) (arg3 : Memref sig .tc .smem S1x1x256 .i32) (harg3 : arg3.IsWhole)
  (harg4 : act.IsWhole) (arg5 : Memref sig .tc .vmem S1x1024x2048 .bf16) (harg5 : arg5.IsWhole)
  (arg6 : Memref sig .tc .vmem S1x1x2048 .f32) (harg6 : arg6.IsWhole) (arg7 : Memref sig .tc .vmem S1x1024x1024 .bf16) (harg7 : arg7.IsWhole)
  (arg8 : Memref sig .tc .vmem S1x1x1024 .f32) (harg8 : arg8.IsWhole) (arg9 : Memref sig .tc .vmem S256x1024 .f32) (harg9 : arg9.IsWhole)
  (harg10 : buf.IsWhole)

theorem chk_row (v : BitVec 32) (h : v.toNat < 33792) : ∀ a, (![v.toNat, 0] : Fin 2 → ℕ) a + S1x1024.size a ≤ S33792x1024.size a :=
  src_inb ⟨v.toNat, h⟩

theorem start1 (h1 : k0_cond1 i = 1#1) (h : S33792x1024.Idx → Elt F .f32) (tk : Fin 256 → Fin 33792)
    (f : Buf (Elt F) (arg2.view.loc (c : Thread nD τ))) (q : PosShare TreeShare)
    (hf : ∀ j : Fin 256, BitVec.toNat (arg2.view.read (Elt F) f (ix3 (0 : Fin 1) (0 : Fin 1) j)) = (tk j).val)
    {β : Type} {kk : Unit → Prog (TpuEff nD τ sig (Elt F) Λ₀ .tc) β} {Q : β → sProp 𝕄} :
    iprop((arg2.view.loc (c : Thread nD τ) ↦[arg2.view.set]{q} f) ∗ idle c (sl (i 0).val) h)
      ⊢ iprop((iprop((arg2.view.loc (c : Thread nD τ) ↦[arg2.view.set]{q} f) ∗ flying c (sl (i 0).val) h tk)
            -∗ wp frame (wpE (defs₀ (F := F)) Variants.none (c : Thread nD τ) none) Set.univ (kk ⟨⟩) Q)
          -∗ wp frame (wpE (defs₀ (F := F)) Variants.none (c : Thread nD τ) none) Set.univ
              (Scf.Loop.for k0_t1_loop (k0_t1_ok i h1) ⟨⟩
                (k0_t1_body i arg1 harg1 arg2 harg2 arg3 harg3 act harg4 arg5 harg5 arg6 harg6 arg7 harg7 arg8 harg8 arg9 harg9 buf harg10 cc0_scratch1 h1) >>= kk) Q) := by
  iintro ⟨HA, HI⟩ HK
  imod (idle_gat c (sl (i 0).val) h tk) $$ HI with HG
  iapply (Scf.wp_for_bind frame (wpE (defs₀ (F := F)) Variants.none (c : Thread nD τ) none) Set.univ k0_t1_loop.lb k0_t1_loop.ub k0_t1_loop.st (k0_t1_ok i h1) ⟨⟩
    (k0_t1_body i arg1 harg1 arg2 harg2 arg3 harg3 act harg4 arg5 harg5 arg6 harg6 arg7 harg7 arg8 harg8 arg9 harg9 buf harg10 cc0_scratch1 h1)
    (fun k _ => iprop((arg2.view.loc (c : Thread nD τ) ↦[arg2.view.set]{q} f) ∗ gat c (sl (i 0).val) h tk k))
    (fun k acc => start_trip c arg2 (k0_chk1 i) (k0_chk1.dec i) (fun v hv => hv h1) (fun v hv _ => chk_row v hv)
      (k0_off2 k) (k0_off2_inb i k h1) (k0_off3 i) (k0_off3_inb i h1) (k0_off4 i k) (k0_off4_inb i k h1)
      (sl (i 0).val) ⟨k.val, Nat.lt_of_lt_of_le k.isLt k0_t1_abs.2.1⟩ (k0_off2_eq k) (off3_eq i) (off4_eq i k) h tk f q hf acc)) $$ [HA HG]
  · isplitl [HA] <;> iassumption
  iintro %acc
  rw [show Scf.trips k0_t1_loop.lb k0_t1_loop.ub k0_t1_loop.st = 256 from trips1]
  iintro ⟨HA, HG⟩
  iapply HK
  isplitl [HA]; · iexact HA
  iapply (gat_flying c (sl (i 0).val) h tk); iexact HG

theorem start2 (h : S33792x1024.Idx → Elt F .f32) (tk : Fin 256 → Fin 33792)
    (f : Buf (Elt F) (arg3.view.loc (c : Thread nD τ))) (q : PosShare TreeShare)
    (hf : ∀ j : Fin 256, BitVec.toNat (arg3.view.read (Elt F) f (ix3 (0 : Fin 1) (0 : Fin 1) j)) = (tk j).val)
    {β : Type} {kk : Unit → Prog (TpuEff nD τ sig (Elt F) Λ₀ .tc) β} {Q : β → sProp 𝕄} :
    iprop((arg3.view.loc (c : Thread nD τ) ↦[arg3.view.set]{q} f) ∗ idle c (sl ((i 0).val + 1)) h)
      ⊢ iprop((iprop((arg3.view.loc (c : Thread nD τ) ↦[arg3.view.set]{q} f) ∗ flying c (sl ((i 0).val + 1)) h tk)
            -∗ wp frame (wpE (defs₀ (F := F)) Variants.none (c : Thread nD τ) none) Set.univ (kk ⟨⟩) Q)
          -∗ wp frame (wpE (defs₀ (F := F)) Variants.none (c : Thread nD τ) none) Set.univ
              (Scf.Loop.for k0_t2_loop k0_t2_ok ⟨⟩
                (k0_t2_body i arg1 harg1 arg2 harg2 arg3 harg3 act harg4 arg5 harg5 arg6 harg6 arg7 harg7 arg8 harg8 arg9 harg9 buf harg10 cc0_scratch1) >>= kk) Q) := by
  iintro ⟨HA, HI⟩ HK
  imod (idle_gat c (sl ((i 0).val + 1)) h tk) $$ HI with HG
  iapply (Scf.wp_for_bind frame (wpE (defs₀ (F := F)) Variants.none (c : Thread nD τ) none) Set.univ k0_t2_loop.lb k0_t2_loop.ub k0_t2_loop.st k0_t2_ok ⟨⟩
    (k0_t2_body i arg1 harg1 arg2 harg2 arg3 harg3 act harg4 arg5 harg5 arg6 harg6 arg7 harg7 arg8 harg8 arg9 harg9 buf harg10 cc0_scratch1)
    (fun k _ => iprop((arg3.view.loc (c : Thread nD τ) ↦[arg3.view.set]{q} f) ∗ gat c (sl ((i 0).val + 1)) h tk k))
    (fun k acc => start_trip c arg3 k0_chk2 k0_chk2.dec (fun v hv => hv) (fun v hv => chk_row v hv)
      (k0_off6 k) (k0_off6_inb k) (k0_off7 i) (k0_off7_inb i) (k0_off8 i k) (k0_off8_inb i k)
      (sl ((i 0).val + 1)) ⟨k.val, Nat.lt_of_lt_of_le k.isLt k0_t2_abs.2.1⟩ (k0_off6_eq k) (off7_eq i) (off8_eq i k) h tk f q hf acc)) $$ [HA HG]
  · isplitl [HA] <;> iassumption
  iintro %acc
  rw [show Scf.trips k0_t2_loop.lb k0_t2_loop.ub k0_t2_loop.st = 256 from trips2]
  iintro ⟨HA, HG⟩
  iapply HK
  isplitl [HA]; · iexact HA
  iapply (gat_flying c (sl ((i 0).val + 1)) h tk); iexact HG

end Start

/-! ### Waiting -/

/-- One trip: wait for one row. -/
def waitTrip (o10 : Fin 1 → ℕ) (h10 : ∀ a, o10 a + S1.size a ≤ S2.size a)
    (o11 : Fin 3 → ℕ) (h11 : ∀ a, o11 a + S1x1x1024.size a ≤ S2x256x1024.size a) :
    Prog (TpuEff nD τ sig (Elt F) Λ₀ .tc) Unit :=
  .op (.waitDma2 ((cc0_scratch1.slice (Rect.unit (s := S2) o10 S1.size h10)).squeeze S_ squeezes_S1_S_).sem
      (act.slice (Rect.unit (s := S33792x1024) ![0, 0] S1x1024.size inb_S33792x1024_S1x1024_0_0) (fun _ => rfl))
      ((buf.slice (Rect.unit (s := S2x256x1024) o11 S1x1x1024.size h11) (fun _ => rfl)).squeeze S1x1024 squeezes_S1x1x1024_S1x1024)
      (View.wordExact_bits rfl) ((View.wordExact_bits rfl).reshape _ _)) fun _ => .ret ⟨⟩

/-- Before wait `k`: the batch with `k` rows waited for, or, after the last, the semaphore at zero and every delivery. -/
def drain (s : Fin 2) (h : S33792x1024.Idx → Elt F .f32) (tk : Fin 256 → Fin 33792) (k : ℕ) : sProp 𝕄 :=
  iprop((∃ W, owes (c : Thread nD τ) 0 W)
    ∗ (if k < 256 then batch c s h tk 256 (k * NN)
       else iprop(semVal ((c : Thread nD τ), SemLoc.dma (cell s)) 0 ∗ bigSep Finset.univ (deliv c s h tk))))

theorem wait_trip (o10 : Fin 1 → ℕ) (h10 : ∀ a, o10 a + S1.size a ≤ S2.size a)
    (o11 : Fin 3 → ℕ) (h11 : ∀ a, o11 a + S1x1x1024.size a ≤ S2x256x1024.size a)
    (s : Fin 2) (k : Fin 256) (e10 : o10 = ![s.val])
    (h : S33792x1024.Idx → Elt F .f32) (tk : Fin 256 → Fin 33792) (acc : Unit) :
    drain c s h tk k.val
      ⊢ wp frame (wpE (defs₀ (F := F)) Variants.none (c : Thread nD τ) none) Set.univ (waitTrip (F := F) o10 h10 o11 h11)
          (fun _ => drain c s h tk (k.val + 1)) := by
  subst e10
  have hk := k.isLt
  have hN := nn_eq
  unfold drain waitTrip
  simp only [if_pos hk]
  iintro ⟨⟨%W, HO⟩, HB⟩
  rcases Nat.lt_or_ge (k.val + 1) 256 with h1 | h1
  · simp only [if_pos h1]
    iapply (Transfers.wp_waitBatch (countersEmb (U := Pipeline.UD sig nD τ)) Variants.none (c : Thread nD τ) none
      (sem := cell s) (dstw := (buf.slice (Rect.unit (s := S2x256x1024) o11 S1x1x1024.size h11) (fun _ => rfl)).squeeze S1x1024 squeezes_S1x1x1024_S1x1024)
      () (N := NN) rfl (D := deliv c s h tk) (u := k.val * NN) (by rw [hN]; omega) (W := W)) $$ [HO HB]
    · isplitl [HB]; · iexact HB
      iexact HO
    iintro ⟨HB, HO⟩
    sl_step
    isplitl [HO]; · iexists _; iexact HO
    rw [show (k.val + 1) * NN = k.val * NN + NN from Nat.succ_mul _ _]
    iexact HB
  · simp only [if_neg (Nat.not_lt.mpr h1)]
    iapply (Transfers.wp_waitBatchLast (countersEmb (U := Pipeline.UD sig nD τ)) Variants.none (c : Thread nD τ) none
      (sem := cell s) (dstw := (buf.slice (Rect.unit (s := S2x256x1024) o11 S1x1x1024.size h11) (fun _ => rfl)).squeeze S1x1024 squeezes_S1x1x1024_S1x1024)
      () (N := NN) rfl (by rw [hN]; omega) (D := deliv c s h tk) (u := k.val * NN) (by rw [hN]; omega) (W := W)) $$ [HO HB]
    · isplitl [HB]; · iexact HB
      iexact HO
    iintro ⟨HD, HV, HO⟩
    sl_step
    isplitl [HO]; · iexists _; iexact HO
    isplitl [HV]; · iexact HV
    iexact HD

/-- Every delivery, with what the tokens kept back, is the slot filled. -/
theorem drained (s : Fin 2) (h : S33792x1024.Idx → Elt F .f32) (tk : Fin 256 → Fin 33792) :
    iprop(bigSep Finset.univ (deliv c s h tk) ∗ bigSep Finset.univ (fun j : Fin 256 => lentAt c (tk j) (256 * s.val + j.val) h))
      ⊢ (bigSep Finset.univ (fun j : Fin 256 => iprop(rowAt c s j (gath h tk) ∗ tokAt c (256 * s.val + j.val) h)) : sProp 𝕄) := by
  have one : ∀ j : Fin 256, iprop(deliv c s h tk j ∗ lentAt c (tk j) (256 * s.val + j.val) h)
      ⊢ (iprop(rowAt c s j (gath h tk) ∗ tokAt c (256 * s.val + j.val) h) : sProp 𝕄) := by
    intro j
    unfold deliv
    iintro ⟨⟨HR, HS⟩, HL⟩
    isplitl [HR]; · iexact HR
    iapply (unlend c (tk j) (256 * s.val + j.val) h)
    isplitl [HS] <;> iassumption
  exact (Entails.of_eq (BI.bigSep_sep _ _ _).symm).trans (BI.bigSep_mono fun j _ => one j)

section Drain

variable (i : grid0.Coords) (arg1 : Memref sig .tc .smem S560 .i32) (harg1 : arg1.IsWhole)
  (arg2 : Memref sig .tc .smem S1x1x256 .i32) (harg2 : arg2.IsWhole) (arg3 : Memref sig .tc .smem S1x1x256 .i32) (harg3 : arg3.IsWhole)
  (harg4 : act.IsWhole) (arg5 : Memref sig .tc .vmem S1x1024x2048 .bf16) (harg5 : arg5.IsWhole)
  (arg6 : Memref sig .tc .vmem S1x1x2048 .f32) (harg6 : arg6.IsWhole) (arg7 : Memref sig .tc .vmem S1x1024x1024 .bf16) (harg7 : arg7.IsWhole)
  (arg8 : Memref sig .tc .vmem S1x1x1024 .f32) (harg8 : arg8.IsWhole) (arg9 : Memref sig .tc .vmem S256x1024 .f32) (harg9 : arg9.IsWhole)
  (harg10 : buf.IsWhole)

theorem drain3 (h : S33792x1024.Idx → Elt F .f32) (tk : Fin 256 → Fin 33792)
    {β : Type} {kk : Unit → Prog (TpuEff nD τ sig (Elt F) Λ₀ .tc) β} {Q : β → sProp 𝕄} :
    iprop((∃ W, owes (c : Thread nD τ) 0 W) ∗ flying c (sl (i 0).val) h tk)
      ⊢ iprop((iprop((∃ W, owes (c : Thread nD τ) 0 W) ∗ full c (sl (i 0).val) h tk)
            -∗ wp frame (wpE (defs₀ (F := F)) Variants.none (c : Thread nD τ) none) Set.univ (kk ⟨⟩) Q)
          -∗ wp frame (wpE (defs₀ (F := F)) Variants.none (c : Thread nD τ) none) Set.univ
              (Scf.Loop.for k0_t3_loop k0_t3_ok ⟨⟩
                (k0_t3_body i arg1 harg1 arg2 harg2 arg3 harg3 act harg4 arg5 harg5 arg6 harg6 arg7 harg7 arg8 harg8 arg9 harg9 buf harg10 cc0_scratch1) >>= kk) Q) := by
  unfold flying
  iintro ⟨HO, HB, HL⟩ HK
  iapply (Scf.wp_for_bind frame (wpE (defs₀ (F := F)) Variants.none (c : Thread nD τ) none) Set.univ k0_t3_loop.lb k0_t3_loop.ub k0_t3_loop.st k0_t3_ok ⟨⟩
    (k0_t3_body i arg1 harg1 arg2 harg2 arg3 harg3 act harg4 arg5 harg5 arg6 harg6 arg7 harg7 arg8 harg8 arg9 harg9 buf harg10 cc0_scratch1)
    (fun k _ => drain c (sl (i 0).val) h tk k)
    (fun k acc => wait_trip c (k0_off10 i) (k0_off10_inb i) (k0_off11 i k) (k0_off11_inb i k)
      (sl (i 0).val) ⟨k.val, Nat.lt_of_lt_of_le k.isLt k0_t3_abs.2.1⟩ (off10_eq i) h tk acc)) $$ [HO HB]
  · unfold drain
    simp only [show (0 : ℕ) < 256 by omega, if_true, Nat.zero_mul]
    isplitl [HO] <;> iassumption
  iintro %acc
  rw [show Scf.trips k0_t3_loop.lb k0_t3_loop.ub k0_t3_loop.st = 256 from trips3]
  unfold drain full
  simp only [show ¬ (256 : ℕ) < 256 by omega, if_false]
  iintro ⟨HO, HV, HD⟩
  iapply HK
  isplitl [HO]; · iexact HO
  isplitl [HV]; · iexact HV
  iapply (drained c (sl (i 0).val) h tk)
  isplitl [HD] <;> iassumption

theorem drain4 (h2 : k0_cond2 i = 1#1) (h : S33792x1024.Idx → Elt F .f32) (tk : Fin 256 → Fin 33792)
    {β : Type} {kk : Unit → Prog (TpuEff nD τ sig (Elt F) Λ₀ .tc) β} {Q : β → sProp 𝕄} :
    iprop((∃ W, owes (c : Thread nD τ) 0 W) ∗ flying c (sl ((i 0).val + 1)) h tk)
      ⊢ iprop((iprop((∃ W, owes (c : Thread nD τ) 0 W) ∗ full c (sl ((i 0).val + 1)) h tk)
            -∗ wp frame (wpE (defs₀ (F := F)) Variants.none (c : Thread nD τ) none) Set.univ (kk ⟨⟩) Q)
          -∗ wp frame (wpE (defs₀ (F := F)) Variants.none (c : Thread nD τ) none) Set.univ
              (Scf.Loop.for k0_t4_loop (k0_t4_ok i h2) ⟨⟩
                (k0_t4_body i arg1 harg1 arg2 harg2 arg3 harg3 act harg4 arg5 harg5 arg6 harg6 arg7 harg7 arg8 harg8 arg9 harg9 buf harg10 cc0_scratch1 h2) >>= kk) Q) := by
  unfold flying
  iintro ⟨HO, HB, HL⟩ HK
  iapply (Scf.wp_for_bind frame (wpE (defs₀ (F := F)) Variants.none (c : Thread nD τ) none) Set.univ k0_t4_loop.lb k0_t4_loop.ub k0_t4_loop.st (k0_t4_ok i h2) ⟨⟩
    (k0_t4_body i arg1 harg1 arg2 harg2 arg3 harg3 act harg4 arg5 harg5 arg6 harg6 arg7 harg7 arg8 harg8 arg9 harg9 buf harg10 cc0_scratch1 h2)
    (fun k _ => drain c (sl ((i 0).val + 1)) h tk k)
    (fun k acc => wait_trip c (k0_off13 i) (k0_off13_inb i h2) (k0_off14 i k) (k0_off14_inb i k h2)
      (sl ((i 0).val + 1)) ⟨k.val, Nat.lt_of_lt_of_le k.isLt k0_t4_abs.2.1⟩ (off13_eq i) h tk acc)) $$ [HO HB]
  · unfold drain
    simp only [show (0 : ℕ) < 256 by omega, if_true, Nat.zero_mul]
    isplitl [HO] <;> iassumption
  iintro %acc
  rw [show Scf.trips k0_t4_loop.lb k0_t4_loop.ub k0_t4_loop.st = 256 from trips4]
  unfold drain full
  simp only [show ¬ (256 : ℕ) < 256 by omega, if_false]
  iintro ⟨HO, HV, HD⟩
  iapply HK
  isplitl [HO]; · iexact HO
  isplitl [HV]; · iexact HV
  iapply (drained c (sl ((i 0).val + 1)) h tk)
  isplitl [HD] <;> iassumption

end Drain

end Cert.Kernel2Ideal.Moe
-- ==== Proof.MoeBody.lean ====
/- One grid point of the body: what it takes, what it leaves, what it writes. -/
module

public import proofs.«01_k».proof.Proof.MoeLoops

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### A slot and its rows -/

theorem mem_row (s : Fin 2) (r : Fin 256) (y : S2x256x1024.Idx) :
    y ∈ (row s r).view.set ↔ (y 0).val = s.val ∧ (y 1).val = r.val := by
  constructor
  · intro hy
    have hy' : y ∈ Finset.univ.map (row s r).view.emb := hy
    obtain ⟨x, -, hx⟩ := Finset.mem_map.mp hy'
    have e : y = (ix3 s r (x 1) : S2x256x1024.Idx) := hx.symm.trans (row_emb s r x)
    rw [e]; exact ⟨rfl, rfl⟩
  · rintro ⟨h0, h1⟩
    show y ∈ Finset.univ.map (row s r).view.emb
    refine Finset.mem_map.mpr ⟨(ix2 (0 : Fin 1) (y 2) : S1x1024.Idx), Finset.mem_univ _, (row_emb s r _).trans ?_⟩
    funext a; fin_cases a <;> apply Fin.ext
    · exact h0.symm
    · exact h1.symm
    · rfl

theorem row_disjoint (s : Fin 2) (r r' : Fin 256) (h : r ≠ r') : Disjoint (row s r).view.set (row s r').view.set :=
  Finset.disjoint_left.mpr fun y hy hy' => h (Fin.ext (((mem_row s r y).mp hy).2.symm.trans ((mem_row s r' y).mp hy').2))

/-- The elements the load of slot `s` reads. -/
def slot (s : Fin 2) : Finset S2x256x1024.Idx := Finset.univ.filter fun y => (y 0).val = s.val

theorem slot_rows_set (s : Fin 2) : Finset.univ.biUnion (fun r : Fin 256 => ((row s r).view.set : Finset S2x256x1024.Idx)) = slot s := by
  ext y
  constructor
  · intro hy
    obtain ⟨r, -, hr⟩ := Finset.mem_biUnion.mp hy
    exact Finset.mem_filter.mpr ⟨Finset.mem_univ _, ((mem_row s r y).mp hr).1⟩
  · intro hy
    exact Finset.mem_biUnion.mpr ⟨y 1, Finset.mem_univ _, (mem_row s (y 1) y).mpr ⟨(Finset.mem_filter.mp hy).2, rfl⟩⟩

variable (c : Dev nD)

abbrev slotAt (s : Fin 2) (f : S2x256x1024.Idx → Elt F .f32) : sProp 𝕄 :=
  buf.view.loc (c : Thread nD τ) ↦[slot s]{fullShare} f

theorem slot_rows (s : Fin 2) (f : S2x256x1024.Idx → Elt F .f32) :
    (slotAt c s f : sProp 𝕄) = bigSep Finset.univ fun r : Fin 256 => rowAt c s r f :=
  Ring.pointsTo_sub_blocks (ℓ := buf.view.loc (c : Thread nD τ)) (B := Fin 256) (fun r => (row s r).view.set)
    (fun r r' h => row_disjoint s r r' h) (slot s) (slot_rows_set s) f

/-- A filled slot, its rows together. -/
theorem full_eq (s : Fin 2) (h : S33792x1024.Idx → Elt F .f32) (tk : Fin 256 → Fin 33792) :
    (full c s h tk : sProp 𝕄) = iprop(semVal ((c : Thread nD τ), SemLoc.dma (cell s)) 0
      ∗ slotAt c s (gath h tk) ∗ bigSep Finset.univ (fun j : Fin 256 => tokAt c (256 * s.val + j.val) h)) := by
  unfold full
  rw [slot_rows]
  exact congrArg (fun P => iprop(semVal ((c : Thread nD τ), SemLoc.dma (cell s)) 0 ∗ P)) (BI.bigSep_sep _ _ _)

theorem load_sub (s : Fin 2) (o : Fin 3 → ℕ) (ho : ∀ a, o a + S1x256x1024.size a ≤ S2x256x1024.size a) (e : o = ![s.val, 0, 0]) :
    buf.view.setOn (Rect.unit (s := S2x256x1024) o S1x256x1024.size ho).toLoadRect.set ⊆ slot s := by
  subst e
  intro y hy
  obtain ⟨x, hx, rfl⟩ := Finset.mem_map.mp hy
  refine Finset.mem_filter.mpr ⟨Finset.mem_univ _, ?_⟩
  have := ((Rect.mem_set_unit.mp hx) 0)
  have h1 : s.val ≤ (x 0).val := this.1
  have h2 : (x 0).val < s.val + 1 := this.2
  show (x 0).val = s.val
  omega

/-- The gathered rows, as the load sees them. -/
def rowsOf (h : S33792x1024.Idx → Elt F .f32) (tk : Fin 256 → Fin 33792) : Vec F S1x256x1024 .f32 :=
  fun y => h (ix2 (tk (y 1)) (y 2))

theorem load_gath (s : Fin 2) (o : Fin 3 → ℕ) (ho : ∀ a, o a + S1x256x1024.size a ≤ S2x256x1024.size a) (e : o = ![s.val, 0, 0])
    (h : S33792x1024.Idx → Elt F .f32) (tk : Fin 256 → Fin 33792) :
    buf.view.readAt (Elt F) (Rect.unit (s := S2x256x1024) o S1x256x1024.size ho).toLoadRect (gath h tk) = rowsOf h tk := by
  subst e
  funext y
  show h (ix2 (tk ((Rect.unit (s := S2x256x1024) ![s.val, 0, 0] S1x256x1024.size ho).emb y 1)) ((Rect.unit (s := S2x256x1024) ![s.val, 0, 0] S1x256x1024.size ho).emb y 2)) = _
  unfold rowsOf
  congr 2
  · refine congrArg tk (Fin.ext ?_); show 0 + 1 * (y 1).val = (y 1).val; omega
  · apply Fin.ext; show 0 + 1 * (y 2).val = (y 2).val; omega

/-! ### Whole blocks -/

theorem emb_zero {s : Shape} (off : Fin s.rank → ℕ) (e : ∀ a, off a = 0) (inb : ∀ a, off a + s.size a ≤ s.size a) (y : s.Idx) :
    (Rect.unit (s := s) off s.size inb).emb y = y := by
  funext a; apply Fin.ext
  show off a + 1 * (y a).val = (y a).val
  rw [e a]; omega

theorem readAt_zero {sp : Space} {s : Shape} {e : EltTy} (m : Memref sig .tc sp s e) (off : Fin s.rank → ℕ) (e0 : ∀ a, off a = 0)
    (inb : ∀ a, off a + s.size a ≤ s.size a) (f : m.view.ty.Contents (Elt F)) :
    m.view.readAt (Elt F) (Rect.unit (s := s) off s.size inb).toLoadRect f = m.view.read (Elt F) f := by
  funext y
  show m.view.read (Elt F) f ((Rect.unit (s := s) off s.size inb).emb y) = _
  rw [emb_zero off e0]

theorem read_store {sp : Space} {s : Shape} {e : EltTy} (m : Memref sig .tc sp s e) (off : Fin s.rank → ℕ) (e0 : ∀ a, off a = 0)
    (inb : ∀ a, off a + s.size a ≤ s.size a) (f : m.view.ty.Contents (Elt F)) (w : s.Idx → Elt F e) :
    m.view.read (Elt F) ((m.access (Rect.unit (s := s) off s.size inb)).write (Elt F) f w Finset.univ) = w := by
  funext y
  refine Eq.trans ?_ (View.read_slice_write_emb (v := m.view) (Rect.unit (s := s) off s.size inb) f w (Finset.mem_univ y))
  rw [emb_zero off e0]

/-- What one block's rows become. -/
def outOf (h : S33792x1024.Idx → Elt F .f32) (tk : Fin 256 → Fin 33792) (x5 : Vec F S1x1024x2048 .bf16) (x6 : Vec F S1x1x2048 .f32)
    (x7 : Vec F S1x1024x1024 .bf16) (x8 : Vec F S1x1x1024 .f32) : Vec F S256x1024 .f32 :=
  k0_pay1 (k0_pay2 (rowsOf h tk) x5 x6) (k0_pay3 (rowsOf h tk) x5 x6) (k0_pay4 (F := F)) x7 x8

section Body

variable (i : grid0.Coords) (arg1 : Memref sig .tc .smem S560 .i32) (harg1 : arg1.IsWhole)
  (arg2 : Memref sig .tc .smem S1x1x256 .i32) (harg2 : arg2.IsWhole) (arg3 : Memref sig .tc .smem S1x1x256 .i32) (harg3 : arg3.IsWhole)
  (harg4 : act.IsWhole) (arg5 : Memref sig .tc .vmem S1x1024x2048 .bf16) (harg5 : arg5.IsWhole)
  (arg6 : Memref sig .tc .vmem S1x1x2048 .f32) (harg6 : arg6.IsWhole) (arg7 : Memref sig .tc .vmem S1x1024x1024 .bf16) (harg7 : arg7.IsWhole)
  (arg8 : Memref sig .tc .vmem S1x1x1024 .f32) (harg8 : arg8.IsWhole) (arg9 : Memref sig .tc .vmem S256x1024 .f32) (harg9 : arg9.IsWhole)
  (harg10 : buf.IsWhole)

/-- The first part after its branch: start the next slot, wait for this one, load it, load the first weights. -/
def rest1 (a0 v9 : BitVec 32) : Prog (TpuEff nD τ sig (Elt F) Λ₀ .tc)
    (Σ' (arg0 : BitVec 32) (v9 : BitVec 32) (v26 : FVec F S256x2048 .f32) (v27 : FVec F S256x1024 .f32), FVec F S256x1024 .f32) :=
  Scf.Loop.for k0_t2_loop k0_t2_ok ⟨⟩ (k0_t2_body i arg1 harg1 arg2 harg2 arg3 harg3 act harg4 arg5 harg5 arg6 harg6 arg7 harg7 arg8 harg8 arg9 harg9 buf harg10 cc0_scratch1) >>= fun _ =>
  Scf.Loop.for k0_t3_loop k0_t3_ok ⟨⟩ (k0_t3_body i arg1 harg1 arg2 harg2 arg3 harg3 act harg4 arg5 harg5 arg6 harg6 arg7 harg7 arg8 harg8 arg9 harg9 buf harg10 cc0_scratch1) >>= fun _ =>
  .op (.load buf (Rect.unit (s := S2x256x1024) (k0_off12 i) S1x256x1024.size (k0_off12_inb i)).toLoadRect (View.loadsAt_vmem h_S1x256x1024)) fun (v17 : Vec F S1x256x1024 .f32) =>
  .op (.load arg5 (Rect.unit (s := S1x1024x2048) ![0, 0, 0] S1x1024x2048.size inb_S1x1024x2048_S1x1024x2048_0_0_0).toLoadRect (View.loadsAt_vmem h_S1x1024x2048)) fun (v20 : Vec F S1x1024x2048 .bf16) =>
  .op (.load arg6 (Rect.unit (s := S1x1x2048) ![0, 0, 0] S1x1x2048.size inb_S1x1x2048_S1x1x2048_0_0_0).toLoadRect (View.loadsAt_vmem h_S1x1x2048)) fun (v23 : Vec F S1x1x2048 .f32) =>
  .ret ⟨a0, v9, k0_pay2 v17 v20 v23, k0_pay3 v17 v20 v23, k0_pay4 (F := F)⟩

theorem part1_eq : ∃ a0 v9 : BitVec 32,
    (k0_part1 (F := F) i arg1 harg1 arg2 harg2 arg3 harg3 act harg4 arg5 harg5 arg6 harg6 arg7 harg7 arg8 harg8 arg9 harg9 buf harg10 cc0_scratch1)
      = if k0_h1 : k0_cond1 i = 1#1 then
          Scf.Loop.for k0_t1_loop (k0_t1_ok i k0_h1) ⟨⟩ (k0_t1_body i arg1 harg1 arg2 harg2 arg3 harg3 act harg4 arg5 harg5 arg6 harg6 arg7 harg7 arg8 harg8 arg9 harg9 buf harg10 cc0_scratch1 k0_h1)
            >>= fun _ => rest1 i arg1 harg1 arg2 harg2 arg3 harg3 harg4 arg5 harg5 arg6 harg6 arg7 harg7 arg8 harg8 arg9 harg9 harg10 a0 v9
        else rest1 i arg1 harg1 arg2 harg2 arg3 harg3 harg4 arg5 harg5 arg6 harg6 arg7 harg7 arg8 harg8 arg9 harg9 harg10 a0 v9 := by
  rw [k0_part1_eq_skeleton]
  exact ⟨_, _, rfl⟩

/-- The blocks the first part reads. -/
abbrev blk {sp : Space} {s : Shape} {e : EltTy} (m : Memref sig .tc sp s e) (q : PosShare TreeShare) (f : Buf (Elt F) (m.view.loc (c : Thread nD τ))) : sProp 𝕄 :=
  m.view.loc (c : Thread nD τ) ↦[m.view.set]{q} f

theorem rest1_spec (h : S33792x1024.Idx → Elt F .f32) (tkc tkn : Fin 256 → Fin 33792)
    (f3 : Buf (Elt F) (arg3.view.loc (c : Thread nD τ)))
    (f5 : Buf (Elt F) (arg5.view.loc (c : Thread nD τ))) (f6 : Buf (Elt F) (arg6.view.loc (c : Thread nD τ)))
    (q3 q5 q6 : PosShare TreeShare)
    (hf3 : ∀ j : Fin 256, BitVec.toNat (arg3.view.read (Elt F) f3 (ix3 (0 : Fin 1) (0 : Fin 1) j)) = (tkn j).val) (a0 v9 : BitVec 32)
    {Q : (Σ' (arg0 : BitVec 32) (v9 : BitVec 32) (v26 : FVec F S256x2048 .f32) (v27 : FVec F S256x1024 .f32), FVec F S256x1024 .f32) → sProp 𝕄} :
    iprop(blk c arg3 q3 f3 ∗ blk c arg5 q5 f5 ∗ blk c arg6 q6 f6
        ∗ (∃ W, owes (c : Thread nD τ) 0 W) ∗ flying c (sl (i 0).val) h tkc ∗ idle c (sl ((i 0).val + 1)) h)
      ⊢ iprop((iprop(blk c arg3 q3 f3 ∗ blk c arg5 q5 f5 ∗ blk c arg6 q6 f6
              ∗ (∃ W, owes (c : Thread nD τ) 0 W)
              ∗ idle c (sl (i 0).val) h ∗ flying c (sl ((i 0).val + 1)) h tkn)
            -∗ Q ⟨a0, v9, k0_pay2 (rowsOf h tkc) (arg5.view.read (Elt F) f5) (arg6.view.read (Elt F) f6),
                k0_pay3 (rowsOf h tkc) (arg5.view.read (Elt F) f5) (arg6.view.read (Elt F) f6), k0_pay4 (F := F)⟩)
          -∗ wp frame (wpE (defs₀ (F := F)) Variants.none (c : Thread nD τ) none) Set.univ
              (rest1 i arg1 harg1 arg2 harg2 arg3 harg3 harg4 arg5 harg5 arg6 harg6 arg7 harg7 arg8 harg8 arg9 harg9 harg10 a0 v9) Q) := by
  unfold rest1
  iintro ⟨H3, H5, H6, HO, HA, HB⟩ HK
  iapply (start2 c i arg1 harg1 arg2 harg2 arg3 harg3 harg4 arg5 harg5 arg6 harg6 arg7 harg7 arg8 harg8 arg9 harg9 harg10 h tkn f3 q3 hf3) $$ [H3 HB]
  · isplitl [H3] <;> iassumption
  iintro ⟨H3, HB⟩
  iapply (drain3 c i arg1 harg1 arg2 harg2 arg3 harg3 harg4 arg5 harg5 arg6 harg6 arg7 harg7 arg8 harg8 arg9 harg9 harg10 h tkc) $$ [HO HA]
  · isplitl [HO] <;> iassumption
  rw [full_eq]
  iintro ⟨HO, HV, HR, HT⟩
  iapply (wp_load (defs := defs₀ (F := F)) Variants.none (c : Thread nD τ) none (Set.univ) (load_sub (sl (i 0).val) (k0_off12 i) (k0_off12_inb i) (off12_eq i))) $$ HR
  iintro HR
  rw [load_gath (sl (i 0).val) (k0_off12 i) (k0_off12_inb i) (off12_eq i)]
  iapply (wp_load (defs := defs₀ (F := F)) Variants.none (c : Thread nD τ) none (Set.univ) (m := arg5) (S := arg5.view.set) (View.setOn_subset_set _ _)) $$ H5
  iintro H5
  iapply (wp_load (defs := defs₀ (F := F)) Variants.none (c : Thread nD τ) none (Set.univ) (m := arg6) (S := arg6.view.set) (View.setOn_subset_set _ _)) $$ H6
  iintro H6
  rw [readAt_zero arg5 ![0, 0, 0] (by decide) inb_S1x1024x2048_S1x1024x2048_0_0_0, readAt_zero arg6 ![0, 0, 0] (by decide) inb_S1x1x2048_S1x1x2048_0_0_0]
  sl_step
  iapply HK
  isplitl [H3]; · iexact H3
  isplitl [H5]; · iexact H5
  isplitl [H6]; · iexact H6
  isplitl [HO]; · iexact HO
  isplitr [HB]
  · iapply (full_idle c (sl (i 0).val) h tkc)
    rw [full_eq]
    isplitl [HV]; · iexact HV
    isplitl [HR] <;> iassumption
  iexact HB

theorem part1_spec (h : S33792x1024.Idx → Elt F .f32) (tkc tkn : Fin 256 → Fin 33792)
    (f2 : Buf (Elt F) (arg2.view.loc (c : Thread nD τ))) (f3 : Buf (Elt F) (arg3.view.loc (c : Thread nD τ)))
    (f5 : Buf (Elt F) (arg5.view.loc (c : Thread nD τ))) (f6 : Buf (Elt F) (arg6.view.loc (c : Thread nD τ)))
    (q2 q3 q5 q6 : PosShare TreeShare)
    (hf2 : ∀ j : Fin 256, BitVec.toNat (arg2.view.read (Elt F) f2 (ix3 (0 : Fin 1) (0 : Fin 1) j)) = (tkc j).val)
    (hf3 : ∀ j : Fin 256, BitVec.toNat (arg3.view.read (Elt F) f3 (ix3 (0 : Fin 1) (0 : Fin 1) j)) = (tkn j).val)
    {Q : (Σ' (arg0 : BitVec 32) (v9 : BitVec 32) (v26 : FVec F S256x2048 .f32) (v27 : FVec F S256x1024 .f32), FVec F S256x1024 .f32) → sProp 𝕄} :
    iprop(blk c arg2 q2 f2 ∗ blk c arg3 q3 f3 ∗ blk c arg5 q5 f5 ∗ blk c arg6 q6 f6
        ∗ (∃ W, owes (c : Thread nD τ) 0 W)
        ∗ (if (i 0).val = 0 then idle c (sl (i 0).val) h else flying c (sl (i 0).val) h tkc) ∗ idle c (sl ((i 0).val + 1)) h)
      ⊢ iprop((∀ a0 v9, iprop(blk c arg2 q2 f2 ∗ blk c arg3 q3 f3 ∗ blk c arg5 q5 f5 ∗ blk c arg6 q6 f6
              ∗ (∃ W, owes (c : Thread nD τ) 0 W)
              ∗ idle c (sl (i 0).val) h ∗ flying c (sl ((i 0).val + 1)) h tkn)
            -∗ Q ⟨a0, v9, k0_pay2 (rowsOf h tkc) (arg5.view.read (Elt F) f5) (arg6.view.read (Elt F) f6),
                k0_pay3 (rowsOf h tkc) (arg5.view.read (Elt F) f5) (arg6.view.read (Elt F) f6), k0_pay4 (F := F)⟩)
          -∗ wp frame (wpE (defs₀ (F := F)) Variants.none (c : Thread nD τ) none) Set.univ
              (k0_part1 i arg1 harg1 arg2 harg2 arg3 harg3 act harg4 arg5 harg5 arg6 harg6 arg7 harg7 arg8 harg8 arg9 harg9 buf harg10 cc0_scratch1) Q) := by
  obtain ⟨a0, v9, e⟩ := part1_eq (F := F) i arg1 harg1 arg2 harg2 arg3 harg3 harg4 arg5 harg5 arg6 harg6 arg7 harg7 arg8 harg8 arg9 harg9 harg10
  rw [e]
  by_cases h1 : k0_cond1 i = 1#1
  · rw [dif_pos h1, if_pos ((cond1_iff i).mp h1)]
    iintro ⟨H2, H3, H5, H6, HO, HA, HB⟩ HK
    iapply (start1 c i arg1 harg1 arg2 harg2 arg3 harg3 harg4 arg5 harg5 arg6 harg6 arg7 harg7 arg8 harg8 arg9 harg9 harg10 h1 h tkc f2 q2 hf2) $$ [H2 HA]
    · isplitl [H2] <;> iassumption
    iintro ⟨H2, HA⟩
    iapply (rest1_spec c i arg1 harg1 arg2 harg2 arg3 harg3 harg4 arg5 harg5 arg6 harg6 arg7 harg7 arg8 harg8 arg9 harg9 harg10 h tkc tkn f3 f5 f6 q3 q5 q6 hf3 a0 v9) $$ [H3 H5 H6 HO HA HB]
    · isplitl [H3]; · iexact H3
      isplitl [H5]; · iexact H5
      isplitl [H6]; · iexact H6
      isplitl [HO]; · iexact HO
      isplitl [HA] <;> iassumption
    iintro HR
    iapply HK
    isplitl [H2] <;> iassumption
  · rw [dif_neg h1, if_neg (fun e => h1 ((cond1_iff i).mpr e))]
    iintro ⟨H2, H3, H5, H6, HO, HA, HB⟩ HK
    iapply (rest1_spec c i arg1 harg1 arg2 harg2 arg3 harg3 harg4 arg5 harg5 arg6 harg6 arg7 harg7 arg8 harg8 arg9 harg9 harg10 h tkc tkn f3 f5 f6 q3 q5 q6 hf3 a0 v9) $$ [H3 H5 H6 HO HA HB]
    · isplitl [H3]; · iexact H3
      isplitl [H5]; · iexact H5
      isplitl [H6]; · iexact H6
      isplitl [HO]; · iexact HO
      isplitl [HA] <;> iassumption
    iintro HR
    iapply HK
    isplitl [H2] <;> iassumption

/-- The rest of the body: the second product, the store, and at the last point the wait for the slot started in vain. -/
def rest2 (v26 : FVec F S256x2048 .f32) (v27 v28 : FVec F S256x1024 .f32) : Prog (TpuEff nD τ sig (Elt F) Λ₀ .tc) PUnit :=
  .op (.load arg7 (Rect.unit (s := S1x1024x1024) ![0, 0, 0] S1x1024x1024.size inb_S1x1024x1024_S1x1024x1024_0_0_0).toLoadRect (View.loadsAt_vmem h_S1x1024x1024)) fun (v43 : Vec F S1x1024x1024 .bf16) =>
  .op (.load arg8 (Rect.unit (s := S1x1x1024) ![0, 0, 0] S1x1x1024.size inb_S1x1x1024_S1x1x1024_0_0_0).toLoadRect (View.loadsAt_vmem h_S1x1x1024)) fun (v46 : Vec F S1x1x1024 .f32) =>
  .op (.load arg9 (Rect.unit (s := S256x1024) ![0, 0] S256x1024.size inb_S256x1024_S256x1024_0_0).toLoadRect (View.loadsAt_vmem h_S256x1024)) fun (_ : Vec F S256x1024 .f32) =>
  .op (.store arg9 (Rect.unit (s := S256x1024) ![0, 0] S256x1024.size inb_S256x1024_S256x1024_0_0) (k0_pay1 v26 v27 v28 v43 v46) Finset.univ (View.stores_vmem_bits_univ h_S256x1024 rfl) (.inl rfl)) fun _ =>
  if k0_h2 : k0_cond2 i = 1#1 then
    Scf.Loop.for k0_t4_loop (k0_t4_ok i k0_h2) ⟨⟩ (k0_t4_body i arg1 harg1 arg2 harg2 arg3 harg3 act harg4 arg5 harg5 arg6 harg6 arg7 harg7 arg8 harg8 arg9 harg9 buf harg10 cc0_scratch1 k0_h2)
      >>= fun _ => .ret ⟨⟩
  else .ret ⟨⟩

theorem body_eq :
    (cc0_moe (F := F) i arg1 harg1 arg2 harg2 arg3 harg3 act harg4 arg5 harg5 arg6 harg6 arg7 harg7 arg8 harg8 arg9 harg9 buf harg10 cc0_scratch1)
      = k0_part1 i arg1 harg1 arg2 harg2 arg3 harg3 act harg4 arg5 harg5 arg6 harg6 arg7 harg7 arg8 harg8 arg9 harg9 buf harg10 cc0_scratch1 >>= fun v =>
          rest2 i arg1 harg1 arg2 harg2 arg3 harg3 harg4 arg5 harg5 arg6 harg6 arg7 harg7 arg8 harg8 arg9 harg9 harg10 v.2.2.1 v.2.2.2.1 v.2.2.2.2 := by
  rw [cc0_moe_eq_skeleton]
  rfl

/-- What a point leaves the two slots as. -/
def left (h : S33792x1024.Idx → Elt F .f32) (tkn : Fin 256 → Fin 33792) : sProp 𝕄 :=
  iprop((if (i 0).val = 559 then idle c (sl ((i 0).val + 1)) h else flying c (sl ((i 0).val + 1)) h tkn) ∗ idle c (sl (i 0).val) h)

theorem body_spec (h : S33792x1024.Idx → Elt F .f32) (tkc tkn : Fin 256 → Fin 33792)
    (x2 x3 : Vec F S1x1x256 .i32) (x5 : Vec F S1x1024x2048 .bf16) (x6 : Vec F S1x1x2048 .f32)
    (x7 : Vec F S1x1024x1024 .bf16) (x8 : Vec F S1x1x1024 .f32)
    (q2 q3 q5 q6 q7 q8 : PosShare TreeShare)
    (hx2 : ∀ j : Fin 256, BitVec.toNat (x2 (ix3 (0 : Fin 1) (0 : Fin 1) j)) = (tkc j).val)
    (hx3 : ∀ j : Fin 256, BitVec.toNat (x3 (ix3 (0 : Fin 1) (0 : Fin 1) j)) = (tkn j).val)
    (K : PUnit → sProp 𝕄) :
    iprop(owns (c : Thread nD τ) arg2 q2 x2 ∗ owns (c : Thread nD τ) arg3 q3 x3 ∗ owns (c : Thread nD τ) arg5 q5 x5
        ∗ owns (c : Thread nD τ) arg6 q6 x6 ∗ owns (c : Thread nD τ) arg7 q7 x7 ∗ owns (c : Thread nD τ) arg8 q8 x8
        ∗ (∃ d, owns (c : Thread nD τ) arg9 fullShare d)
        ∗ (∃ W, owes (c : Thread nD τ) 0 W)
        ∗ (if (i 0).val = 0 then idle c (sl (i 0).val) h else flying c (sl (i 0).val) h tkc) ∗ idle c (sl ((i 0).val + 1)) h)
      ⊢ iprop((iprop(owns (c : Thread nD τ) arg2 q2 x2 ∗ owns (c : Thread nD τ) arg3 q3 x3 ∗ owns (c : Thread nD τ) arg5 q5 x5
              ∗ owns (c : Thread nD τ) arg6 q6 x6 ∗ owns (c : Thread nD τ) arg7 q7 x7 ∗ owns (c : Thread nD τ) arg8 q8 x8
              ∗ owns (c : Thread nD τ) arg9 fullShare (outOf h tkc x5 x6 x7 x8)
              ∗ (∃ W, owes (c : Thread nD τ) 0 W) ∗ left c i h tkn)
            -∗ K ⟨⟩)
          -∗ wp frame (wpE (defs₀ (F := F)) Variants.none (c : Thread nD τ) none) Set.univ
              (cc0_moe i arg1 harg1 arg2 harg2 arg3 harg3 act harg4 arg5 harg5 arg6 harg6 arg7 harg7 arg8 harg8 arg9 harg9 buf harg10 cc0_scratch1) K) := by
  rw [body_eq, wp_bind]
  unfold owns
  iintro ⟨⟨%f2, %e2, H2⟩, ⟨%f3, %e3, H3⟩, ⟨%f5, %e5, H5⟩, ⟨%f6, %e6, H6⟩, ⟨%f7, %e7, H7⟩, ⟨%f8, %e8, H8⟩, ⟨%d9, %f9, -, H9⟩, HO, HA, HB⟩ HK
  subst e2 e3 e5 e6 e7 e8
  iapply (part1_spec c i arg1 harg1 arg2 harg2 arg3 harg3 harg4 arg5 harg5 arg6 harg6 arg7 harg7 arg8 harg8 arg9 harg9 harg10 h tkc tkn f2 f3 f5 f6 q2 q3 q5 q6 hx2 hx3)
    $$ [H2 H3 H5 H6 HO HA HB]
  · isplitl [H2]; · iexact H2
    isplitl [H3]; · iexact H3
    isplitl [H5]; · iexact H5
    isplitl [H6]; · iexact H6
    isplitl [HO]; · iexact HO
    isplitl [HA] <;> iassumption
  iintro %a0 %v9 ⟨H2, H3, H5, H6, HO, HA, HB⟩
  unfold rest2
  iapply (wp_load (defs := defs₀ (F := F)) Variants.none (c : Thread nD τ) none (Set.univ) (m := arg7) (S := arg7.view.set) (View.setOn_subset_set _ _)) $$ H7
  iintro H7
  iapply (wp_load (defs := defs₀ (F := F)) Variants.none (c : Thread nD τ) none (Set.univ) (m := arg8) (S := arg8.view.set) (View.setOn_subset_set _ _)) $$ H8
  iintro H8
  iapply (wp_load (defs := defs₀ (F := F)) Variants.none (c : Thread nD τ) none (Set.univ) (m := arg9) (S := arg9.view.set) (View.setOn_subset_set _ _)) $$ H9
  iintro H9
  rw [readAt_zero arg7 ![0, 0, 0] (by decide) inb_S1x1024x1024_S1x1024x1024_0_0_0, readAt_zero arg8 ![0, 0, 0] (by decide) inb_S1x1x1024_S1x1x1024_0_0_0]
  iapply (wp_store (defs := defs₀ (F := F)) Variants.none (c : Thread nD τ) none (Set.univ) (m := arg9)
    (r := Rect.unit (s := S256x1024) ![0, 0] S256x1024.size inb_S256x1024_S256x1024_0_0) (S := arg9.view.set) (View.setOn_slice_subset_set _ _ _)) $$ H9
  iintro H9
  have hout := read_store (F := F) arg9 ![0, 0] (by decide) inb_S256x1024_S256x1024_0_0 f9
    (outOf h tkc (arg5.view.read (Elt F) f5) (arg6.view.read (Elt F) f6) (arg7.view.read (Elt F) f7) (arg8.view.read (Elt F) f8))
  unfold left
  by_cases h2 : k0_cond2 i = 1#1
  · rw [dif_pos h2, if_pos ((cond2_iff i).mp h2)]
    iapply (drain4 c i arg1 harg1 arg2 harg2 arg3 harg3 harg4 arg5 harg5 arg6 harg6 arg7 harg7 arg8 harg8 arg9 harg9 harg10 h2 h tkn) $$ [HO HB]
    · isplitl [HO] <;> iassumption
    iintro ⟨HO, HB⟩
    sl_step
    iapply HK
    isplitl [H2]; · iexists f2; isplitr; · ipureintro; rfl
                    iexact H2
    isplitl [H3]; · iexists f3; isplitr; · ipureintro; rfl
                    iexact H3
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists _; isplitr; swap; · iexact H9
                    ipureintro; exact hout
    isplitl [HO]; · iexact HO
    isplitl [HB]; · iapply (full_idle c (sl ((i 0).val + 1)) h tkn); iexact HB
    iexact HA
  · rw [dif_neg h2, if_neg (fun e => h2 ((cond2_iff i).mpr e))]
    sl_step
    iapply HK
    isplitl [H2]; · iexists f2; isplitr; · ipureintro; rfl
                    iexact H2
    isplitl [H3]; · iexists f3; isplitr; · ipureintro; rfl
                    iexact H3
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists _; isplitr; swap; · iexact H9
                    ipureintro; exact hout
    isplitl [HO]; · iexact HO
    isplitl [HB]; · iexact HB
    iexact HA

end Body

end Cert.Kernel2Ideal.Moe
-- ==== Proof.MoeSetup.lean ====
/- What the launch starts from: the memory, the table of experts, each window's block at each grid point. -/
module

public import proofs.«01_k».proof.Proof.MoeBody
public import Idealize.ShloMosaic.Lib.Pipeline.FrameBody

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's arrays at the launch. -/
abbrev V (c : Dev nD) (b : Ref sig .tc) : Buf (Elt F) ((c : Thread nD τ).loc b) := m ((c : Thread nD τ).loc b)

theorem main_region (𝒱₀ : Variants) :
    Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The experts' table as launched. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table's words address experts; the row tables' words address tokens. -/
abbrev Ok : Prop := ok0 (F := F) (tbl m)
def Tok : Prop := ∀ (c : Dev nD) (y : S560x1x256.Idx), BitVec.toNat (V m c main_arg1 y : BitVec 32) < 33792

abbrev adm (hO : Ok m) : (pcfg0 (F := F)).Adm := ⟨tbl m, hO⟩
abbrev cfgM (hO : Ok m) : Pipeline.Cfg sig Λ₀ := cfg0 (adm m hO)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section
variable (hO : Ok m) {c : Dev nD} (dat : Dat τ (Elt F) Unit ℕ (Pipeline.UD sig nD τ) ℕ (cfgM m hO) c) (t : Fin (cfgM m hO).N)

theorem before_0 (hA : dat.A 0 = V m c (Pipeline.arrRef spec0 0)) (hafter : ∀ t, dat.after 0 t = iblk m hO c 0 t) (d) :
    dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hA : dat.A 1 = V m c (Pipeline.arrRef spec0 1)) (hafter : ∀ t, dat.after 1 t = iblk m hO c 1 t) (d) :
    dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hA : dat.A 2 = V m c (Pipeline.arrRef spec0 2)) (hafter : ∀ t, dat.after 2 t = iblk m hO c 2 t) (d) :
    dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 (hA : dat.A 3 = V m c (Pipeline.arrRef spec0 3)) (hafter : ∀ t, dat.after 3 t = iblk m hO c 3 t) (d) :
    dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 (hA : dat.A 4 = V m c (Pipeline.arrRef spec0 4)) (hafter : ∀ t, dat.after 4 t = iblk m hO c 4 t) (d) :
    dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 (hA : dat.A 5 = V m c (Pipeline.arrRef spec0 5)) (hafter : ∀ t, dat.after 5 t = iblk m hO c 5 t) (d) :
    dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
end

/-! ### The tokens of a block -/

/-- Block `k`'s tokens (past the last block, the last block's). -/
def tok (c : Dev nD) (k : ℕ) (j : Fin 256) : Fin 33792 :=
  ⟨BitVec.toNat (V m c main_arg1 (ix3 (⟨min k 559, by omega⟩ : Fin 560) (0 : Fin 1) j : S560x1x256.Idx) : BitVec 32) % 33792, Nat.mod_lt _ (by omega)⟩

theorem coords_val : ∀ t : Fin grid0.N, (grid0.coords t 0).val = t.val := by decide +kernel

theorem index_0 (t : Fin grid0.N) : cc0_transform_0 (grid0.coords t) = ![t.val, 0, 0] := by
  have h := coords_val t
  have hn : t.val < 560 := N_0 ▸ t.isLt
  unfold cc0_transform_0
  rw [h]
  show ![(BitVec.ofNat 32 t.val).toNat, 0, 0] = _
  rw [BitVec.toNat_ofNat, Nat.mod_eq_of_lt (by omega)]

theorem next_block : ∀ n : Fin 560, (Scalar.minsi (Scalar.addi (BitVec.ofNat 32 n.val) 1#32) 559#32).toNat = min (n.val + 1) 559 := by
  decide +kernel

theorem index_1 (t : Fin grid0.N) : cc0_transform_1 (grid0.coords t) = ![min (t.val + 1) 559, 0, 0] := by
  have h := coords_val t
  have hn : t.val < 560 := N_0 ▸ t.isLt
  unfold cc0_transform_1
  rw [h]
  show ![(Scalar.minsi (Scalar.addi (BitVec.ofNat 32 t.val) 1#32) 559#32).toNat, 0, 0] = _
  rw [next_block ⟨t.val, hn⟩]

theorem read_0 (hO : Ok m) (c : Dev nD) (t : Fin (cfgM m hO).N) (hT : Tok m) (j : Fin 256) :
    BitVec.toNat ((iblk m hO c 0 t : Vec F S1x1x256 .i32) (ix3 (0 : Fin 1) (0 : Fin 1) j)) = (tok m c t.val j).val := by
  have hn : t.val < 560 := N_0 ▸ t.isLt
  have e : (((cfgM m hO).win 0).blk t).view.emb (ix3 (0 : Fin 1) (0 : Fin 1) j : S1x1x256.Idx) = (ix3 (⟨min t.val 559, by omega⟩ : Fin 560) (0 : Fin 1) j : S560x1x256.Idx) := by
    have h := index_0 t
    funext a; fin_cases a <;> apply Fin.ext
    · show cc0_transform_0 (grid0.coords t) 0 * 1 + 1 * 0 = min t.val 559
      rw [h]; show t.val * 1 + 1 * 0 = _; omega
    · show cc0_transform_0 (grid0.coords t) 1 * 1 + 1 * 0 = 0
      rw [h]; rfl
    · show cc0_transform_0 (grid0.coords t) 2 * 256 + 1 * j.val = j.val
      rw [h]; show 0 * 256 + 1 * j.val = j.val; omega
  show BitVec.toNat (V m c main_arg1 ((((cfgM m hO).win 0).blk t).view.emb (ix3 (0 : Fin 1) (0 : Fin 1) j : S1x1x256.Idx)) : BitVec 32) = _
  rw [e]
  exact (Nat.mod_eq_of_lt (hT c _)).symm

theorem read_1 (hO : Ok m) (c : Dev nD) (t : Fin (cfgM m hO).N) (hT : Tok m) (j : Fin 256) :
    BitVec.toNat ((iblk m hO c 1 t : Vec F S1x1x256 .i32) (ix3 (0 : Fin 1) (0 : Fin 1) j)) = (tok m c (t.val + 1) j).val := by
  have hn : t.val < 560 := N_0 ▸ t.isLt
  have e : (((cfgM m hO).win 1).blk t).view.emb (ix3 (0 : Fin 1) (0 : Fin 1) j : S1x1x256.Idx) = (ix3 (⟨min (t.val + 1) 559, by omega⟩ : Fin 560) (0 : Fin 1) j : S560x1x256.Idx) := by
    have h := index_1 t
    funext a; fin_cases a <;> apply Fin.ext
    · show cc0_transform_1 (grid0.coords t) 0 * 1 + 1 * 0 = min (t.val + 1) 559
      rw [h]; show min (t.val + 1) 559 * 1 + 1 * 0 = _; omega
    · show cc0_transform_1 (grid0.coords t) 1 * 1 + 1 * 0 = 0
      rw [h]; rfl
    · show cc0_transform_1 (grid0.coords t) 2 * 256 + 1 * j.val = j.val
      rw [h]; show 0 * 256 + 1 * j.val = j.val; omega
  show BitVec.toNat (V m c main_arg1 ((((cfgM m hO).win 1).blk t).view.emb (ix3 (0 : Fin 1) (0 : Fin 1) j : S1x1x256.Idx)) : BitVec 32) = _
  rw [e]
  exact (Nat.mod_eq_of_lt (hT c _)).symm

end Cert.Kernel2Ideal.Moe

end
-- ==== Proof.MoeStart.lean ====
/- The two slots empty, out of the scratch buffer, the activations and the two counters, and back. -/
module

public import proofs.«01_k».proof.Proof.MoeSetup

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The activations' 512 read tokens, slot by slot. -/
theorem tokens_split (T : ℕ → sProp 𝕄) :
    BI.bigSep (Finset.range 512) T
      = iprop(BI.bigSep Finset.univ (fun j : Fin 256 => T (256 * (0 : Fin 2).val + j.val))
          ∗ BI.bigSep Finset.univ (fun j : Fin 256 => T (256 * (1 : Fin 2).val + j.val))) := by
  let e : Fin 2 → (Fin 256 ↪ ℕ) := fun s => ⟨fun j => 256 * s.val + j.val, fun a b h => Fin.ext (Nat.add_left_cancel h)⟩
  have hr : Finset.range 512 = (Finset.univ.map (e 0)) ∪ (Finset.univ.map (e 1)) := by
    ext n
    constructor
    · intro hn
      have hn' := Finset.mem_range.mp hn
      rcases Nat.lt_or_ge n 256 with h | h
      · exact Finset.mem_union_left _ (Finset.mem_map.mpr ⟨⟨n, h⟩, Finset.mem_univ _, (by show 256 * 0 + n = n; omega)⟩)
      · exact Finset.mem_union_right _ (Finset.mem_map.mpr ⟨⟨n - 256, by omega⟩, Finset.mem_univ _, (by show 256 * 1 + (n - 256) = n; omega)⟩)
    · intro hn
      refine Finset.mem_range.mpr ?_
      rcases Finset.mem_union.mp hn with h | h
      · obtain ⟨j, -, hj⟩ := Finset.mem_map.mp h
        have : 256 * 0 + j.val = n := hj
        have := j.isLt; omega
      · obtain ⟨j, -, hj⟩ := Finset.mem_map.mp h
        have : 256 * 1 + j.val = n := hj
        have := j.isLt; omega
  have hd : Disjoint (Finset.univ.map (e 0)) (Finset.univ.map (e 1)) := by
    refine Finset.disjoint_left.mpr fun n h0 h1 => ?_
    obtain ⟨j, -, hj⟩ := Finset.mem_map.mp h0
    obtain ⟨k, -, hk⟩ := Finset.mem_map.mp h1
    have a : 256 * 0 + j.val = n := hj
    have b : 256 * 1 + k.val = n := hk
    have := j.isLt; omega
  rw [hr, BI.bigSep_union hd, BI.bigSep_map, BI.bigSep_map]
  rfl

theorem slots_cover : Finset.univ.biUnion (fun s : Fin 2 => slot s) = (Finset.univ : Finset S2x256x1024.Idx) := by
  ext y
  refine ⟨fun _ => Finset.mem_univ _, fun _ => Finset.mem_biUnion.mpr ⟨y 0, Finset.mem_univ _, Finset.mem_filter.mpr ⟨Finset.mem_univ _, rfl⟩⟩⟩

theorem slots_disjoint (s s' : Fin 2) (hs : s ≠ s') : Disjoint (slot s) (slot s') :=
  Finset.disjoint_left.mpr fun y h h' => hs (Fin.ext ((Finset.mem_filter.mp h).2.symm.trans (Finset.mem_filter.mp h').2))

section
variable (c : Dev nD) (h : S33792x1024.Idx → Elt F .f32)

/-- The scratch buffer whole; the activations whole, and what is left of them with every token out. -/
abbrev bufAt (f : S2x256x1024.Idx → Elt F .f32) : sProp 𝕄 := buf.view.loc (c : Thread nD τ) ↦{fullShare} f
abbrev actAt : sProp 𝕄 := act.view.loc (c : Thread nD τ) ↦{fullShare} h
abbrev restAt : sProp 𝕄 := act.view.loc (c : Thread nD τ) ↦{Transfers.shareDrop fullShare 512} h

theorem buf_slots (f : S2x256x1024.Idx → Elt F .f32) : (bufAt c f : sProp 𝕄) = iprop(slotAt c 0 f ∗ slotAt c 1 f) := by
  refine (Ring.pointsTo_blocks (ℓ := buf.view.loc (c : Thread nD τ)) (B := Fin 2) (fun s => slot s) (fun s s' h => slots_disjoint s s' h) slots_cover f).trans ?_
  rw [BI.bigSep_univ_eq_bigSepL [(0 : Fin 2), 1] (by decide) (by decide)]
  rfl

theorem slots_buf (f₀ : S2x256x1024.Idx → Elt F .f32) : iprop((∃ f, slotAt c 0 f) ∗ (∃ f, slotAt c 1 f)) ⊢ (iprop(∃ f, bufAt c f) : sProp 𝕄) := by
  have J := Ring.pointsTo_blocks_join_exists (q := fullShare) (Ix := Unit) (Val := Elt F) (Name := ℕ) (U := Pipeline.UD sig nD τ) (Lvl := ℕ) (ℓ := buf.view.loc (c : Thread nD τ)) (B := Fin 2) (fun s => slot s) (fun s s' h => slots_disjoint s s' h) slots_cover f₀
  rw [BI.bigSep_univ_eq_bigSepL [(0 : Fin 2), 1] (by decide) (by decide)] at J
  exact J

theorem idle_eq (s : Fin 2) : (idle c s h : sProp 𝕄) = iprop(semVal ((c : Thread nD τ), SemLoc.dma (cell s)) 0
      ∗ bigSep Finset.univ (fun j : Fin 256 => iprop(∃ f, rowAt c s j f)) ∗ bigSep Finset.univ (fun j : Fin 256 => tokAt c (256 * s.val + j.val) h)) := by
  unfold idle
  exact congrArg (fun P => iprop(semVal ((c : Thread nD τ), SemLoc.dma (cell s)) 0 ∗ P)) (BI.bigSep_sep _ _ _)

theorem rows_some (s : Fin 2) (f : S2x256x1024.Idx → Elt F .f32) :
    slotAt c s f ⊢ (bigSep Finset.univ (fun j : Fin 256 => iprop(∃ f, rowAt c s j f)) : sProp 𝕄) := by
  rw [slot_rows]
  have one : ∀ j : Fin 256, rowAt c s j f ⊢ (iprop(∃ f, rowAt c s j f) : sProp 𝕄) := fun j => by
    iintro H; iexists f; iexact H
  exact BI.bigSep_mono fun j _ => one j

theorem rows_slot (s : Fin 2) (f₀ : S2x256x1024.Idx → Elt F .f32) :
    bigSep Finset.univ (fun j : Fin 256 => iprop(∃ f, rowAt c s j f)) ⊢ (iprop(∃ f, slotAt c s f) : sProp 𝕄) :=
  Ring.pointsTo_sub_blocks_join_exists (ℓ := buf.view.loc (c : Thread nD τ)) (B := Fin 256) (fun r => (row s r).view.set)
    (fun r r' h => row_disjoint s r r' h) (slot s) (slot_rows_set s) f₀

/-- Both slots idle, from the launch's pieces. -/
theorem start : iprop((∃ f, bufAt c f) ∗ actAt c h ∗ semVal ((c : Thread nD τ), SemLoc.dma (cell 0)) 0 ∗ semVal ((c : Thread nD τ), SemLoc.dma (cell 1)) 0)
    ⊢ (iprop(restAt c h ∗ idle c 0 h ∗ idle c 1 h) : sProp 𝕄) := by
  have hA : actAt c h ⊢ (iprop(restAt c h ∗ BI.bigSep (Finset.range 512) (fun n => tokAt c n h)) : sProp 𝕄) :=
    (Transfers.pointsTo_toks_range fullShare 512).1
  rw [tokens_split] at hA
  rw [idle_eq, idle_eq]
  iintro ⟨⟨%f, HB⟩, HA, HS0, HS1⟩
  ihave ⟨HR, HT0, HT1⟩ := hA $$ HA
  ihave ⟨HB0, HB1⟩ := Entails.of_eq (buf_slots c f) $$ HB
  isplitl [HR]; · iexact HR
  isplitl [HS0 HB0 HT0]
  · isplitl [HS0]; · iexact HS0
    isplitl [HB0]; · iapply (rows_some c 0 f); iexact HB0
    iexact HT0
  · isplitl [HS1]; · iexact HS1
    isplitl [HB1]; · iapply (rows_some c 1 f); iexact HB1
    iexact HT1

/-- And back. -/
theorem finish : iprop(restAt c h ∗ idle c 0 h ∗ idle c 1 h)
    ⊢ (iprop((∃ f, bufAt c f) ∗ actAt c h ∗ semVal ((c : Thread nD τ), SemLoc.dma (cell 0)) 0 ∗ semVal ((c : Thread nD τ), SemLoc.dma (cell 1)) 0) : sProp 𝕄) := by
  have hA : (iprop(restAt c h ∗ BI.bigSep (Finset.range 512) (fun n => tokAt c n h)) : sProp 𝕄) ⊢ actAt c h :=
    (Transfers.pointsTo_toks_range fullShare 512).2
  rw [tokens_split] at hA
  rw [idle_eq, idle_eq]
  have f₀ : S2x256x1024.Idx → Elt F .f32 := fun y => h (ix2 (0 : Fin 33792) (y 2))
  iintro ⟨HR, ⟨HS0, HB0, HT0⟩, ⟨HS1, HB1, HT1⟩⟩
  isplitl [HB0 HB1]
  · iapply (slots_buf c f₀)
    isplitl [HB0]
    · iapply (rows_slot c 0 f₀); iexact HB0
    · iapply (rows_slot c 1 f₀); iexact HB1
  isplitl [HR HT0 HT1]
  · iapply hA
    isplitl [HR]; · iexact HR
    isplitl [HT0] <;> iassumption
  isplitl [HS0] <;> iassumption

end

/-! ### The slots before each grid point -/

section
variable (c : Dev nD) (h : S33792x1024.Idx → Elt F .f32) (tk : ℕ → Fin 256 → Fin 33792)

/-- Before point `k`: its own rows on their way (none at the first point and after the last), the other slot idle. -/
def slots (k : ℕ) : sProp 𝕄 :=
  iprop((if k = 0 ∨ 560 ≤ k then idle c (sl k) h else flying c (sl k) h (tk k)) ∗ idle c (sl (k + 1)) h)

theorem slots_zero : (slots c h tk 0 : sProp 𝕄) = iprop(idle c 0 h ∗ idle c 1 h) := by
  unfold slots
  rw [if_pos (Or.inl rfl)]
  rfl

theorem slots_last : (slots c h tk 560 : sProp 𝕄) = iprop(idle c 0 h ∗ idle c 1 h) := by
  unfold slots
  rw [if_pos (Or.inr (le_refl _))]
  rfl

theorem slots_before (i : grid0.Coords) :
    (slots c h tk (i 0).val : sProp 𝕄) = iprop((if (i 0).val = 0 then idle c (sl (i 0).val) h else flying c (sl (i 0).val) h (tk (i 0).val)) ∗ idle c (sl ((i 0).val + 1)) h) := by
  unfold slots
  have hn : (i 0).val < 560 := (i 0).isLt
  by_cases h0 : (i 0).val = 0
  · rw [if_pos h0, if_pos (Or.inl h0)]
  · rw [if_neg h0, if_neg (by omega)]

theorem slots_after (i : grid0.Coords) : (left c i h (tk ((i 0).val + 1)) : sProp 𝕄) = slots c h tk ((i 0).val + 1) := by
  unfold slots left
  have hn : (i 0).val < 560 := (i 0).isLt
  have e : sl ((i 0).val + 1 + 1) = sl (i 0).val := Fin.ext (by show ((i 0).val + 1 + 1) % 2 = (i 0).val % 2; omega)
  rw [e]
  by_cases h9 : (i 0).val = 559
  · rw [if_pos h9, if_pos (Or.inr (by omega))]
  · rw [if_neg h9, if_neg (by omega)]

end

end Cert.Kernel2Ideal.Moe

end
-- ==== Proof.MoeFrame.lean ====
/- The pallas_call's run: what holds between grid points, the body at each, the launch. -/
module

public import proofs.«01_k».proof.Proof.MoeStart
public import Idealize.ShloMosaic.Lib.Pipeline.Frame

@[expose] public section

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hO : Ok m)

/-- The activations, as the body's copies read them. -/
abbrev acts (c : Dev nD) : S33792x1024.Idx → Elt F .f32 := V m c main_arg2

/-- Each window's staging buffer at a point. -/
abbrev stage_0 (t : Fin (cfgM m hO).N) : Memref sig .tc .smem S1x1x256 .i32 := spec0_0.stage ((cfgM m hO).slots t 0)
abbrev whole_0 (t : Fin (cfgM m hO).N) : (stage_0 m hO t).IsWhole := hstage0_0 (((cfgM m hO).slots t 0).cast nbuf0_0)
abbrev stage_1 (t : Fin (cfgM m hO).N) : Memref sig .tc .smem S1x1x256 .i32 := spec0_1.stage ((cfgM m hO).slots t 1)
abbrev whole_1 (t : Fin (cfgM m hO).N) : (stage_1 m hO t).IsWhole := hstage0_1 (((cfgM m hO).slots t 1).cast nbuf0_1)
abbrev stage_2 (t : Fin (cfgM m hO).N) : Memref sig .tc .vmem S1x1024x2048 .bf16 := spec0_2.stage ((cfgM m hO).slots t 2)
abbrev whole_2 (t : Fin (cfgM m hO).N) : (stage_2 m hO t).IsWhole := hstage0_2 (((cfgM m hO).slots t 2).cast nbuf0_2)
abbrev stage_3 (t : Fin (cfgM m hO).N) : Memref sig .tc .vmem S1x1x2048 .f32 := spec0_3.stage ((cfgM m hO).slots t 3)
abbrev whole_3 (t : Fin (cfgM m hO).N) : (stage_3 m hO t).IsWhole := hstage0_3 (((cfgM m hO).slots t 3).cast nbuf0_3)
abbrev stage_4 (t : Fin (cfgM m hO).N) : Memref sig .tc .vmem S1x1024x1024 .bf16 := spec0_4.stage ((cfgM m hO).slots t 4)
abbrev whole_4 (t : Fin (cfgM m hO).N) : (stage_4 m hO t).IsWhole := hstage0_4 (((cfgM m hO).slots t 4).cast nbuf0_4)
abbrev stage_5 (t : Fin (cfgM m hO).N) : Memref sig .tc .vmem S1x1x1024 .f32 := spec0_5.stage ((cfgM m hO).slots t 5)
abbrev whole_5 (t : Fin (cfgM m hO).N) : (stage_5 m hO t).IsWhole := hstage0_5 (((cfgM m hO).slots t 5).cast nbuf0_5)
abbrev stage_6 (t : Fin (cfgM m hO).N) : Memref sig .tc .vmem S256x1024 .f32 := spec0_6.stage ((cfgM m hO).slots t 6)
abbrev whole_6 (t : Fin (cfgM m hO).N) : (stage_6 m hO t).IsWhole := hstage0_6 (((cfgM m hO).slots t 6).cast nbuf0_6)

/-- The body at a point, on what the pipeline calls it with. -/
abbrev bodyAt (t : Fin (cfgM m hO).N) : Prog (TpuEff nD τ sig (Elt F) Λ₀ .tc) PUnit :=
  cc0_moe (grid0.coords t) (Memref.whole main_arg0) (Memref.isWhole_whole _) (stage_0 m hO t) (whole_0 m hO t) (stage_1 m hO t) (whole_1 m hO t) act (Memref.isWhole_whole _) (stage_2 m hO t) (whole_2 m hO t) (stage_3 m hO t) (whole_3 m hO t) (stage_4 m hO t) (whole_4 m hO t) (stage_5 m hO t) (whole_5 m hO t) (stage_6 m hO t) (whole_6 m hO t) buf (Memref.isWhole_whole _) cc0_scratch1

/-- The block of the result the body writes at a point. -/
def outAt (c : Dev nD) (t : Fin (cfgM m hO).N) : Vec F S256x1024 .f32 :=
  outOf (acts m c) (tok m c t.val) (iblk m hO c 2 t) (iblk m hO c 3 t) (iblk m hO c 4 t) (iblk m hO c 5 t)

/-- What holds before point `k`: the slots, the untouched remainder of the activations, the generator, the table. -/
def Inv (c : Dev nD) (k : ℕ) : sProp 𝕄 :=
  iprop(slots c (acts m c) (tok m c) k ∗ restAt c (acts m c) ∗ (∃ r, prngReg c r) ∗ Pipeline.ΦT pre0 (tbl m) c)

def dats (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ t := Inv m c t.val
  q w := Pipeline.shareOf spec0 w
  owed _ := 0

theorem dats_A (c : Dev nD) (w : Fin (cfgM m hO).W) : (dats m hO 0 c).A w = V m c (Pipeline.arrRef spec0 w) := by
  dsimp only [dats]
theorem after_0 (c : Dev nD) (t : Fin (cfgM m hO).N) : (dats m hO 0 c).after 0 t = iblk m hO c 0 t := by dsimp only [dats]; try rfl
theorem after_1 (c : Dev nD) (t : Fin (cfgM m hO).N) : (dats m hO 0 c).after 1 t = iblk m hO c 1 t := by dsimp only [dats]; try rfl
theorem after_2 (c : Dev nD) (t : Fin (cfgM m hO).N) : (dats m hO 0 c).after 2 t = iblk m hO c 2 t := by dsimp only [dats]; try rfl
theorem after_3 (c : Dev nD) (t : Fin (cfgM m hO).N) : (dats m hO 0 c).after 3 t = iblk m hO c 3 t := by dsimp only [dats]; try rfl
theorem after_4 (c : Dev nD) (t : Fin (cfgM m hO).N) : (dats m hO 0 c).after 4 t = iblk m hO c 4 t := by dsimp only [dats]; try rfl
theorem after_5 (c : Dev nD) (t : Fin (cfgM m hO).N) : (dats m hO 0 c).after 5 t = iblk m hO c 5 t := by dsimp only [dats]; try rfl
theorem after_6 (c : Dev nD) (t : Fin (cfgM m hO).N) : (dats m hO 0 c).after 6 t = outAt m hO c t := by dsimp only [dats]; try rfl

/-- What the body is called with at a point, and what it returns. -/
def bodyPre (c : Dev nD) (t : Fin (cfgM m hO).N) : sProp 𝕄 :=
  iprop((dats m hO 0 c).Φ t.castSucc ∗ (dats m hO 0 c).owesAt () t.castSucc
    ∗ (∃ d, owns (c : Thread nD τ) (stage_0 m hO t) fullShare ((dats m hO 0 c).before 0 t d))
    ∗ (∃ d, owns (c : Thread nD τ) (stage_1 m hO t) fullShare ((dats m hO 0 c).before 1 t d))
    ∗ (∃ d, owns (c : Thread nD τ) (stage_2 m hO t) fullShare ((dats m hO 0 c).before 2 t d))
    ∗ (∃ d, owns (c : Thread nD τ) (stage_3 m hO t) fullShare ((dats m hO 0 c).before 3 t d))
    ∗ (∃ d, owns (c : Thread nD τ) (stage_4 m hO t) fullShare ((dats m hO 0 c).before 4 t d))
    ∗ (∃ d, owns (c : Thread nD τ) (stage_5 m hO t) fullShare ((dats m hO 0 c).before 5 t d))
    ∗ (∃ d, owns (c : Thread nD τ) (stage_6 m hO t) fullShare ((dats m hO 0 c).before 6 t d)))
def bodyPost (c : Dev nD) (t : Fin (cfgM m hO).N) : sProp 𝕄 :=
  iprop((dats m hO 0 c).Φ t.succ ∗ (dats m hO 0 c).owesAt () t.succ
    ∗ owns (c : Thread nD τ) (stage_0 m hO t) fullShare ((dats m hO 0 c).after 0 t)
    ∗ owns (c : Thread nD τ) (stage_1 m hO t) fullShare ((dats m hO 0 c).after 1 t)
    ∗ owns (c : Thread nD τ) (stage_2 m hO t) fullShare ((dats m hO 0 c).after 2 t)
    ∗ owns (c : Thread nD τ) (stage_3 m hO t) fullShare ((dats m hO 0 c).after 3 t)
    ∗ owns (c : Thread nD τ) (stage_4 m hO t) fullShare ((dats m hO 0 c).after 4 t)
    ∗ owns (c : Thread nD τ) (stage_5 m hO t) fullShare ((dats m hO 0 c).after 5 t)
    ∗ owns (c : Thread nD τ) (stage_6 m hO t) fullShare ((dats m hO 0 c).after 6 t))

theorem body_runs (hT : Tok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0 m hO (dats m hO 0 c) t (dats_A m hO c 0) (after_0 m hO c), before_1 m hO (dats m hO 0 c) t (dats_A m hO c 1) (after_1 m hO c), before_2 m hO (dats m hO 0 c) t (dats_A m hO c 2) (after_2 m hO c), before_3 m hO (dats m hO 0 c) t (dats_A m hO c 3) (after_3 m hO c), before_4 m hO (dats m hO 0 c) t (dats_A m hO c 4) (after_4 m hO c), before_5 m hO (dats m hO 0 c) t (dats_A m hO c 5) (after_5 m hO c)]
  rw [after_0, after_1, after_2, after_3, after_4, after_5, after_6]
  have hc : (grid0.coords t 0).val = t.val := coords_val t
  have hin : ((dats m hO 0 c).Φ t.castSucc : sProp 𝕄) = Inv m c (grid0.coords t 0).val := congrArg (Inv m c) hc.symm
  have hout : ((dats m hO 0 c).Φ t.succ : sProp 𝕄) = Inv m c ((grid0.coords t 0).val + 1) := congrArg (fun n => Inv m c (n + 1)) hc.symm
  rw [hin, hout]
  unfold Inv
  rw [slots_before, ← slots_after]
  unfold Dat.owesAt Pipeline.owesWithin outAt
  iintro ⟨⟨⟨HA, HB⟩, HR, Hg, HT⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (body_spec c (grid0.coords t) (Memref.whole main_arg0) (Memref.isWhole_whole _) (stage_0 m hO t) (whole_0 m hO t) (stage_1 m hO t) (whole_1 m hO t)
    (Memref.isWhole_whole _) (stage_2 m hO t) (whole_2 m hO t) (stage_3 m hO t) (whole_3 m hO t) (stage_4 m hO t) (whole_4 m hO t)
    (stage_5 m hO t) (whole_5 m hO t) (stage_6 m hO t) (whole_6 m hO t) (Memref.isWhole_whole _)
    (acts m c) (tok m c (grid0.coords t 0).val) (tok m c ((grid0.coords t 0).val + 1)) (iblk m hO c 0 t) (iblk m hO c 1 t) (iblk m hO c 2 t) (iblk m hO c 3 t) (iblk m hO c 4 t) (iblk m hO c 5 t)
    fullShare fullShare fullShare fullShare fullShare fullShare
    (fun j => by rw [hc]; exact read_0 m hO c t hT j) (fun j => by rw [hc]; exact read_1 m hO c t hT j) _)
    $$ [H0 H1 H2 H3 H4 H5 H6 HW HA HB]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HW]; · iexists _; iexact HW
    isplitl [HA] <;> iassumption
  iintro ⟨H0, H1, H2, H3, H4, H5, H6, ⟨%W', HW⟩, HL⟩
  isplitl [HL HR Hg HT]
  · isplitl [HL]; · iexact HL
    isplitl [HR]; · iexact HR
    isplitl [Hg]; · iexact Hg
    iexact HT
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  rw [hc]
  iexact H6

theorem defs₀_row (t : Fin (cfgM m hO).N) :
    defs₀ (F := F) .tc (cfgM m hO).body ((cfgM m hO).bodyArgs t ((cfgM m hO).slots t)) = bodyAt m hO t := by
  unfold defs₀; rw [Defs.onTc_tc]

theorem body_obligation (hT : Tok m) (c : Dev nD) : BodyObligation (dats (F := F) m hO 0 c) (defs₀ (F := F)) Variants.none () Set.univ := fun t => by
  rw [bigSep_W0, bigSep_W0, defs₀_row m hO]
  exact triple_restated (body_runs m hO hT c t) rfl .rfl fun _ => .rfl

/-! ### The launch -/

/-- The two DMA counters of the gather; the array its copies read. -/
abbrev osem0 : Fin 2 → SemLoc sig := fun j => (![SemLoc.dma 14, SemLoc.dma 15] : Fin 2 → SemLoc sig) j
theorem ownSemFacts0 : Pipeline.OwnSemFacts spec0 osem0 := by decide
theorem cell_0 : cell 0 = 14 := rfl
theorem cell_1 : cell 1 = 15 := rfl
def H0 : Finset (Ref sig .tc) := {main_arg2}
theorem H0_sub : H0 ⊆ Pipeline.restRefsP sig pre0 spec0 := by decide

theorem given_eq (c : Dev nD) :
    (Pipeline.ΦD osem0 spec0 H0 (V m) c : sProp 𝕄)
      = iprop((∃ f, bufAt c f) ∗ (∃ r, prngReg c r)
          ∗ iprop(semVal ((c : Thread nD τ), SemLoc.dma (cell 0)) 0 ∗ semVal ((c : Thread nD τ), SemLoc.dma (cell 1)) 0)
          ∗ actAt c (acts m c)) := by
  rw [Pipeline.ΦD_eq, scopedRest0_eq, Pipeline.ownSems0_eq_of_list c osem0 [0, 1] (by decide) (by decide)]
  unfold H0
  rw [bigSep_singleton]
  rfl

theorem enter (c : Dev nD) :
    iprop(Pipeline.ΦD osem0 spec0 H0 (V m) c ∗ Pipeline.ΦT pre0 (tbl m) c) ⊢ ((dats m hO 0 c).Φ 0 : sProp 𝕄) := by
  rw [show ((dats m hO 0 c).Φ 0 : sProp 𝕄) = Inv m c 0 from rfl]
  unfold Inv
  rw [given_eq, slots_zero]
  iintro ⟨⟨HB, Hg, ⟨HS0, HS1⟩, HA⟩, HT⟩
  ihave ⟨HR, HI0, HI1⟩ := start c (acts m c) $$ [HB HA HS0 HS1]
  · isplitl [HB]; · iexact HB
    isplitl [HA]; · iexact HA
    isplitl [HS0] <;> iassumption
  isplitl [HI0 HI1]
  · isplitl [HI0] <;> iassumption
  isplitl [HR]; · iexact HR
  isplitl [Hg]; · iexact Hg
  iexact HT

theorem leave (c : Dev nD) :
    (dats m hO 0 c).Φ (Fin.last (cfgM m hO).N) ⊢ (Pipeline.ΦD osem0 spec0 H0 (V m) c : sProp 𝕄) := by
  rw [show ((dats m hO 0 c).Φ (Fin.last (cfgM m hO).N) : sProp 𝕄) = Inv m c 560 from congrArg (Inv m c) N_0]
  unfold Inv
  rw [given_eq, slots_last]
  iintro ⟨⟨HI0, HI1⟩, HR, Hg, -⟩
  ihave ⟨HB, HA, HS0, HS1⟩ := finish c (acts m c) $$ [HR HI0 HI1]
  · isplitl [HR]; · iexact HR
    isplitl [HI0] <;> iassumption
  isplitl [HB]; · iexact HB
  isplitl [Hg]; · iexact Hg
  isplitl [HS0 HS1]
  · isplitl [HS0] <;> iassumption
  iexact HA

set_option backward.isDefEq.respectTransparency.types false in
/-- Every fair run ends, its arrays what the blocks make them, every counter at zero. -/
theorem run_main (hT : Tok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_dma_shared (Q' := _) pcfgs (fun _ => adm m hO) (dats m hO) (0 : Fin 1) launch₀0 osem0 defs₀ Variants.none
    ownSemFacts0 H0 H0_sub m ρ main
    (hbody := fun c => (body_obligation m hO hT c).loose) (hq := fun _ _ _ => rfl)
    (howed := fun _ _ => rfl) (V := V m) (hmain := main_region m Variants.none) (hA := dats_A m hO) (hpf := V_pre m)
    (hin := enter m hO) (hout := leave m hO)

include hO in
/-- The arguments end as they began. -/
theorem frame (hT : Tok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (by decide : main_arg0 ∈ Pipeline.restRefs sig spec0)),
      ((h.1 c).1 0).trans (((dats m hO 0 c).arrAt_in 0 rfl _).trans (dats_A m hO c 0)),
      ((h.1 c).2 main_arg2 (by decide : main_arg2 ∈ Pipeline.restRefs sig spec0)),
      ((h.1 c).1 2).trans (((dats m hO 0 c).arrAt_in 2 rfl _).trans (dats_A m hO c 2)),
      ((h.1 c).1 3).trans (((dats m hO 0 c).arrAt_in 3 rfl _).trans (dats_A m hO c 3)),
      ((h.1 c).1 4).trans (((dats m hO 0 c).arrAt_in 4 rfl _).trans (dats_A m hO c 4)),
      ((h.1 c).1 5).trans (((dats m hO 0 c).arrAt_in 5 rfl _).trans (dats_A m hO c 5))⟩, h.2⟩) (run_main m ρ hO hT)

end Cert.Kernel2Ideal.Moe

end
-- ==== Proof.MoeSpec.lean ====
/-
  The experts' feed-forward as one function: each row of a block through its expert's two products and the clamped gate
  between them; and the reading of a gather along the first axis.
-/
module

public import Idealize.ShloMosaic.PureOps.Ideal
public import Idealize.ShloMosaic.Lib.Pointwise
public import Idealize.ShloMosaic.Lib.Pointwise.Index
public import Idealize.ShloMosaic.Lib.StableHlo.Predicate

@[expose] public section

noncomputable section

open Idealize.ShloMosaic

namespace Cert.MoeSpec

/-- A row through a product and its bias. -/
def lin {n : ℕ} (x : Fin 1024 → EReal) (w : Fin 1024 → Fin n → EReal) (b : Fin n → EReal) (f : Fin n) : EReal :=
  ∑ k : Fin 1024, x k * w k f + b f

/-- The gated unit: the gate clamped above and passed through its own logistic, the other clamped on both sides. -/
def gate (g u : EReal) : EReal :=
  (min (Ideal.ofBits FTy.f32 0x40E00000#32) (max (Ideal.ofBits FTy.f32 0xC0E00000#32) u) + 1)
    * (min g (Ideal.ofBits FTy.f32 0x40E00000#32)
      * Ideal.logistic (Ideal.ofBits FTy.f32 0x3FD9DB23#32 * min g (Ideal.ofBits FTy.f32 0x40E00000#32)))

/-- One row of the result. -/
def row (x : Fin 1024 → EReal) (wgu : Fin 1024 → Fin 2048 → EReal) (bgu : Fin 2048 → EReal)
    (wdn : Fin 1024 → Fin 1024 → EReal) (bdn : Fin 1024 → EReal) : Fin 1024 → EReal :=
  lin (fun f => gate (lin x wgu bgu ⟨f.val, by omega⟩) (lin x wgu bgu ⟨1024 + f.val, by omega⟩)) wdn bdn

theorem row_congr {x x' : Fin 1024 → EReal} {w w' : Fin 1024 → Fin 2048 → EReal} {b b' : Fin 2048 → EReal}
    {v v' : Fin 1024 → Fin 1024 → EReal} {e e' : Fin 1024 → EReal} (hx : ∀ k, x k = x' k) (hw : ∀ k f, w k f = w' k f)
    (hb : ∀ f, b f = b' f) (hv : ∀ f d, v f d = v' f d) (he : ∀ d, e d = e' d) (d : Fin 1024) :
    row x w b v e d = row x' w' b' v' e' d := by
  obtain rfl := funext hx
  obtain rfl := funext fun k => funext (hw k)
  obtain rfl := funext hb
  obtain rfl := funext fun k => funext (hv k)
  obtain rfl := funext he
  rfl

section
variable (x0 : IVec ⟨1, ![560]⟩ 32) (x1 : IVec ⟨3, ![560, 1, 256]⟩ 32) (x2 : (⟨2, ![33792, 1024]⟩ : Shape).Idx → EReal)
  (x3 : (⟨3, ![32, 1024, 2048]⟩ : Shape).Idx → EReal) (x4 : (⟨3, ![32, 1, 2048]⟩ : Shape).Idx → EReal)
  (x5 : (⟨3, ![32, 1024, 1024]⟩ : Shape).Idx → EReal) (x6 : (⟨3, ![32, 1, 1024]⟩ : Shape).Idx → EReal)

/-- Block `n`'s expert. -/
def expert (n : Fin 560) : Fin 32 := ⟨(x0 (ix1 n)).toNat % 32, Nat.mod_lt _ (by omega)⟩
/-- The token of a block's row. -/
def token (n : Fin 560) (j : Fin 256) : Fin 33792 := ⟨(x1 (ix3 n (0 : Fin 1) j)).toNat % 33792, Nat.mod_lt _ (by omega)⟩

/-- A block's row of the result: its token's activations through its block's expert. -/
def block (n : Fin 560) (j : Fin 256) : Fin 1024 → EReal :=
  row (fun k => x2 (ix2 (token x1 n j) k)) (fun k f => x3 (ix3 (expert x0 n) k f)) (fun f => x4 (ix3 (expert x0 n) (0 : Fin 1) f))
    (fun f d => x5 (ix3 (expert x0 n) f d)) (fun d => x6 (ix3 (expert x0 n) (0 : Fin 1) d))

/-- The whole result: the blocks one after another. -/
def result : (⟨2, ![143360, 1024]⟩ : Shape).Idx → EReal := fun i =>
  block x0 x1 x2 x3 x4 x5 x6 ⟨(i 0).val / 256, by have h : (i 0).val < 143360 := (i 0).isLt; omega⟩
    ⟨(i 0).val % 256, Nat.mod_lt _ (by omega)⟩ (i 1)
end

/-- A word between zero and a bound, read unsigned. -/
theorem word_lt (v b : BitVec 32) (hb : b.toNat < 2 ^ 31)
    (h : IntOp.andi (IntOp.cmpi .sge v 0#32) (IntOp.cmpi .slt v b) = 1#1) : v.toNat < b.toNat := by
  have h0 : BitVec.sle 0#32 v = true ∧ BitVec.slt v b = true := by
    revert h
    unfold IntOp.andi IntOp.cmpi
    cases e0 : BitVec.sle 0#32 v <;> cases e1 : BitVec.slt v b <;> simp [e0, e1]
  obtain ⟨h1, h2⟩ := h0
  rw [BitVec.sle_iff_toInt_le] at h1
  rw [BitVec.slt_iff_toInt_lt] at h2
  have e0 : (0#32).toInt = 0 := rfl
  have eb : b.toInt = b.toNat := BitVec.toInt_eq_toNat_of_lt (by omega)
  have ev := BitVec.toInt_eq_toNat_cond v
  rw [e0] at h1
  rw [eb] at h2
  have := v.isLt
  split at ev <;> omega

/-- Such a word is what a wrapped index selects, read signed. -/
theorem wrap (v k : BitVec 32) (hv : v.toNat < 2 ^ 31) :
    (Scalar.select (IntOp.cmpi .slt v 0#32) (IntOp.addi v k) v).toInt.toNat = v.toNat := by
  have e : v.toInt = v.toNat := BitVec.toInt_eq_toNat_of_lt (by omega)
  have h : IntOp.cmpi CmpIPredicate.slt v 0#32 = 0#1 := by
    unfold IntOp.cmpi
    have : BitVec.slt v 0#32 = false := by
      rw [Bool.eq_false_iff, Ne, BitVec.slt_iff_toInt_lt, e]; simp
    simp [this]
  rw [h]
  show v.toInt.toNat = _
  rw [e]; simp

theorem start_eq {N n : ℕ} (idx : IVec ⟨2, ![n, 1]⟩ 32) (p : Fin n) (v : Fin N) (hv : (idx (ix2 p (0 : Fin 1))).toInt.toNat = v.val)
    (y : (⟨2, ![n, 1]⟩ : Shape).Idx) (h : (y 0).val = p.val) : min (idx y).toInt.toNat (N - 1) + 0 + 0 = v.val := by
  have e : y = ix2 p (0 : Fin 1) := by
    funext d
    match d with
    | ⟨0, _⟩ => exact Fin.ext h
    | ⟨1, _⟩ => exact Subsingleton.elim (α := Fin 1) _ _
  rw [e, hv]
  have := v.isLt
  omega

/-- A gather of slabs along the first axis reads the named slab. -/
theorem gather3 {α : Type} {N A B n : ℕ}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (p : Fin n) (a : Fin A) (b : Fin B) (v : Fin N)
    (hv : (idx (ix2 p (0 : Fin 1))).toInt.toNat = v.val) :
    Host.gather
      { offsetDims := [1, 2], collapsedSliceDims := [0], operandBatchingDims := [], startIndicesBatchingDims := []
        startIndexMap := [0], indexVectorDim := 1, sliceSizes := ![1, A, B], wf := wf } x idx (ix3 p a b) = x (ix3 v a b) := by
  unfold Host.gather
  congr 1
  funext c
  apply Fin.ext
  match c with
  | ⟨0, _⟩ => exact start_eq idx p v hv _ rfl
  | ⟨1, _⟩ => exact (Nat.zero_add _ : 0 + 0 + a.val = a.val)
  | ⟨2, _⟩ => exact (Nat.zero_add _ : 0 + 0 + b.val = b.val)

/-- A gather of rows along the first axis reads the named row. -/
theorem gather2 {α : Type} {N A n : ℕ}
    (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ 32) (p : Fin n) (a : Fin A) (v : Fin N)
    (hv : (idx (ix2 p (0 : Fin 1))).toInt.toNat = v.val) :
    Host.gather
      { offsetDims := [1], collapsedSliceDims := [0], operandBatchingDims := [], startIndicesBatchingDims := []
        startIndexMap := [0], indexVectorDim := 1, sliceSizes := ![1, A], wf := wf } x idx (ix2 p a) = x (ix2 v a) := by
  unfold Host.gather
  congr 1
  funext c
  apply Fin.ext
  match c with
  | ⟨0, _⟩ => exact start_eq idx p v hv _ rfl
  | ⟨1, _⟩ => exact (Nat.zero_add _ : 0 + 0 + a.val = a.val)

end Cert.MoeSpec

end
-- ==== Proof.MoeRouted.lean ====
/- The routing precondition, read: the expert numbers are below 32 and the token numbers below 33792. -/
module

public import proofs.«01_k».proof.Proof.MoeSpec
public import proofs.«01_k».proof.Pre_routed
public import proofs.«01_k».proof.Proof.Gen.Pre_routed

@[expose] public section

noncomputable section

namespace Cert.MoeSpec

open Idealize.ShloMosaic Cert.Pre_routed

variable {F : FTy → Type} [FloatOps F] [Cert.Pre_routed.Facts]
variable (x0 : IVec S560 32) (x1 : IVec S560x1x256 32) (x2 : FVec F S33792x1024 .f32) (x3 : FVec F S32x1024x2048 .bf16)
  (x4 : FVec F S32x1x2048 .f32) (x5 : FVec F S32x1024x1024 .bf16) (x6 : FVec F S32x1x1024 .f32)

theorem experts (h : (Cert.Pre_routed.fn (F := F) x0 x1 x2 x3 x4 x5 x6).1 = fun _ => 1#1) (i : S560.Idx) : (x0 i).toNat < 32 :=
  word_lt (x0 i) 32#32 (by decide) (congrFun h i)

theorem tokens (h : (Cert.Pre_routed.fn (F := F) x0 x1 x2 x3 x4 x5 x6).2 = fun _ => 1#1) (i : S560x1x256.Idx) : (x1 i).toNat < 33792 :=
  word_lt (x1 i) 33792#32 (by decide) (congrFun h i)

end Cert.MoeSpec

end
-- ==== Proof.MoeOk.lean ====
/- The routing precondition: every expert number and every token number is in range, so every block lies in its array. -/
module

public import proofs.«01_k».proof.Proof.MoeFrame
public import proofs.«01_k».proof.Proof.MoeRouted

@[expose] public section

noncomputable section

namespace Cert.Kernel2Ideal.Moe

open Cert.Kernel2Ideal Cert.Kernel2Ideal.Gen
open Idealize.ShloMosaic Idealize.ShloMosaic.TcCoe

variable {F : FTy → Type} [FloatOps F]
variable (m : (ℓ : Loc nD τ sig) → Buf (Elt F) ℓ)

/-- The expert numbers are in range. -/
def Exp : Prop := ∀ n : Fin 560, BitVec.toNat (V m (0 : Dev nD) main_arg0 (ix1 n : S560.Idx) : BitVec 32) < 32

/-- The table's word for a grid point. -/
abbrev word (i : grid0.Coords) : BitVec 32 := V m (0 : Dev nD) main_arg0 (ix1 (⟨(i 0).val, (i 0).isLt⟩ : Fin 560) : S560.Idx)

/-- The word an index map reads of the table at a grid point. -/
theorem table_at (i : grid0.Coords) :
    (tbl m).at 0 (Rect.unit (s := S560) (k0_off1 i) S1.size (k0_off1_inb i)) numel1_S1
      = word m i := by
  show V m (0 : Dev nD) main_arg0 _ = _
  congr 1
  funext a
  match a with
  | ⟨0, _⟩ =>
    apply Fin.ext
    show (BitVec.ofNat 32 (i 0).val).toNat + 1 * 0 = (i 0).val
    have h : (i 0).val < 560 := (i 0).isLt
    rw [BitVec.toNat_ofNat]
    omega

theorem index_3 (i : grid0.Coords) : cc0_transform_3 k0_off1_inb numel1_S1 (tbl m) i = ![(word m i).toNat, 0, 0] :=
  congrArg (fun w : BitVec 32 => ![w.toNat, 0, 0]) (table_at m i)
theorem index_4 (i : grid0.Coords) : cc0_transform_4 k0_off1_inb numel1_S1 (tbl m) i = ![(word m i).toNat, 0, 0] :=
  congrArg (fun w : BitVec 32 => ![w.toNat, 0, 0]) (table_at m i)
theorem index_5 (i : grid0.Coords) : cc0_transform_5 k0_off1_inb numel1_S1 (tbl m) i = ![(word m i).toNat, 0, 0] :=
  congrArg (fun w : BitVec 32 => ![w.toNat, 0, 0]) (table_at m i)
theorem index_6 (i : grid0.Coords) : cc0_transform_6 k0_off1_inb numel1_S1 (tbl m) i = ![(word m i).toNat, 0, 0] :=
  congrArg (fun w : BitVec 32 => ![w.toNat, 0, 0]) (table_at m i)

theorem ok_of (hE : Exp m) : Ok m := by
  have hi : ∀ i : grid0.Coords, BitVec.toNat (word m i) < 32 := fun i => hE _
  unfold Ok ok0
  refine ⟨fun i => ?_, fun i => ?_, fun i => ?_, fun i => ?_⟩
  · refine ⟨fun a => ?_, .inr (Or.inr ⟨by decide, rfl, ?_, rfl⟩)⟩
    · rw [index_3 m i]
      have : (BitVec.toNat (word m i) + 1) * 1 ≤ 32 := by have := hi i; omega
      match a with
      | ⟨0, _⟩ => exact this
      | ⟨1, _⟩ => show (0 + 1) * 1024 ≤ 1024; omega
      | ⟨2, _⟩ => show (0 + 1) * 2048 ≤ 2048; omega
    · show cc0_transform_3 k0_off1_inb numel1_S1 (tbl m) i 1 * 1024 = 0
      rw [index_3 m i]; rfl
  · refine ⟨fun a => ?_, .inl rfl⟩
    rw [index_4 m i]
    have : (BitVec.toNat (word m i) + 1) * 1 ≤ 32 := by have := hi i; omega
    match a with
    | ⟨0, _⟩ => exact this
    | ⟨1, _⟩ => show (0 + 1) * 1 ≤ 1; omega
    | ⟨2, _⟩ => show (0 + 1) * 2048 ≤ 2048; omega
  · refine ⟨fun a => ?_, .inr (Or.inr ⟨by decide, rfl, ?_, rfl⟩)⟩
    · rw [index_5 m i]
      have : (BitVec.toNat (word m i) + 1) * 1 ≤ 32 := by have := hi i; omega
      match a with
      | ⟨0, _⟩ => exact this
      | ⟨1, _⟩ => show (0 + 1) * 1024 ≤ 1024; omega
      | ⟨2, _⟩ => show (0 + 1) * 1024 ≤ 1024; omega
    · show cc0_transform_5 k0_off1_inb numel1_S1 (tbl m) i 1 * 1024 = 0
      rw [index_5 m i]; rfl
  · refine ⟨fun a => ?_, .inl rfl⟩
    rw [index_6 m i]
    have : (BitVec.toNat (word m i) + 1) * 1 ≤ 32 := by have := hi i; omega
    match a with
    | ⟨0, _⟩ => exact this
    | ⟨1, _⟩ => show (0 + 1) * 1 ≤ 1; omega
    | ⟨2, _⟩ => show (0 + 1) * 1024 ≤ 1024; omega

end Cert.Kernel2Ideal.Moe

end
-- ==== Proof.MoeValue.lean ====
/-
  The kernel's result read at an index: the body's block is the feed-forward of its rows through its expert, and the blocks
  tile the result.
-/
module

public import proofs.«01_k».proof.Proof.MoeOk
public import Idealize.ShloMosaic.Lib.Pointwise
public import Idealize.ShloMosaic.Lib.Pointwise.Index

@[expose] public section

set_option maxRecDepth 16384

noncomputable section

namespace Cert.Kernel2Ideal.Moe

open Cert.Kernel2Ideal Cert.Kernel2Ideal.Gen Cert.MoeSpec
open Idealize.ShloMosaic Idealize.ShloMosaic.TcCoe Idealize.SL.Sem
open Idealize.ShloMosaic.Pipeline (Dat Cfg Window)

section
variable (x17 : Vec Ideal S1x256x1024 .f32) (x5 : Vec Ideal S1x1024x2048 .bf16) (x6 : Vec Ideal S1x1x2048 .f32)
  (x7 : Vec Ideal S1x1024x1024 .bf16) (x8 : Vec Ideal S1x1x1024 .f32)

theorem pay2_at (q : Fin 256) (f : Fin 2048) :
    k0_pay2 (F := Ideal) x17 x5 x6 (ix2 q f)
      = lin (fun k => x17 (ix3 (0 : Fin 1) q k)) (fun k f => x5 (ix3 (0 : Fin 1) k f)) (fun f => x6 (ix3 (0 : Fin 1) (0 : Fin 1) f)) f := by
  unfold lin
  pointwise [k0_pay2]

theorem pay1_at (v26 : FVec Ideal S256x2048 .f32) (v27 v28 : FVec Ideal S256x1024 .f32) (q : Fin 256) (d : Fin 1024) :
    k0_pay1 (F := Ideal) v26 v27 v28 x7 x8 (ix2 q d)
      = lin (fun f => (min (Ideal.ofBits FTy.f32 0x40E00000#32) (max (Ideal.ofBits FTy.f32 0xC0E00000#32) (v26 (ix2 q ⟨1024 + f.val, by omega⟩))) + 1)
          * (min (v27 (ix2 q f)) (v28 (ix2 q f)) * Ideal.logistic (Ideal.ofBits FTy.f32 0x3FD9DB23#32 * min (v27 (ix2 q f)) (v28 (ix2 q f)))))
        (fun f d => x7 (ix3 (0 : Fin 1) f d)) (fun d => x8 (ix3 (0 : Fin 1) (0 : Fin 1) d)) d := by
  unfold lin
  pointwise [k0_pay1]

theorem outOf_at (h : S33792x1024.Idx → EReal) (tk : Fin 256 → Fin 33792) (q : Fin 256) (d : Fin 1024) :
    outOf (F := Ideal) h tk x5 x6 x7 x8 (ix2 q d)
      = Cert.MoeSpec.row (fun k => h (ix2 (tk q) k)) (fun k f => x5 (ix3 (0 : Fin 1) k f)) (fun f => x6 (ix3 (0 : Fin 1) (0 : Fin 1) f))
          (fun f d => x7 (ix3 (0 : Fin 1) f d)) (fun d => x8 (ix3 (0 : Fin 1) (0 : Fin 1) d)) d := by
  have e4 : ∀ i, k0_pay4 (F := Ideal) i = Ideal.ofBits FTy.f32 0x40E00000#32 := fun i => rfl
  have e3 : ∀ f : Fin 1024, k0_pay3 (F := Ideal) (rowsOf h tk) x5 x6 (ix2 q f) = k0_pay2 (F := Ideal) (rowsOf h tk) x5 x6 (ix2 q ⟨f.val, by omega⟩) := fun f => by
    pointwise [k0_pay3]
  unfold outOf Cert.MoeSpec.row
  rw [pay1_at]
  simp only [e3, e4, pay2_at]
  rfl
end

variable (m : (ℓ : Loc nD τ sig) → Buf (Elt Ideal) ℓ) (hO : Ok m) (hE : Exp m) (hT : Tok m) (c : Dev nD)

abbrev A0 : IVec S560 32 := V m c main_arg0
abbrev A1 : IVec S560x1x256 32 := V m c main_arg1
abbrev A2 : S33792x1024.Idx → EReal := V m c main_arg2
abbrev A3 : S32x1024x2048.Idx → EReal := V m c main_arg3
abbrev A4 : S32x1x2048.Idx → EReal := V m c main_arg4
abbrev A5 : S32x1024x1024.Idx → EReal := V m c main_arg5
abbrev A6 : S32x1x1024.Idx → EReal := V m c main_arg6

theorem lt_N (t : Fin (cfgM m hO).N) : t.val < 560 := N_0 ▸ t.isLt

/-- A grid point's block number. -/
abbrev pt (t : Fin (cfgM m hO).N) : Fin 560 := ⟨t.val, lt_N m hO t⟩

include hE in
theorem word_eq (t : Fin (cfgM m hO).N) : (word m (grid0.coords t)).toNat = (expert (A0 m c) (pt m hO t)).val := by
  obtain rfl : c = 0 := Subsingleton.elim _ _
  have e : (⟨(grid0.coords t 0).val, (grid0.coords t 0).isLt⟩ : Fin 560) = pt m hO t := Fin.ext (coords_val t)
  show BitVec.toNat (V m (0 : Dev nD) main_arg0 (ix1 _) : BitVec 32) = _
  rw [e]
  exact (Nat.mod_eq_of_lt (hE (pt m hO t))).symm

theorem tok_eq (t : Fin (cfgM m hO).N) (q : Fin 256) : tok m c t.val q = token (A1 m c) (pt m hO t) q := by
  have h := lt_N m hO t
  have e : (⟨min t.val 559, by omega⟩ : Fin 560) = pt m hO t := Fin.ext (by show min t.val 559 = t.val; omega)
  unfold tok token
  simp only [e]

include hE in
theorem iblk_2 (t : Fin (cfgM m hO).N) (k : Fin 1024) (f : Fin 2048) :
    (iblk m hO c 2 t : Vec Ideal S1x1024x2048 .bf16) (ix3 (0 : Fin 1) k f) = A3 m c (ix3 (expert (A0 m c) (pt m hO t)) k f) := by
  have h := index_3 m (grid0.coords t)
  have e : (((cfgM m hO).win 2).blk t).view.emb (ix3 (0 : Fin 1) k f : S1x1024x2048.Idx) = (ix3 (expert (A0 m c) (pt m hO t)) k f : S32x1024x2048.Idx) := by
    funext a; fin_cases a <;> apply Fin.ext
    · show cc0_transform_3 k0_off1_inb numel1_S1 (tbl m) (grid0.coords t) 0 * 1 + 1 * 0 = _
      rw [h]; show (word m (grid0.coords t)).toNat * 1 + 1 * 0 = _
      rw [word_eq m hO hE c t]; show _ = (expert (A0 m c) (pt m hO t)).val; omega
    · show cc0_transform_3 k0_off1_inb numel1_S1 (tbl m) (grid0.coords t) 1 * 1024 + 1 * k.val = k.val
      rw [h]; show 0 * 1024 + 1 * k.val = k.val; omega
    · show cc0_transform_3 k0_off1_inb numel1_S1 (tbl m) (grid0.coords t) 2 * 2048 + 1 * f.val = f.val
      rw [h]; show 0 * 2048 + 1 * f.val = f.val; omega
  show V m c main_arg3 ((((cfgM m hO).win 2).blk t).view.emb (ix3 (0 : Fin 1) k f : S1x1024x2048.Idx)) = _
  rw [e]

include hE in
theorem iblk_3 (t : Fin (cfgM m hO).N) (f : Fin 2048) :
    (iblk m hO c 3 t : Vec Ideal S1x1x2048 .f32) (ix3 (0 : Fin 1) (0 : Fin 1) f) = A4 m c (ix3 (expert (A0 m c) (pt m hO t)) (0 : Fin 1) f) := by
  have h := index_4 m (grid0.coords t)
  have e : (((cfgM m hO).win 3).blk t).view.emb (ix3 (0 : Fin 1) (0 : Fin 1) f : S1x1x2048.Idx) = (ix3 (expert (A0 m c) (pt m hO t)) (0 : Fin 1) f : S32x1x2048.Idx) := by
    funext a; fin_cases a <;> apply Fin.ext
    · show cc0_transform_4 k0_off1_inb numel1_S1 (tbl m) (grid0.coords t) 0 * 1 + 1 * 0 = _
      rw [h]; show (word m (grid0.coords t)).toNat * 1 + 1 * 0 = _
      rw [word_eq m hO hE c t]; show _ = (expert (A0 m c) (pt m hO t)).val; omega
    · show cc0_transform_4 k0_off1_inb numel1_S1 (tbl m) (grid0.coords t) 1 * 1 + 1 * 0 = 0
      rw [h]; rfl
    · show cc0_transform_4 k0_off1_inb numel1_S1 (tbl m) (grid0.coords t) 2 * 2048 + 1 * f.val = f.val
      rw [h]; show 0 * 2048 + 1 * f.val = f.val; omega
  show V m c main_arg4 ((((cfgM m hO).win 3).blk t).view.emb (ix3 (0 : Fin 1) (0 : Fin 1) f : S1x1x2048.Idx)) = _
  rw [e]

include hE in
theorem iblk_4 (t : Fin (cfgM m hO).N) (k d : Fin 1024) :
    (iblk m hO c 4 t : Vec Ideal S1x1024x1024 .bf16) (ix3 (0 : Fin 1) k d) = A5 m c (ix3 (expert (A0 m c) (pt m hO t)) k d) := by
  have h := index_5 m (grid0.coords t)
  have e : (((cfgM m hO).win 4).blk t).view.emb (ix3 (0 : Fin 1) k d : S1x1024x1024.Idx) = (ix3 (expert (A0 m c) (pt m hO t)) k d : S32x1024x1024.Idx) := by
    funext a; fin_cases a <;> apply Fin.ext
    · show cc0_transform_5 k0_off1_inb numel1_S1 (tbl m) (grid0.coords t) 0 * 1 + 1 * 0 = _
      rw [h]; show (word m (grid0.coords t)).toNat * 1 + 1 * 0 = _
      rw [word_eq m hO hE c t]; show _ = (expert (A0 m c) (pt m hO t)).val; omega
    · show cc0_transform_5 k0_off1_inb numel1_S1 (tbl m) (grid0.coords t) 1 * 1024 + 1 * k.val = k.val
      rw [h]; show 0 * 1024 + 1 * k.val = k.val; omega
    · show cc0_transform_5 k0_off1_inb numel1_S1 (tbl m) (grid0.coords t) 2 * 1024 + 1 * d.val = d.val
      rw [h]; show 0 * 1024 + 1 * d.val = d.val; omega
  show V m c main_arg5 ((((cfgM m hO).win 4).blk t).view.emb (ix3 (0 : Fin 1) k d : S1x1024x1024.Idx)) = _
  rw [e]

include hE in
theorem iblk_5 (t : Fin (cfgM m hO).N) (d : Fin 1024) :
    (iblk m hO c 5 t : Vec Ideal S1x1x1024 .f32) (ix3 (0 : Fin 1) (0 : Fin 1) d) = A6 m c (ix3 (expert (A0 m c) (pt m hO t)) (0 : Fin 1) d) := by
  have h := index_6 m (grid0.coords t)
  have e : (((cfgM m hO).win 5).blk t).view.emb (ix3 (0 : Fin 1) (0 : Fin 1) d : S1x1x1024.Idx) = (ix3 (expert (A0 m c) (pt m hO t)) (0 : Fin 1) d : S32x1x1024.Idx) := by
    funext a; fin_cases a <;> apply Fin.ext
    · show cc0_transform_6 k0_off1_inb numel1_S1 (tbl m) (grid0.coords t) 0 * 1 + 1 * 0 = _
      rw [h]; show (word m (grid0.coords t)).toNat * 1 + 1 * 0 = _
      rw [word_eq m hO hE c t]; show _ = (expert (A0 m c) (pt m hO t)).val; omega
    · show cc0_transform_6 k0_off1_inb numel1_S1 (tbl m) (grid0.coords t) 1 * 1 + 1 * 0 = 0
      rw [h]; rfl
    · show cc0_transform_6 k0_off1_inb numel1_S1 (tbl m) (grid0.coords t) 2 * 1024 + 1 * d.val = d.val
      rw [h]; show 0 * 1024 + 1 * d.val = d.val; omega
  show V m c main_arg6 ((((cfgM m hO).win 5).blk t).view.emb (ix3 (0 : Fin 1) (0 : Fin 1) d : S1x1x1024.Idx)) = _
  rw [e]

/-- The result, of the memory the launch starts from. -/
abbrev res : S143360x1024.Idx → EReal := result (A0 m c) (A1 m c) (A2 m c) (A3 m c) (A4 m c) (A5 m c) (A6 m c)

include hE in
theorem outAt_at (t : Fin (cfgM m hO).N) (q : Fin 256) (d : Fin 1024) :
    outAt m hO c t (ix2 q d) = block (A0 m c) (A1 m c) (A2 m c) (A3 m c) (A4 m c) (A5 m c) (A6 m c) (pt m hO t) q d := by
  unfold outAt block
  refine (outOf_at (iblk m hO c 2 t) (iblk m hO c 3 t) (iblk m hO c 4 t) (iblk m hO c 5 t) (A2 m c) (tok m c t.val) q d).trans ?_
  exact row_congr (fun k => by rw [tok_eq m hO c t]) (iblk_2 m hO hE c t) (iblk_3 m hO hE c t) (iblk_4 m hO hE c t) (iblk_5 m hO hE c t) d

theorem index_7 (t : Fin grid0.N) : cc0_transform_7 (grid0.coords t) = ![t.val, 0] := by
  have h := coords_val t
  have hn : t.val < 560 := N_0 ▸ t.isLt
  unfold cc0_transform_7
  rw [h]
  show ![(BitVec.ofNat 32 t.val).toNat, 0] = _
  rw [BitVec.toNat_ofNat, Nat.mod_eq_of_lt (by omega)]

theorem emb_6 (t : Fin (cfgM m hO).N) (q : Fin 256) (d : Fin 1024) :
    (((cfgM m hO).win 6).blk t).view.emb (ix2 q d : S256x1024.Idx)
      = (ix2 (⟨256 * t.val + q.val, by have := lt_N m hO t; omega⟩ : Fin 143360) d : S143360x1024.Idx) := by
  have h := index_7 t
  funext a; fin_cases a <;> apply Fin.ext
  · show cc0_transform_7 (grid0.coords t) 0 * 256 + 1 * q.val = 256 * t.val + q.val
    rw [h]; show t.val * 256 + 1 * q.val = _; omega
  · show cc0_transform_7 (grid0.coords t) 1 * 1024 + 1 * d.val = d.val
    rw [h]; show 0 * 1024 + 1 * d.val = d.val; omega

include hE in
theorem flushed_eq (t : Fin (cfgM m hO).N) :
    (dats m hO 0 c).flushed 6 t = (((cfgM m hO).win 6).blk t).view.read (Elt Ideal) (res m c) := by
  show outAt m hO c t = _
  funext y
  obtain ⟨q, d, rfl⟩ : ∃ (q : Fin 256) (d : Fin 1024), y = ix2 q d :=
    ⟨y 0, y 1, funext fun a => by match a with | ⟨0, _⟩ => rfl | ⟨1, _⟩ => rfl⟩
  refine (outAt_at m hO hE c t q d).trans ?_
  show _ = res m c ((((cfgM m hO).win 6).blk t).view.emb (ix2 q d : S256x1024.Idx))
  rw [emb_6 m hO t q d]
  unfold res result
  have := lt_N m hO t
  have e0 : (⟨(256 * t.val + q.val) / 256, by omega⟩ : Fin 560) = pt m hO t := Fin.ext (by show (256 * t.val + q.val) / 256 = t.val; omega)
  have e1 : (⟨(256 * t.val + q.val) % 256, by omega⟩ : Fin 256) = q := Fin.ext (by show (256 * t.val + q.val) % 256 = q.val; omega)
  show _ = block (A0 m c) (A1 m c) (A2 m c) (A3 m c) (A4 m c) (A5 m c) (A6 m c) ⟨(256 * t.val + q.val) / 256, _⟩ ⟨(256 * t.val + q.val) % 256, _⟩ d
  rw [e0, e1]

theorem flush_6 : ∀ t : Fin (cfgM m hO).N, ((cfgM m hO).win 6).flush t = true :=
  (fun t => (Pipeline.Window.flushOf_reads cc0_transform_7 reads0_6 hreads0_6 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

theorem mem_6 (t : Fin (cfgM m hO).N) (q : Fin 256) (d : Fin 1024) (i : S143360x1024.Idx)
    (hi : i = ix2 (⟨256 * t.val + q.val, by have := lt_N m hO t; omega⟩ : Fin 143360) d) :
    i ∈ (((cfgM m hO).win 6).blk t).view.set := by
  have e := (emb_6 m hO t q d).trans hi.symm
  exact Eq.subst (motive := fun z : S143360x1024.Idx => z ∈ (((cfgM m hO).win 6).blk t).view.set) e
    (View.emb_mem_set (((cfgM m hO).win 6).blk t).view (ix2 q d : S256x1024.Idx))

theorem split_row (r : Fin 143360) (d : Fin 1024) :
    (ix2 r d : S143360x1024.Idx) = ix2 (⟨256 * (r.val / 256) + r.val % 256, by omega⟩ : Fin 143360) d :=
  congrArg (fun r : Fin 143360 => (ix2 r d : S143360x1024.Idx)) (Fin.ext (by show r.val = 256 * (r.val / 256) + r.val % 256; omega))

/-- Every row of the result is in some grid point's block. -/
theorem cover (i : S143360x1024.Idx) : ∃ t : Fin (cfgM m hO).N, ((cfgM m hO).win 6).flush t = true ∧ i ∈ (((cfgM m hO).win 6).blk t).view.set := by
  obtain ⟨r, d, rfl⟩ : ∃ (r : Fin 143360) (d : Fin 1024), i = ix2 r d :=
    ⟨i 0, i 1, funext fun a => by match a with | ⟨0, _⟩ => rfl | ⟨1, _⟩ => rfl⟩
  have hlt : r.val / 256 < (cfgM m hO).N := by
    have : (cfgM m hO).N = 560 := N_0
    omega
  exact ⟨⟨r.val / 256, hlt⟩, flush_6 m hO _, mem_6 m hO ⟨r.val / 256, hlt⟩ ⟨r.val % 256, Nat.mod_lt _ (by omega)⟩ d _ (split_row r d)⟩

include hE in
theorem arr_eq : (dats m hO 0 c).arrAt 6 (cfgM m hO).N = res m c :=
  (dats m hO 0 c).arrAt_eq_of_cover 6 (res m c) (fun t _ => flushed_eq m hO hE c t) (cover m hO)

include hE hT in
/-- Every fair run ends with the result in place and the arguments as they were. -/
theorem run_result (ρ : Dev nD → PrngReg) : θ_run (defs (F := Ideal)) (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have hO := ok_of m hE
  (θ_run (defs (F := Ideal)) _ _).mono (fun _ h c => ⟨((h.1 c).1 6).trans (arr_eq m hO hE c),
      ((h.1 c).2 main_arg0 (by decide : main_arg0 ∈ Pipeline.restRefs sig spec0)),
      ((h.1 c).1 0).trans (((dats m hO 0 c).arrAt_in 0 rfl _).trans (dats_A m hO c 0)),
      ((h.1 c).2 main_arg2 (by decide : main_arg2 ∈ Pipeline.restRefs sig spec0)),
      ((h.1 c).1 2).trans (((dats m hO 0 c).arrAt_in 2 rfl _).trans (dats_A m hO c 2)),
      ((h.1 c).1 3).trans (((dats m hO 0 c).arrAt_in 3 rfl _).trans (dats_A m hO c 3)),
      ((h.1 c).1 4).trans (((dats m hO 0 c).arrAt_in 4 rfl _).trans (dats_A m hO c 4)),
      ((h.1 c).1 5).trans (((dats m hO 0 c).arrAt_in 5 rfl _).trans (dats_A m hO c 5))⟩) (run_main m ρ hO hT)

end Cert.Kernel2Ideal.Moe

end
-- ==== Proof.MoeRef.lean ====
/-
  The reference's result read at an index: each row's token gathered, each block's expert gathered, the two products and the
  gate between them.
-/
module

public import proofs.«01_k».proof.Proof.MoeSpec
public import proofs.«01_k».proof.Proof.Gen.Reference2Ideal.Read
public import Idealize.ShloMosaic.Lib.Pointwise
public import Idealize.ShloMosaic.Lib.Pointwise.Index

@[expose] public section

set_option maxRecDepth 16384

noncomputable section

open Idealize.ShloMosaic

namespace Cert.Reference2Ideal.MoeRef

open Cert.Reference2Ideal Cert.Reference2Ideal.Gen Cert.Reference2Ideal.Read Cert.MoeSpec

variable (x0 : IVec S560 32) (x1 : IVec S560x1x256 32) (x2 : S33792x1024.Idx → EReal) (x3 : S32x1024x2048.Idx → EReal)
  (x4 : S32x1x2048.Idx → EReal) (x5 : S32x1024x1024.Idx → EReal) (x6 : S32x1x1024.Idx → EReal)
  (hE : ∀ i : S560.Idx, (x0 i).toNat < 32) (hT : ∀ i : S560x1x256.Idx, (x1 i).toNat < 33792)

include hE in
theorem expert_word (n : Fin 560) (k : BitVec 32) :
    (Scalar.select (IntOp.cmpi .slt (x0 (ix1 n)) 0#32) (IntOp.addi (x0 (ix1 n)) k) (x0 (ix1 n))).toInt.toNat = (expert x0 n).val := by
  have h := hE (ix1 n)
  rw [wrap _ _ (by omega)]
  exact (Nat.mod_eq_of_lt h).symm

include hT in
theorem token_word (n : Fin 560) (j : Fin 256) (k : BitVec 32) :
    (Scalar.select (IntOp.cmpi .slt (x1 (ix3 n (0 : Fin 1) j)) 0#32) (IntOp.addi (x1 (ix3 n (0 : Fin 1) j)) k) (x1 (ix3 n (0 : Fin 1) j))).toInt.toNat
      = (token x1 n j).val := by
  have h := hT (ix3 n (0 : Fin 1) j)
  rw [wrap _ _ (by omega)]
  exact (Nat.mod_eq_of_lt h).symm

include hE in
theorem v14_at (n : Fin 560) : (val_main_v14 (F := Ideal) x0 (ix2 n (0 : Fin 1))).toInt.toNat = (expert x0 n).val := by
  pointwise [val_main_v14, val_main_v13, val_main_v12, val_main_v11, val_main_v10, val_main_v9, val_main_c_1, val_main_c_2]
  exact expert_word x0 hE n 32#32

include hE in
theorem v23_at (n : Fin 560) : (val_main_v23 (F := Ideal) x0 (ix2 n (0 : Fin 1))).toInt.toNat = (expert x0 n).val := by
  pointwise [val_main_v23, val_main_v22, val_main_v21, val_main_v20, val_main_v19, val_main_v18, val_main_c_3, val_main_c_4]
  exact expert_word x0 hE n 32#32

include hE in
theorem v49_at (n : Fin 560) : (val_main_v49 (F := Ideal) x0 (ix2 n (0 : Fin 1))).toInt.toNat = (expert x0 n).val := by
  pointwise [val_main_v49, val_main_v48, val_main_v47, val_main_v46, val_main_v45, val_main_v44, val_main_c_11, val_main_c_12]
  exact expert_word x0 hE n 32#32

include hE in
theorem v58_at (n : Fin 560) : (val_main_v58 (F := Ideal) x0 (ix2 n (0 : Fin 1))).toInt.toNat = (expert x0 n).val := by
  pointwise [val_main_v58, val_main_v57, val_main_v56, val_main_v55, val_main_v54, val_main_v53, val_main_c_13, val_main_c_14]
  exact expert_word x0 hE n 32#32

include hT in
theorem v6_at (n : Fin 560) (j : Fin 256) :
    (val_main_v6 (F := Ideal) x1 (ix2 (⟨256 * n.val + j.val, by omega⟩ : Fin 143360) (0 : Fin 1))).toInt.toNat = (token x1 n j).val := by
  pointwise [val_main_v6, val_main_v5, val_main_v4, val_main_v3, val_main_v2, val_main_v1, val_main_v0, val_main_c, val_main_c_0]
  exact token_word x1 hT n j 33792#32

include hT in
theorem v8_at (n : Fin 560) (j : Fin 256) (k : Fin 1024) :
    val_main_v8 (F := Ideal) x1 x2 (ix3 n j k) = x2 (ix2 (token x1 n j) k) := by
  have e : val_main_v8 (F := Ideal) x1 x2 (ix3 n j k)
      = val_main_v7 (F := Ideal) x1 x2 (ix2 (⟨256 * n.val + j.val, by omega⟩ : Fin 143360) k) := by
    pointwise [val_main_v8]
    exact congrArg (fun r => val_main_v7 (F := Ideal) x1 x2 (ix2 r k)) (Fin.ext (by dsimp only; omega))
  rw [e]
  exact gather2 _ x2 _ _ k _ (v6_at x1 hT n j)

include hE in
theorem v15_at (n : Fin 560) (k : Fin 1024) (f : Fin 2048) :
    val_main_v15 (F := Ideal) x0 x3 (ix3 n k f) = x3 (ix3 (expert x0 n) k f) :=
  gather3 _ x3 _ n k f _ (v14_at x0 hE n)

include hE in
theorem v24_at (n : Fin 560) (f : Fin 2048) :
    val_main_v24 (F := Ideal) x0 x4 (ix3 n (0 : Fin 1) f) = x4 (ix3 (expert x0 n) (0 : Fin 1) f) :=
  gather3 _ x4 _ n (0 : Fin 1) f _ (v23_at x0 hE n)

include hE in
theorem v50_at (n : Fin 560) (k d : Fin 1024) :
    val_main_v50 (F := Ideal) x0 x5 (ix3 n k d) = x5 (ix3 (expert x0 n) k d) :=
  gather3 _ x5 _ n k d _ (v49_at x0 hE n)

include hE in
theorem v59_at (n : Fin 560) (d : Fin 1024) :
    val_main_v59 (F := Ideal) x0 x6 (ix3 n (0 : Fin 1) d) = x6 (ix3 (expert x0 n) (0 : Fin 1) d) :=
  gather3 _ x6 _ n (0 : Fin 1) d _ (v58_at x0 hE n)

/-- The first product with its bias. -/
abbrev mid (n : Fin 560) (j : Fin 256) : Fin 2048 → EReal :=
  lin (fun k => x2 (ix2 (token x1 n j) k)) (fun k f => x3 (ix3 (expert x0 n) k f)) (fun f => x4 (ix3 (expert x0 n) (0 : Fin 1) f))

include hE hT in
theorem v26_at (n : Fin 560) (j : Fin 256) (f : Fin 2048) :
    val_main_v26 (F := Ideal) x0 x1 x2 x3 x4 (ix3 n j f) = mid x0 x1 x2 x3 x4 n j f := by
  have e : val_main_v26 (F := Ideal) x0 x1 x2 x3 x4 (ix3 n j f)
      = ∑ k : Fin 1024, val_main_v8 (F := Ideal) x1 x2 (ix3 n j k) * val_main_v15 (F := Ideal) x0 x3 (ix3 n k f)
        + val_main_v24 (F := Ideal) x0 x4 (ix3 n (0 : Fin 1) f) := by
    pointwise [val_main_v26, val_main_v25, val_main_v17, val_main_v16]
  rw [e, v24_at x0 x4 hE]
  simp only [v8_at x1 x2 hT, v15_at x0 x3 hE]
  rfl

include hE hT in
theorem v43_at (n : Fin 560) (j : Fin 256) (f : Fin 1024) :
    val_main_v43 (F := Ideal) x0 x1 x2 x3 x4 (ix3 n j f)
      = gate (mid x0 x1 x2 x3 x4 n j ⟨f.val, by omega⟩) (mid x0 x1 x2 x3 x4 n j ⟨1024 + f.val, by omega⟩) := by
  rw [← v26_at x0 x1 x2 x3 x4 hE hT n j ⟨f.val, by omega⟩, ← v26_at x0 x1 x2 x3 x4 hE hT n j ⟨1024 + f.val, by omega⟩]
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_call0_v0,
    val_main_call0_v1, val_main_call0_v2, val_main_call0_v3, val_main_call0_v4, val_main_cst, val_main_cst_5, val_main_cst_6,
    val_main_cst_7, val_main_cst_8, val_main_cst_9, val_main_cst_10]
  rfl

include hE hT in
theorem v61_at (n : Fin 560) (j : Fin 256) (d : Fin 1024) :
    val_main_v61 (F := Ideal) x0 x1 x2 x3 x4 x5 x6 (ix3 n j d) = block x0 x1 x2 x3 x4 x5 x6 n j d := by
  have e : val_main_v61 (F := Ideal) x0 x1 x2 x3 x4 x5 x6 (ix3 n j d)
      = ∑ f : Fin 1024, val_main_v43 (F := Ideal) x0 x1 x2 x3 x4 (ix3 n j f) * val_main_v50 (F := Ideal) x0 x5 (ix3 n f d)
        + val_main_v59 (F := Ideal) x0 x6 (ix3 n (0 : Fin 1) d) := by
    pointwise [val_main_v61, val_main_v60, val_main_v52, val_main_v51]
  rw [e, v59_at x0 x6 hE]
  simp only [v43_at x0 x1 x2 x3 x4 hE hT, v50_at x0 x5 hE]
  rfl

include hE hT in
/-- The reference's result. -/
theorem v62_at (r : Fin 143360) (d : Fin 1024) :
    val_main_v62 (F := Ideal) x0 x1 x2 x3 x4 x5 x6 (ix2 r d)
      = block x0 x1 x2 x3 x4 x5 x6 ⟨r.val / 256, by omega⟩ ⟨r.val % 256, Nat.mod_lt _ (by omega)⟩ d := by
  rw [← v61_at x0 x1 x2 x3 x4 x5 x6 hE hT]
  have e : idx_main_v62 (ix2 r d) = ix3 (⟨r.val / 256, by omega⟩ : Fin 560) (⟨r.val % 256, Nat.mod_lt _ (by omega)⟩ : Fin 256) d := by
    funext a
    match a with
    | ⟨0, _⟩ => apply Fin.ext; show (r.val * 1024 + d.val) / 262144 = r.val / 256; omega
    | ⟨1, _⟩ => apply Fin.ext; show (r.val * 1024 + d.val) / 1024 % 256 = r.val % 256; omega
    | ⟨2, _⟩ => apply Fin.ext; show (r.val * 1024 + d.val) % 1024 = d.val; omega
  rw [val_main_v62_apply, e]

include hE hT in
theorem v62_eq : val_main_v62 (F := Ideal) x0 x1 x2 x3 x4 x5 x6 = result x0 x1 x2 x3 x4 x5 x6 := by
  funext i
  obtain ⟨r, d, rfl⟩ : ∃ (r : Fin 143360) (d : Fin 1024), i = ix2 r d :=
    ⟨i 0, i 1, funext fun a => by match a with | ⟨0, _⟩ => rfl | ⟨1, _⟩ => rfl⟩
  rw [v62_at x0 x1 x2 x3 x4 x5 x6 hE hT r d]
  unfold result
  rfl

end Cert.Reference2Ideal.MoeRef

end
-- ==== Proof.MoeClaims.lean ====
/-
  The claims of the routed experts: the frames, and the equality of the kernel's and the reference's results on routings in
  range.
-/
module

public import proofs.«01_k».proof.Defs
public import proofs.«01_k».proof.Proof.MoeValue
public import proofs.«01_k».proof.Proof.MoeRef
public import proofs.«01_k».proof.Proof.RawOk
public import proofs.«01_k».proof.Proof.Gen.Reference2Ideal.Run

@[expose] public section

noncomputable section

open Idealize.ShloMosaic Idealize.SL.Sem

namespace Cert.Proof.MoeClaims

theorem frame_kernel : Cert.quiescent_Kernel2 := fun m ρ hpre =>
  have hE : Cert.Kernel2.Moe.Exp m := fun n => Cert.MoeSpec.experts _ _ _ _ _ _ _ (hpre 0).1 (ix1 n)
  have hT : Cert.Kernel2.Moe.Tok m := fun c => Cert.MoeSpec.tokens _ _ _ _ _ _ _ (hpre c).2
  Cert.Kernel2.Moe.frame m ρ (Cert.Kernel2.Moe.ok_of m hE) hT

theorem exp_of (m : (ℓ : Loc Cert.Kernel2Ideal.nD Cert.Kernel2Ideal.τ Cert.Kernel2Ideal.sig) → Buf (Elt Ideal) ℓ)
    (hpre : Cert.Pre_Kernel2Ideal m) : Cert.Kernel2Ideal.Moe.Exp m :=
  fun n => Cert.MoeSpec.experts _ _ _ _ _ _ _ (hpre 0).1 (ix1 n)
theorem tok_of (m : (ℓ : Loc Cert.Kernel2Ideal.nD Cert.Kernel2Ideal.τ Cert.Kernel2Ideal.sig) → Buf (Elt Ideal) ℓ)
    (hpre : Cert.Pre_Kernel2Ideal m) : Cert.Kernel2Ideal.Moe.Tok m :=
  fun c => Cert.MoeSpec.tokens _ _ _ _ _ _ _ (hpre c).2

theorem frame_ideal : Cert.quiescent_Kernel2Ideal := fun m ρ hpre =>
  Cert.Kernel2Ideal.Moe.frame m ρ (Cert.Kernel2Ideal.Moe.ok_of m (exp_of m hpre)) (tok_of m hpre)

/-- The reference declares no semaphore and writes no argument. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_reference_pre : Cert.quiescent_Reference2Ideal_pre_routed := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- No operation is rewritten between the two prints. -/
theorem preserves : Cert.preserves_Kernel2_Kernel2Ideal := trivial

/-- Both programs end with the feed-forward of the arguments. -/
theorem algebraic : Cert.algebraic_Kernel2Ideal_Reference2Ideal := by
  intro m ρ m' ρ' hpre hagree
  refine ⟨fun c => Cert.Kernel2Ideal.Moe.res m c, Cert.Kernel2Ideal.Moe.run_result m (exp_of m hpre) (tok_of m hpre) ρ, ?_⟩
  refine (θ_run Cert.Reference2Ideal.defs _ _).mono (fun _ h c => ⟨(h c).1.trans ?_, (h c).2⟩)
    (Cert.Reference2Ideal.Value.run (F := Ideal) m' ρ')
  rw [Cert.Reference2Ideal.Read.val_main_v62_eq, (hagree c).1, (hagree c).2.1, (hagree c).2.2.1, (hagree c).2.2.2.1,
    (hagree c).2.2.2.2.1, (hagree c).2.2.2.2.2.1, (hagree c).2.2.2.2.2.2]
  exact Cert.Reference2Ideal.MoeRef.v62_eq _ _ _ _ _ _ _ (fun i => Cert.MoeSpec.experts _ _ _ _ _ _ _ (hpre c).1 i)
    (fun i => Cert.MoeSpec.tokens _ _ _ _ _ _ _ (hpre c).2 i)

end Cert.Proof.MoeClaims

end
-- ==== Proof.ProjSpec.lean ====
/-
  The projections of one row, in plain arithmetic: the row's product with the input weights, the normalised latent, and the
  rotation of a slab of 128 columns by the three lanes of its table.
-/
module

public import Idealize.ShloMosaic.Lib.Pointwise
public import Idealize.ShloMosaic.Lib.Pointwise.Index

@[expose] public section

noncomputable section

open Idealize.ShloMosaic

namespace Cert.ProjSpec

/-- A slab turned: each column by the cosines, and the columns `k` and `l` before it, around the slab, by the two sine lanes. -/
def turn (k l : ℕ) (s c s1 s2 : Fin 128 → EReal) (d : Fin 128) : EReal :=
  s d * c d + s ⟨(d.val + 128 - k) % 128, Nat.mod_lt _ (by decide)⟩ * s1 d
    + s ⟨(d.val + 128 - l) % 128, Nat.mod_lt _ (by decide)⟩ * s2 d

/-- The 128 columns from `o` of a longer row. -/
def slab {n : ℕ} (x : Fin n → EReal) (o : ℕ) (h : o + 128 ≤ n) (d : Fin 128) : EReal := x ⟨o + d.val, by omega⟩

/-- A latent divided by its root mean square, times its gains. -/
def rms (s g : Fin 128 → EReal) (d : Fin 128) : EReal :=
  s d * Ideal.rsqrt (Ideal.div (∑ k : Fin 128, s k * s k) (Ideal.ofBits FTy.f32 0x43000000#32) + Ideal.ofBits FTy.f32 0x358637BD#32) * g d

/-- The same for the query's latent, of 256 columns. -/
def rmsq (s g : Fin 256 → EReal) (d : Fin 256) : EReal :=
  s d * Ideal.rsqrt (Ideal.div (∑ k : Fin 256, s k * s k) (Ideal.ofBits FTy.f32 0x43800000#32) + Ideal.ofBits FTy.f32 0x358637BD#32) * g d

/-- A row's product with the weights. -/
def row (x : Fin 1024 → EReal) (w : Fin 1024 → Fin 1920 → EReal) (j : Fin 1920) : EReal := ∑ k : Fin 1024, x k * w k j

/-- The queries of a row, before they are taken into the latent columns. -/
def qrow (y : Fin 1920 → EReal) (g : Fin 256 → EReal) (w : Fin 256 → Fin 640 → EReal) (j : Fin 640) : EReal :=
  ∑ k : Fin 256, rmsq (fun d => y ⟨768 + d.val, by omega⟩) g k * w k j

/-- The scale of the latent attention. -/
abbrev scale : EReal := Ideal.ofBits FTy.f32 0x3DD105EC#32

/-- The queries in the latent columns of all heads, scaled. -/
def qabs (q : Fin 640 → EReal) (w : Fin 384 → Fin 768 → EReal) (j : Fin 768) : EReal :=
  (∑ k : Fin 384, q ⟨k.val, by omega⟩ * w k j) * scale

/-- The slab of four heads' rotary queries at column `o`, turned and scaled. -/
def qpe (q : Fin 640 → EReal) (t : Fin 768 → EReal) (o : ℕ) (h : o + 128 ≤ 640) (d : Fin 128) : EReal :=
  turn 112 16 (slab q o h) (slab t 0 (by decide)) (slab t 128 (by decide)) (slab t 256 (by decide)) d * scale

theorem qpe_congr (q : Fin 640 → EReal) (t : Fin 768 → EReal) {o o' : ℕ} (h : o = o') {d d' : Fin 128} (hd : d = d') (ho : o + 128 ≤ 640)
    (ho' : o' + 128 ≤ 640) : qpe q t o ho d = qpe q t o' ho' d' := by
  subst h hd; rfl

/-- A head's query: its latent columns, then its rotary ones. -/
def qcat (q : Fin 640 → EReal) (t : Fin 768 → EReal) (w : Fin 384 → Fin 768 → EReal) (h : Fin 6) (d : Fin 160) : EReal :=
  if hd : d.val < 128 then qabs q w ⟨h.val * 128 + d.val, by omega⟩
  else qpe q t (384 + h.val / 4 * 128) (by omega) ⟨h.val % 4 * 32 + (d.val - 128), by omega⟩

section
variable (y : Fin 1920 → EReal) (t : Fin 768 → EReal) (g : Fin 128 → EReal)

/-- The rotary key of the latent attention. -/
def kpe (d : Fin 32) : EReal :=
  turn 112 16 (slab y 1792 (by decide)) (slab t 0 (by decide)) (slab t 128 (by decide)) (slab t 256 (by decide)) ⟨d.val, by omega⟩

/-- The latent keys. -/
def ckv (d : Fin 128) : EReal := rms (slab y 1024 (by decide)) g d

/-- The slab of two heads at column `o`, turned. -/
def heads (o : ℕ) (h : o + 128 ≤ 1920) (d : Fin 128) : EReal :=
  turn 120 8 (slab y o h) (slab t 384 (by decide)) (slab t 512 (by decide)) (slab t 640 (by decide)) d

theorem heads_congr {o o' : ℕ} (h : o = o') {d d' : Fin 128} (hd : d = d') (ho : o + 128 ≤ 1920) (ho' : o' + 128 ≤ 1920) :
    heads y t o ho d = heads y t o' ho' d' := by
  subst h hd; rfl

/-- The block-sparse attention's queries, scaled. -/
def mq (d : Fin 384) : EReal :=
  heads y t (1152 + 128 * (d.val / 128)) (by omega) ⟨d.val % 128, Nat.mod_lt _ (by decide)⟩ * Ideal.ofBits FTy.f32 0x3E000000#32
/-- The latent keys with the rotary key beside them. -/
def kcat (d : Fin 160) : EReal := if h : d.val < 128 then ckv y g ⟨d.val, h⟩ else kpe y t ⟨d.val - 128, by omega⟩

/-- The block-sparse attention's keys with its values beside them. -/
def mkv (d : Fin 256) : EReal :=
  if h : d.val < 128 then heads y t 1536 (by decide) ⟨d.val, h⟩ else y ⟨1664 + (d.val - 128), by omega⟩
end

/-- The row of the table that a row of activations uses: its place in its sequence. -/
def place (r : Fin 33792) : Fin 2560 := if h : r.val < 32768 then ⟨r.val % 2048, by omega⟩ else ⟨2048 + r.val % 512, by omega⟩

/-- A rotary column turned with the column of its pair. -/
def pairR {n : ℕ} (y : Fin n → EReal) (t : Fin 768 → EReal) (o : ℕ) (h : o + 32 ≤ n) (d : Fin 32) : EReal :=
  if h : d.val < 16 then y ⟨o + d.val, by omega⟩ * t ⟨d.val, by omega⟩ - y ⟨o + (16 + d.val), by omega⟩ * t ⟨272 + d.val, by omega⟩
  else y ⟨o + (16 + (d.val - 16)), by omega⟩ * t ⟨d.val - 16, by omega⟩ + y ⟨o + (d.val - 16), by omega⟩ * t ⟨272 + (d.val - 16), by omega⟩

/-- A head's column turned with the column of its pair, the columns past the sixteenth left. -/
def pairH (y : Fin 1920 → EReal) (t : Fin 768 → EReal) (o : ℕ) (h : o + 64 ≤ 1920) (d : Fin 64) : EReal :=
  if h : d.val < 16 then
    if h : d.val < 8 then y ⟨o + d.val, by omega⟩ * t ⟨384 + d.val, by omega⟩ - y ⟨o + (8 + d.val), by omega⟩ * t ⟨648 + d.val, by omega⟩
    else y ⟨o + (8 + (d.val - 8)), by omega⟩ * t ⟨384 + (d.val - 8), by omega⟩ + y ⟨o + (d.val - 8), by omega⟩ * t ⟨648 + (d.val - 8), by omega⟩
  else y ⟨o + (16 + (d.val - 16)), by omega⟩

/-- The first lanes of a row of the table are a rotation's, over the first `m` of a slab's four periods: both halves have the same
    cosines, the sines of the first half are the negatives of the second's, and where there is no pair the sine lanes are zero. -/
structure Keys (m : ℕ) (t : Fin 768 → EReal) : Prop where
  cos0 : ∀ p : Fin 4, p.val < m → ∀ j : Fin 16, t ⟨p.val * 32 + j.val, by omega⟩ = t ⟨j.val, by omega⟩
  cos1 : ∀ p : Fin 4, p.val < m → ∀ j : Fin 16, t ⟨p.val * 32 + (16 + j.val), by omega⟩ = t ⟨j.val, by omega⟩
  neg : ∀ p : Fin 4, p.val < m → ∀ j : Fin 16, t ⟨128 + (p.val * 32 + j.val), by omega⟩ = -t ⟨272 + j.val, by omega⟩
  no1 : ∀ p : Fin 4, p.val < m → ∀ j : Fin 16, t ⟨128 + (p.val * 32 + (16 + j.val)), by omega⟩ = 0
  no2 : ∀ p : Fin 4, p.val < m → ∀ j : Fin 16, t ⟨256 + (p.val * 32 + j.val), by omega⟩ = 0
  sin : ∀ p : Fin 4, p.val < m → ∀ j : Fin 16, t ⟨256 + (p.val * 32 + (16 + j.val)), by omega⟩ = t ⟨272 + j.val, by omega⟩

/-- So are the other lanes, over both periods of a slab of two heads, whose cosines are one past the rotated columns. -/
structure Heads (t : Fin 768 → EReal) : Prop where
  cos0 : ∀ (p : Fin 2) (j : Fin 8), t ⟨384 + (p.val * 64 + j.val), by omega⟩ = t ⟨384 + j.val, by omega⟩
  cos1 : ∀ (p : Fin 2) (j : Fin 8), t ⟨384 + (p.val * 64 + (8 + j.val)), by omega⟩ = t ⟨384 + j.val, by omega⟩
  one : ∀ (p : Fin 2) (j : Fin 48), t ⟨384 + (p.val * 64 + (16 + j.val)), by omega⟩ = 1
  neg : ∀ (p : Fin 2) (j : Fin 8), t ⟨512 + (p.val * 64 + j.val), by omega⟩ = -t ⟨648 + j.val, by omega⟩
  no1 : ∀ (p : Fin 2) (j : Fin 56), t ⟨512 + (p.val * 64 + (8 + j.val)), by omega⟩ = 0
  no2 : ∀ (p : Fin 2) (j : Fin 8), t ⟨640 + (p.val * 64 + j.val), by omega⟩ = 0
  sin : ∀ (p : Fin 2) (j : Fin 8), t ⟨640 + (p.val * 64 + (8 + j.val)), by omega⟩ = t ⟨648 + j.val, by omega⟩
  no3 : ∀ (p : Fin 2) (j : Fin 48), t ⟨640 + (p.val * 64 + (16 + j.val)), by omega⟩ = 0

/-- Each head's latent columns are made from its own columns alone. -/
def Own (w : Fin 384 → Fin 768 → EReal) : Prop :=
  ∀ (h h' : Fin 6) (n : Fin 64) (r : Fin 128), h ≠ h' → w ⟨h.val * 64 + n.val, by omega⟩ ⟨h'.val * 128 + r.val, by omega⟩ = 0

theorem turn_pair {n : ℕ} {y : Fin n → EReal} {t : Fin 768 → EReal} {m : ℕ} (h : Keys m t) (o : ℕ) (ho : o + 128 ≤ n) (p : Fin 4) (hm : p.val < m) (d : Fin 32) :
    turn 112 16 (slab y o ho) (slab t 0 (by decide)) (slab t 128 (by decide)) (slab t 256 (by decide)) ⟨p.val * 32 + d.val, by omega⟩
      = pairR y t (o + p.val * 32) (by omega) d := by
  have hp := p.isLt
  unfold turn slab pairR
  dsimp only
  split
  case isTrue hd =>
    have h1 := h.cos0 p hm ⟨d.val, hd⟩
    have h2 := h.neg p hm ⟨d.val, hd⟩
    have h3 := h.no2 p hm ⟨d.val, hd⟩
    dsimp only at h1 h2 h3
    have e1 : t ⟨0 + (p.val * 32 + d.val), by omega⟩ = t ⟨d.val, by omega⟩ := by rw [← h1]; congr 2; omega
    rw [e1, h2, h3, mul_zero, add_zero, mul_neg, sub_eq_add_neg]
    congr 3 <;> first | omega | (refine Fin.ext ?_; dsimp only; omega) | (refine congrArg _ (Fin.ext ?_); dsimp only; omega)
  case isFalse hn =>
    have h1 := h.cos1 p hm ⟨d.val - 16, by omega⟩
    have h2 := h.no1 p hm ⟨d.val - 16, by omega⟩
    have h3 := h.sin p hm ⟨d.val - 16, by omega⟩
    have e1 : t ⟨0 + (p.val * 32 + d.val), by omega⟩ = t ⟨d.val - 16, by omega⟩ := by rw [← h1]; congr 2; dsimp only; omega
    have e2 : t ⟨128 + (p.val * 32 + d.val), by omega⟩ = 0 := by rw [← h2]; congr 2; dsimp only; omega
    have e3 : t ⟨256 + (p.val * 32 + d.val), by omega⟩ = t ⟨272 + (d.val - 16), by omega⟩ := by
      rw [← h3]; congr 2; dsimp only; omega
    rw [e1, e2, e3, mul_zero, add_zero]
    congr 3 <;> first | omega | (refine Fin.ext ?_; dsimp only; omega) | (refine congrArg _ (Fin.ext ?_); dsimp only; omega)

theorem kpe_eq {y : Fin 1920 → EReal} {t : Fin 768 → EReal} (h : Keys 1 t) (d : Fin 32) : kpe y t d = pairR y t 1792 (by decide) d := by
  refine Eq.trans ?_ ((turn_pair (y := y) h 1792 (by omega) 0 (by decide) d).trans ?_)
  · unfold kpe
    exact congrArg _ (Fin.ext (by show d.val = 0 * 32 + d.val; omega))
  · rfl

/-- The products outside a head's own columns vanish. -/
theorem own_sum {w : Fin 384 → Fin 768 → EReal} (hw : Own w) (q : Fin 640 → EReal) (h : Fin 6) (r : Fin 128) :
    ∑ k : Fin 384, q ⟨k.val, by omega⟩ * w k ⟨h.val * 128 + r.val, by omega⟩
      = ∑ n : Fin 64, q ⟨h.val * 64 + n.val, by omega⟩ * w ⟨h.val * 64 + n.val, by omega⟩ ⟨h.val * 128 + r.val, by omega⟩ := by
  refine (Equiv.sum_comp (finProdFinEquiv (m := 6) (n := 64)) (fun k : Fin 384 => q ⟨k.val, by omega⟩ * w k ⟨h.val * 128 + r.val, by omega⟩)).symm.trans ?_
  rw [Fintype.sum_prod_type]
  refine (Finset.sum_eq_single h (fun h' _ hne => Finset.sum_eq_zero fun n _ => ?_) (fun hn => absurd (Finset.mem_univ h) hn)).trans ?_
  · have e : finProdFinEquiv (h', n) = (⟨h'.val * 64 + n.val, by omega⟩ : Fin 384) := Fin.ext (by simp [finProdFinEquiv]; omega)
    rw [e, hw h' h n r hne, mul_zero]
  · refine Finset.sum_congr rfl fun n _ => ?_
    have e : finProdFinEquiv (h, n) = (⟨h.val * 64 + n.val, by omega⟩ : Fin 384) := Fin.ext (by simp [finProdFinEquiv]; omega)
    rw [e]

/-- A head's query from its own columns, and each rotary column from the columns of its pair. -/
theorem qcat_eq {q : Fin 640 → EReal} {t : Fin 768 → EReal} {w : Fin 384 → Fin 768 → EReal} (ht : Keys 4 t) (hw : Own w)
    (h : Fin 6) (d : Fin 160) : qcat q t w h d
      = (if hd : d.val < 128 then ∑ n : Fin 64, q ⟨h.val * 64 + n.val, by omega⟩
            * w ⟨h.val * 64 + n.val, by omega⟩ ⟨h.val * 128 + d.val, by omega⟩
          else pairR q t (384 + h.val * 32) (by omega) ⟨d.val - 128, by omega⟩) * scale := by
  unfold qcat
  split
  case isTrue hd =>
    unfold qabs
    exact congrArg (· * scale) (own_sum hw q h ⟨d.val, hd⟩)
  case isFalse hd =>
    unfold qpe
    refine congrArg (· * scale) ((turn_pair ht _ _ ⟨h.val % 4, by omega⟩ (by dsimp only; omega) ⟨d.val - 128, by omega⟩).trans ?_)
    congr 1
    dsimp only; omega

theorem heads_eq {y : Fin 1920 → EReal} {t : Fin 768 → EReal} (h : Heads t) (o : ℕ) (ho : o + 128 ≤ 1920) (p : Fin 2) (d : Fin 64) :
    heads y t o ho ⟨p.val * 64 + d.val, by omega⟩ = pairH y t (o + p.val * 64) (by omega) d := by
  have hp := p.isLt
  unfold heads turn slab pairH
  dsimp only
  split
  case isTrue hd =>
    split
    case isTrue hd =>
      have h1 := h.cos0 p ⟨d.val, hd⟩
      have h2 := h.neg p ⟨d.val, hd⟩
      have h3 := h.no2 p ⟨d.val, hd⟩
      rw [h1, h2, h3, mul_zero, add_zero, mul_neg, sub_eq_add_neg]
      congr 3 <;> first | omega | (refine Fin.ext ?_; dsimp only; omega) | (refine congrArg _ (Fin.ext ?_); dsimp only; omega)
    case isFalse hn =>
      have h1 := h.cos1 p ⟨d.val - 8, by omega⟩
      have h2 := h.no1 p ⟨d.val - 8, by omega⟩
      have h3 := h.sin p ⟨d.val - 8, by omega⟩
      have e1 : t ⟨384 + (p.val * 64 + d.val), by omega⟩ = t ⟨384 + (d.val - 8), by omega⟩ := by
        rw [← h1]; congr 2; dsimp only; omega
      have e2 : t ⟨512 + (p.val * 64 + d.val), by omega⟩ = 0 := by rw [← h2]; congr 2; dsimp only; omega
      have e3 : t ⟨640 + (p.val * 64 + d.val), by omega⟩ = t ⟨648 + (d.val - 8), by omega⟩ := by
        rw [← h3]; congr 2; dsimp only; omega
      rw [e1, e2, e3, mul_zero, add_zero]
      congr 3 <;> first | omega | (refine Fin.ext ?_; dsimp only; omega) | (refine congrArg _ (Fin.ext ?_); dsimp only; omega)
  case isFalse hn =>
    have h1 := h.one p ⟨d.val - 16, by omega⟩
    have h2 := h.no1 p ⟨d.val - 8, by omega⟩
    have h3 := h.no3 p ⟨d.val - 16, by omega⟩
    have e1 : t ⟨384 + (p.val * 64 + d.val), by omega⟩ = 1 := by rw [← h1]; congr 2; dsimp only; omega
    have e2 : t ⟨512 + (p.val * 64 + d.val), by omega⟩ = 0 := by rw [← h2]; congr 2; dsimp only; omega
    have e3 : t ⟨640 + (p.val * 64 + d.val), by omega⟩ = 0 := by rw [← h3]; congr 2; dsimp only; omega
    rw [e1, e2, e3, mul_zero, mul_zero, add_zero, add_zero, mul_one]
    congr 2; omega

theorem pairH_congr (y : Fin 1920 → EReal) (t : Fin 768 → EReal) {o o' : ℕ} (h : o = o') (d : Fin 64) (ho : o + 64 ≤ 1920)
    (ho' : o' + 64 ≤ 1920) : pairH y t o ho d = pairH y t o' ho' d := by
  subst h; rfl

/-- A slab's column is the column of one of its two heads. -/
theorem heads_at {y : Fin 1920 → EReal} {t : Fin 768 → EReal} (h : Heads t) (o : ℕ) (ho : o + 128 ≤ 1920) (d : Fin 128) :
    heads y t o ho d = pairH y t (o + d.val / 64 * 64) (by omega) ⟨d.val % 64, by omega⟩ :=
  (heads_congr y t rfl (Fin.ext (by dsimp only; omega)) _ _).trans (heads_eq h o ho ⟨d.val / 64, by omega⟩ ⟨d.val % 64, by omega⟩)

theorem mq_eq {y : Fin 1920 → EReal} {t : Fin 768 → EReal} (h : Heads t) (d : Fin 384) :
    mq y t d = pairH y t (1152 + d.val / 64 * 64) (by omega) ⟨d.val % 64, by omega⟩ * Ideal.ofBits FTy.f32 0x3E000000#32 := by
  unfold mq
  refine congrArg (· * Ideal.ofBits FTy.f32 0x3E000000#32) ((heads_at h _ _ _).trans ?_)
  dsimp only
  rw [show (⟨d.val % 128 % 64, by omega⟩ : Fin 64) = ⟨d.val % 64, by omega⟩ from Fin.ext (by dsimp only; omega)]
  exact pairH_congr y t (by omega) _ _ _

end Cert.ProjSpec

end
-- ==== Proof.ProjPre.lean ====
/-
  The rotary precondition, read: the lanes of each row of the table are a rotation's.
-/
module

public import Idealize.ShloMosaic.Lib.IdealHost
public import proofs.«01_k».proof.Proof.ProjSpec
public import proofs.«01_k».proof.Pre_rotary
public import proofs.«01_k».proof.Proof.Gen.Pre_rotary

@[expose] public section

noncomputable section

namespace Cert.ProjPre

open Idealize.ShloMosaic Cert.Pre_rotary Cert.ProjSpec

/-- Numbers that compare equal are equal. -/
theorem eq_of_cmp {a b : EReal} (h : Ideal.cmp .oeq a b = 1#1) : a = b := by
  by_contra hn
  have e : Ideal.cmp .oeq a b = 0#1 := by
    show BitVec.ofBool (decide (a = b)) = 0#1
    rw [decide_eq_false hn]; rfl
  rw [e] at h
  exact absurd h (by decide)

theorem cmp_congr {a b a' b' : EReal} (ha : a = a') (hb : b = b') : Ideal.cmp .oeq a b = Ideal.cmp .oeq a' b' := by
  subst ha hb; rfl

variable [Cert.Pre_rotary.Facts]
variable (x0 : FVec Ideal S33792x1024 .f32) (x1 : FVec Ideal S2560x768 .f32) (x2 : FVec Ideal S1024x1920 .bf16) (x3 : FVec Ideal S256x640 .bf16)
  (x4 : FVec Ideal S384x768 .bf16) (x5 : FVec Ideal S1x256 .f32) (x6 : FVec Ideal S1x128 .f32)

theorem k_cos (h : (fn (F := Ideal) x0 x1 x2 x3 x4 x5 x6).1 = fun _ => 1#1) (r : Fin 2560) (j : Fin 16) :
    (x1 (ix2 r ⟨16 + j.val, by omega⟩) : EReal) = x1 (ix2 r ⟨j.val, by omega⟩) := by
  refine eq_of_cmp (Eq.trans ?_ (congrFun h (ix2 r j)))
  unfold fn fn_part1 fn_part2
  dsimp only
  pointwise []
  try exact cmp_congr (congrArg (fun k => x1 (ix2 r k)) (Fin.ext (by dsimp only <;> omega))) (by exact congrArg (fun k => (x1 (ix2 r k) : EReal)) (Fin.ext (by dsimp only <;> omega)))

theorem k_neg (h : (fn (F := Ideal) x0 x1 x2 x3 x4 x5 x6).2.1 = fun _ => 1#1) (r : Fin 2560) (j : Fin 16) :
    (x1 (ix2 r ⟨128 + j.val, by omega⟩) : EReal) = -x1 (ix2 r ⟨272 + j.val, by omega⟩) := by
  refine eq_of_cmp (Eq.trans ?_ (congrFun h (ix2 r j)))
  unfold fn fn_part1 fn_part2
  dsimp only
  pointwise []
  try exact cmp_congr (congrArg (fun k => x1 (ix2 r k)) (Fin.ext (by dsimp only <;> omega))) (by exact congrArg (fun k => -(x1 (ix2 r k) : EReal)) (Fin.ext (by dsimp only <;> omega)))

theorem k_no1 (h : (fn (F := Ideal) x0 x1 x2 x3 x4 x5 x6).2.2.1 = fun _ => 1#1) (r : Fin 2560) (j : Fin 16) :
    (x1 (ix2 r ⟨128 + (16 + j.val), by omega⟩) : EReal) = 0 := by
  refine eq_of_cmp (Eq.trans ?_ (congrFun h (ix2 r j)))
  unfold fn fn_part1 fn_part2
  dsimp only
  pointwise []
  try exact cmp_congr (congrArg (fun k => x1 (ix2 r k)) (Fin.ext (by dsimp only <;> omega))) (by first | rfl | exact Ideal.ofBits_one_f32.symm)

theorem k_no2 (h : (fn (F := Ideal) x0 x1 x2 x3 x4 x5 x6).2.2.2.1 = fun _ => 1#1) (r : Fin 2560) (j : Fin 16) :
    (x1 (ix2 r ⟨256 + j.val, by omega⟩) : EReal) = 0 := by
  refine eq_of_cmp (Eq.trans ?_ (congrFun h (ix2 r j)))
  unfold fn fn_part1 fn_part2
  dsimp only
  pointwise []
  try exact cmp_congr (congrArg (fun k => x1 (ix2 r k)) (Fin.ext (by dsimp only <;> omega))) (by first | rfl | exact Ideal.ofBits_one_f32.symm)

theorem h_cos0 (h : (fn (F := Ideal) x0 x1 x2 x3 x4 x5 x6).2.2.2.2.1 = fun _ => 1#1) (r : Fin 2560) (p : Fin 2) (j : Fin 8) :
    (x1 (ix2 r ⟨384 + (p.val * 64 + j.val), by omega⟩) : EReal) = x1 (ix2 r ⟨384 + j.val, by omega⟩) := by
  refine eq_of_cmp (Eq.trans ?_ (congrFun h (ix3 r p j)))
  unfold fn fn_part1 fn_part2
  dsimp only
  pointwise []
  try exact cmp_congr (congrArg (fun k => x1 (ix2 r k)) (Fin.ext (by dsimp only <;> omega))) (by exact congrArg (fun k => (x1 (ix2 r k) : EReal)) (Fin.ext (by dsimp only <;> omega)))

theorem h_cos1 (h : (fn (F := Ideal) x0 x1 x2 x3 x4 x5 x6).2.2.2.2.2.1 = fun _ => 1#1) (r : Fin 2560) (p : Fin 2) (j : Fin 8) :
    (x1 (ix2 r ⟨384 + (p.val * 64 + (8 + j.val)), by omega⟩) : EReal) = x1 (ix2 r ⟨384 + j.val, by omega⟩) := by
  refine eq_of_cmp (Eq.trans ?_ (congrFun h (ix3 r p j)))
  unfold fn fn_part1 fn_part2
  dsimp only
  pointwise []
  try exact cmp_congr (congrArg (fun k => x1 (ix2 r k)) (Fin.ext (by dsimp only <;> omega))) (by exact congrArg (fun k => (x1 (ix2 r k) : EReal)) (Fin.ext (by dsimp only <;> omega)))

theorem h_one (h : (fn (F := Ideal) x0 x1 x2 x3 x4 x5 x6).2.2.2.2.2.2.1 = fun _ => 1#1) (r : Fin 2560) (p : Fin 2) (j : Fin 48) :
    (x1 (ix2 r ⟨384 + (p.val * 64 + (16 + j.val)), by omega⟩) : EReal) = 1 := by
  refine eq_of_cmp (Eq.trans ?_ (congrFun h (ix3 r p j)))
  unfold fn fn_part1 fn_part2
  dsimp only
  pointwise []
  try exact cmp_congr (congrArg (fun k => x1 (ix2 r k)) (Fin.ext (by dsimp only <;> omega))) (by first | rfl | exact Ideal.ofBits_one_f32.symm)

theorem h_neg (h : (fn (F := Ideal) x0 x1 x2 x3 x4 x5 x6).2.2.2.2.2.2.2.1 = fun _ => 1#1) (r : Fin 2560) (p : Fin 2) (j : Fin 8) :
    (x1 (ix2 r ⟨512 + (p.val * 64 + j.val), by omega⟩) : EReal) = -x1 (ix2 r ⟨648 + j.val, by omega⟩) := by
  refine eq_of_cmp (Eq.trans ?_ (congrFun h (ix3 r p j)))
  unfold fn fn_part1 fn_part2
  dsimp only
  pointwise []
  try exact cmp_congr (congrArg (fun k => x1 (ix2 r k)) (Fin.ext (by dsimp only <;> omega))) (by exact congrArg (fun k => -(x1 (ix2 r k) : EReal)) (Fin.ext (by dsimp only <;> omega)))

theorem h_no1 (h : (fn (F := Ideal) x0 x1 x2 x3 x4 x5 x6).2.2.2.2.2.2.2.2.1 = fun _ => 1#1) (r : Fin 2560) (p : Fin 2) (j : Fin 56) :
    (x1 (ix2 r ⟨512 + (p.val * 64 + (8 + j.val)), by omega⟩) : EReal) = 0 := by
  refine eq_of_cmp (Eq.trans ?_ (congrFun h (ix3 r p j)))
  unfold fn fn_part1 fn_part2
  dsimp only
  pointwise []
  try exact cmp_congr (congrArg (fun k => x1 (ix2 r k)) (Fin.ext (by dsimp only <;> omega))) (by first | rfl | exact Ideal.ofBits_one_f32.symm)

theorem h_no2 (h : (fn (F := Ideal) x0 x1 x2 x3 x4 x5 x6).2.2.2.2.2.2.2.2.2.1 = fun _ => 1#1) (r : Fin 2560) (p : Fin 2) (j : Fin 8) :
    (x1 (ix2 r ⟨640 + (p.val * 64 + j.val), by omega⟩) : EReal) = 0 := by
  refine eq_of_cmp (Eq.trans ?_ (congrFun h (ix3 r p j)))
  unfold fn fn_part1 fn_part2
  dsimp only
  pointwise []
  try exact cmp_congr (congrArg (fun k => x1 (ix2 r k)) (Fin.ext (by dsimp only <;> omega))) (by first | rfl | exact Ideal.ofBits_one_f32.symm)

theorem h_sin (h : (fn (F := Ideal) x0 x1 x2 x3 x4 x5 x6).2.2.2.2.2.2.2.2.2.2.1 = fun _ => 1#1) (r : Fin 2560) (p : Fin 2) (j : Fin 8) :
    (x1 (ix2 r ⟨640 + (p.val * 64 + (8 + j.val)), by omega⟩) : EReal) = x1 (ix2 r ⟨648 + j.val, by omega⟩) := by
  refine eq_of_cmp (Eq.trans ?_ (congrFun h (ix3 r p j)))
  unfold fn fn_part1 fn_part2
  dsimp only
  pointwise []
  try exact cmp_congr (congrArg (fun k => x1 (ix2 r k)) (Fin.ext (by dsimp only <;> omega))) (by exact congrArg (fun k => (x1 (ix2 r k) : EReal)) (Fin.ext (by dsimp only <;> omega)))

theorem h_no3 (h : (fn (F := Ideal) x0 x1 x2 x3 x4 x5 x6).2.2.2.2.2.2.2.2.2.2.2 = fun _ => 1#1) (r : Fin 2560) (p : Fin 2) (j : Fin 48) :
    (x1 (ix2 r ⟨640 + (p.val * 64 + (16 + j.val)), by omega⟩) : EReal) = 0 := by
  refine eq_of_cmp (Eq.trans ?_ (congrFun h (ix3 r p j)))
  unfold fn fn_part1 fn_part2
  dsimp only
  pointwise []
  try exact cmp_congr (congrArg (fun k => x1 (ix2 r k)) (Fin.ext (by dsimp only <;> omega))) (by first | rfl | exact Ideal.ofBits_one_f32.symm)

/-- The rotary key's lanes. -/
theorem keys (h : ((fn (F := Ideal) x0 x1 x2 x3 x4 x5 x6).1 = fun _ => 1#1) ∧ ((fn (F := Ideal) x0 x1 x2 x3 x4 x5 x6).2.1 = fun _ => 1#1)
    ∧ ((fn (F := Ideal) x0 x1 x2 x3 x4 x5 x6).2.2.1 = fun _ => 1#1) ∧ ((fn (F := Ideal) x0 x1 x2 x3 x4 x5 x6).2.2.2.1 = fun _ => 1#1))
    (r : Fin 2560) : Keys 1 (fun j => x1 (ix2 r j)) := by
  have at0 : ∀ (o j : ℕ) (p : Fin 4) (_ : p.val < 1) (h1 : o + j < 768) (h2 : o + (p.val * 32 + j) < 768),
      (x1 (ix2 r ⟨o + (p.val * 32 + j), h2⟩) : EReal) = x1 (ix2 r ⟨o + j, h1⟩) :=
    fun o j p _ _ _ => congrArg (fun k => x1 (ix2 r k)) (Fin.ext (by dsimp only; omega))
  refine ⟨fun p hp j => congrArg (fun k => x1 (ix2 r k)) (Fin.ext (by dsimp only; omega)), fun p hp j => ?_, fun p hp j => ?_,
    fun p hp j => ?_, fun p hp j => ?_, fun p hp j => congrArg (fun k => x1 (ix2 r k)) (Fin.ext (by dsimp only; omega))⟩
  · exact (congrArg (fun k => x1 (ix2 r k)) (Fin.ext (by dsimp only; omega))).trans (k_cos x0 x1 x2 x3 x4 x5 x6 h.1 r j)
  · exact (at0 128 j.val p hp _ _).trans (k_neg x0 x1 x2 x3 x4 x5 x6 h.2.1 r j)
  · exact (at0 128 (16 + j.val) p hp _ _).trans (k_no1 x0 x1 x2 x3 x4 x5 x6 h.2.2.1 r j)
  · exact (at0 256 j.val p hp _ _).trans (k_no2 x0 x1 x2 x3 x4 x5 x6 h.2.2.2 r j)

end Cert.ProjPre

end
-- ==== Proof.ProjRef.lean ====
/-
  The reference's results read at an index.
-/
module

public import proofs.«01_k».proof.Proof.ProjSpec
public import proofs.«01_k».proof.Proof.Gen.Reference3Ideal.Read

@[expose] public section

set_option maxRecDepth 16384

noncomputable section

open Idealize.ShloMosaic

namespace Cert.Reference3Ideal.ProjRef

open Cert.Reference3Ideal Cert.Reference3Ideal.Gen Cert.Reference3Ideal.Read Cert.ProjSpec

variable (x0 : S33792x1024.Idx → EReal) (x1 : S2560x768.Idx → EReal) (x2 : S1024x1920.Idx → EReal) (x6 : S1x128.Idx → EReal)
  (r : Fin 33792)

/-- A row's product with the weights. -/
def y (j : Fin 1920) : EReal := row (fun k => x0 (ix2 r k)) (fun k j => x2 (ix2 k j)) j

theorem v1_at (j : Fin 1920) : val_main_v1 (F := Ideal) x0 x2 (ix2 r j) = y x0 x2 r j := by
  unfold y row
  pointwise [val_main_v1, val_main_v0]

theorem v14_at (q : Fin 16) (p : Fin 2048) (l : Fin 768) :
    val_main_v14 (F := Ideal) x1 (ix4 q p (0 : Fin 1) l) = x1 (ix2 ⟨p.val, by omega⟩ l) := by
  pointwise [val_main_v14, val_main_v13, val_main_v12]

theorem v15_at (p : Fin 32768) (l : Fin 768) :
    val_main_v15 (F := Ideal) x1 (ix2 p l) = x1 (ix2 ⟨p.val % 2048, by omega⟩ l) := by
  pointwise [val_main_v15]
  exact v14_at x1 _ _ l

theorem v18_at (q : Fin 2) (p : Fin 512) (l : Fin 768) :
    val_main_v18 (F := Ideal) x1 (ix4 q p (0 : Fin 1) l) = x1 (ix2 ⟨2048 + p.val, by omega⟩ l) := by
  pointwise [val_main_v18, val_main_v17, val_main_v16]

theorem v19_at (p : Fin 1024) (l : Fin 768) :
    val_main_v19 (F := Ideal) x1 (ix2 p l) = x1 (ix2 ⟨2048 + p.val % 512, by omega⟩ l) := by
  pointwise [val_main_v19]
  exact v18_at x1 _ _ l

theorem v20_at (l : Fin 768) : val_main_v20 (F := Ideal) x1 (ix2 r l) = x1 (ix2 (place r) l) := by
  unfold place
  pointwise [val_main_v20]
  split
  · exact v15_at x1 _ l
  · refine (v19_at x1 _ l).trans (congrArg (fun k => x1 (ix2 k l)) (Fin.ext ?_))
    dsimp only; omega

theorem v85_at (d : Fin 256) : val_main_v85 (F := Ideal) x0 x2 (ix2 r d) = y x0 x2 r ⟨512 + d.val, by omega⟩ * y x0 x2 r ⟨d.val, by omega⟩ := by
  rw [← v1_at, ← v1_at]
  pointwise [val_main_v85, val_main_v4, val_main_v2]

theorem v3_at (d : Fin 256) : val_main_v3 (F := Ideal) x0 x2 (ix2 r d) = y x0 x2 r ⟨256 + d.val, by omega⟩ := by
  rw [← v1_at]
  pointwise [val_main_v3]

theorem v9_at (d : Fin 128) : val_main_v9 (F := Ideal) x0 x2 (ix2 r d) = y x0 x2 r ⟨1664 + d.val, by omega⟩ := by
  rw [← v1_at]
  pointwise [val_main_v9]

theorem v32_at (d : Fin 128) : val_main_v32 (F := Ideal) x0 x2 x6 (ix2 r d) = ckv (y x0 x2 r) (fun j => x6 (ix2 (0 : Fin 1) j)) d := by
  unfold ckv rms slab
  simp only [← v1_at]
  pointwise [val_main_v32, val_main_v31, val_main_v30, val_main_v29, val_main_v28, val_main_v27, val_main_v26, val_main_v25, val_main_v24,
    val_main_v23, val_main_v22, val_main_v21, val_main_v6, val_main_cst, val_main_cst_0, val_main_cst_1]

theorem v43_at (d : Fin 32) : val_main_v43 (F := Ideal) x0 x1 x2 (ix2 r d) = pairR (y x0 x2 r) (fun j => x1 (ix2 (place r) j)) 1792 (by omega) d := by
  unfold pairR
  simp only [← v1_at, ← v20_at]
  pointwise [val_main_v43, val_main_v42, val_main_v41, val_main_v40, val_main_v39, val_main_v38, val_main_v37, val_main_v36, val_main_v35,
    val_main_v34, val_main_v33, val_main_v10]

theorem v83_at (p : Fin 2) (d : Fin 64) : val_main_v83 (F := Ideal) x0 x1 x2 (ix3 r p d)
    = pairH (y x0 x2 r) (fun j => x1 (ix2 (place r) j)) (1536 + p.val * 64) (by omega) d := by
  unfold pairH
  simp only [← v1_at, ← v20_at]
  pointwise [val_main_v83, val_main_v82, val_main_v81, val_main_v80, val_main_v79, val_main_v78, val_main_v77, val_main_v76, val_main_v75,
    val_main_v74, val_main_v73, val_main_v72, val_main_v71, val_main_v70, val_main_v69, val_main_v68, val_main_v67, val_main_v47,
    val_main_v46, val_main_v45, val_main_v44, val_main_v8]
  simp only [Nat.add_assoc]

theorem v66_at (p : Fin 6) (d : Fin 64) : val_main_v66 (F := Ideal) x0 x1 x2 (ix3 r p d)
    = pairH (y x0 x2 r) (fun j => x1 (ix2 (place r) j)) (1152 + p.val * 64) (by omega) d * Ideal.ofBits FTy.f32 0x3E000000#32 := by
  unfold pairH
  simp only [← v1_at, ← v20_at]
  pointwise [val_main_v66, val_main_v65, val_main_v64, val_main_v63, val_main_v62, val_main_v61, val_main_v60, val_main_v59, val_main_v58,
    val_main_v57, val_main_v56, val_main_v55, val_main_v54, val_main_v53, val_main_v52, val_main_v51, val_main_v50, val_main_v49, val_main_v48,
    val_main_v47, val_main_v46, val_main_v45, val_main_v44, val_main_v7]
  simp only [Nat.add_assoc]
  rfl

theorem v84_at (d : Fin 128) : val_main_v84 (F := Ideal) x0 x1 x2 (ix2 r d)
    = pairH (y x0 x2 r) (fun j => x1 (ix2 (place r) j)) (1536 + d.val / 64 * 64) (by omega) ⟨d.val % 64, by omega⟩ := by
  pointwise [val_main_v84]
  exact v83_at x0 x1 x2 r ⟨d.val / 64, _⟩ ⟨d.val % 64, _⟩

theorem v87_at (d : Fin 384) : val_main_v87 (F := Ideal) x0 x1 x2 (ix2 r d)
    = pairH (y x0 x2 r) (fun j => x1 (ix2 (place r) j)) (1152 + d.val / 64 * 64) (by omega) ⟨d.val % 64, by omega⟩
      * Ideal.ofBits FTy.f32 0x3E000000#32 := by
  pointwise [val_main_v87, val_main_v86]
  exact v66_at x0 x1 x2 r ⟨d.val / 64, _⟩ ⟨d.val % 64, _⟩

theorem v89_at (d : Fin 160) : val_main_v89 (F := Ideal) x0 x1 x2 x6 (ix2 r d)
    = if h : d.val < 128 then val_main_v32 (F := Ideal) x0 x2 x6 (ix2 r ⟨d.val, h⟩)
      else val_main_v43 (F := Ideal) x0 x1 x2 (ix2 r ⟨d.val - 128, by omega⟩) := by
  pointwise [val_main_v89, val_main_v88]

theorem v91_at (d : Fin 256) : val_main_v91 (F := Ideal) x0 x1 x2 (ix2 r d)
    = if h : d.val < 128 then val_main_v84 (F := Ideal) x0 x1 x2 (ix2 r ⟨d.val, h⟩)
      else val_main_v9 (F := Ideal) x0 x2 (ix2 r ⟨d.val - 128, by omega⟩) := by
  pointwise [val_main_v91, val_main_v90]

end Cert.Reference3Ideal.ProjRef

end
-- ==== Proof.ProjPay.lean ====
/-
  The values a grid point stores, read at an index.
-/
module

public import proofs.«01_k».proof.Proof.ProjSpec
public import proofs.«01_k».proof.Proof.Gen.Kernel3Ideal.Skeleton

@[expose] public section

set_option maxRecDepth 16384

noncomputable section

open Idealize.ShloMosaic

namespace Cert.Kernel3Ideal.Pay

open Cert.Kernel3Ideal Cert.Kernel3Ideal.Gen Cert.ProjSpec

variable (v0 : Vec Ideal S512x1024 .f32) (v2 : Vec Ideal S1024x1920 .bf16) (v3 : FVec Ideal S512x1920 .f32)
  (v4 : Vec Ideal S512x768 .f32) (g : Vec Ideal S1x128 .f32) (r : Fin 512)

theorem pay6_at (j : Fin 1920) : k0_pay6 (F := Ideal) v0 v2 (ix2 r j) = row (fun k => v0 (ix2 r k)) (fun k j => v2 (ix2 k j)) j := by
  unfold row
  pointwise [k0_pay6]

theorem pay7_at (d : Fin 256) : k0_pay7 (F := Ideal) v0 v2 (ix2 r d)
    = k0_pay6 (F := Ideal) v0 v2 (ix2 r ⟨512 + d.val, by omega⟩) * k0_pay6 (F := Ideal) v0 v2 (ix2 r ⟨d.val, by omega⟩) := by
  pointwise [k0_pay7]

theorem pay8_at (d : Fin 256) : k0_pay8 (F := Ideal) v0 v2 (ix2 r d) = k0_pay6 (F := Ideal) v0 v2 (ix2 r ⟨256 + d.val, by omega⟩) := by
  pointwise [k0_pay8]

theorem pay2_at (d : Fin 128) : k0_pay2 (F := Ideal) v3 v4 (ix2 r d)
    = heads (fun j => v3 (ix2 r j)) (fun j => v4 (ix2 r j)) 1536 (by decide) d := by
  unfold heads turn slab
  pointwise [k0_pay2]

theorem pay3_at (d : Fin 128) : k0_pay3 (F := Ideal) v3 (ix2 r d) = v3 (ix2 r ⟨1664 + d.val, by omega⟩) := by
  pointwise [k0_pay3]

theorem pay27_at (d : Fin 128) : k0_pay27 (F := Ideal) v3 g (ix2 r d)
    = ckv (fun j => v3 (ix2 r j)) (fun j => g (ix2 (0 : Fin 1) j)) d := by
  unfold ckv rms slab
  pointwise [k0_pay27]

theorem pay28_at (d : Fin 32) : k0_pay28 (F := Ideal) v3 v4 (ix2 r d)
    = kpe (fun j => v3 (ix2 r j)) (fun j => v4 (ix2 r j)) d := by
  unfold kpe turn slab
  pointwise [k0_pay28]

theorem pay31_at (d : Fin 128) : k0_pay31 (F := Ideal) v3 v4 (ix2 r d)
    = heads (fun j => v3 (ix2 r j)) (fun j => v4 (ix2 r j)) 1152 (by decide) d * Ideal.ofBits FTy.f32 0x3E000000#32 := by
  unfold heads turn slab
  pointwise [k0_pay31]

theorem pay32_at (d : Fin 128) : k0_pay32 (F := Ideal) v3 v4 (ix2 r d)
    = heads (fun j => v3 (ix2 r j)) (fun j => v4 (ix2 r j)) 1280 (by decide) d * Ideal.ofBits FTy.f32 0x3E000000#32 := by
  unfold heads turn slab
  pointwise [k0_pay32]

theorem pay1_at (d : Fin 128) : k0_pay1 (F := Ideal) (k0_pay33 v3) (k0_pay34 v4) (k0_pay35 v4) (k0_pay36 v3 v4) (k0_pay37 v3) (ix2 r d)
    = heads (fun j => v3 (ix2 r j)) (fun j => v4 (ix2 r j)) 1408 (by decide) d * Ideal.ofBits FTy.f32 0x3E000000#32 := by
  unfold heads turn slab
  pointwise [k0_pay1, k0_pay33, k0_pay34, k0_pay35, k0_pay36, k0_pay37]

end Cert.Kernel3Ideal.Pay

end
-- ==== Proof.ProjBlock.lean ====
/-
  What a grid point's stores leave in each output block, read at an index: the row's projections.
-/
module

public import proofs.«01_k».proof.Proof.ProjPay
public import proofs.«01_k».proof.Proof.Gen.Kernel3Ideal.Value
public import Idealize.ShloMosaic.Lib.Pipeline.ValueKit.Tiles

@[expose] public section

set_option maxRecDepth 16384

noncomputable section

open Idealize.ShloMosaic Idealize.ShloMosaic.TcCoe Idealize.SL.Sem

namespace Cert.Kernel3Ideal.ProjBlock

open Cert.Kernel3Ideal Cert.Kernel3Ideal.Gen Cert.Kernel3Ideal.Pay Cert.ProjSpec

/-- A load of a whole block is the block. -/
theorem ld {s : Shape} {e : EltTy} {arg : Memref sig .tc .vmem s e} (harg : arg.IsWhole) (x : Vec Ideal s e) (o : Fin s.rank → ℕ)
    (ho : o = fun _ => 0) (inb : ∀ a, o a + s.size a ≤ s.size a) :
    View.readAt (Elt Ideal) arg.view (Rect.unit (s := s) o s.size inb).toLoadRect (harg.unread x) = x := by
  rw [View.readAt_eq_ld, harg.read_unread]
  exact View.ld_unit_zero ho _ _

/-- A row's product with the weights. -/
def yrow (x0 : Vec Ideal S512x1024 .f32) (x2 : Vec Ideal S1024x1920 .bf16) (r : Fin 512) : Fin 1920 → EReal :=
  row (fun k => x0 (ix2 r k)) (fun k j => x2 (ix2 k j))

/-- A stored tile of a row's columns from `o`, at column `d`. -/
theorem tile {n m k o : ℕ} {e : EltTy} {r : Fin n} {d : Fin m} (w : (⟨2, ![n, k]⟩ : Shape).Idx → Elt Ideal e) (v : Elt Ideal e)
    (h : ∀ d' : Fin k, d.val = o + d'.val → w (ix2 r d') = v) :
    View.TileAt (S := ⟨2, ![n, m]⟩) (ix2 r d) ![0, o] ![n, k] w v := by
  intro x hx
  obtain ⟨r', d', rfl⟩ : ∃ (r' : Fin n) (d' : Fin k), x = ix2 r' d' :=
    ⟨x 0, x 1, funext fun a => by match a with | ⟨0, _⟩ => rfl | ⟨1, _⟩ => rfl⟩
  have h0 : r.val = 0 + r'.val := hx 0
  have h1 : d.val = o + d'.val := hx 1
  obtain rfl : r = r' := Fin.ext (by omega)
  exact h d' h1

section
variable {n m : ℕ} {e : EltTy} {r : Fin n} {d : Fin m} {v : Elt Ideal e}

/-- One store of the whole block. -/
theorem one (w : (⟨2, ![n, m]⟩ : Shape).Idx → Elt Ideal e) (inb) (h : w (ix2 r d) = v) :
    View.AllAt (S := ⟨2, ![n, m]⟩) [⟨Rect.unit ![0, 0] ![n, m] inb, w⟩] (ix2 r d) v :=
  View.allAt_cons_unit _ _ _ _ _ (tile _ _ fun d' hd => by
    obtain rfl : d = d' := Fin.ext (by omega)
    exact h) (View.allAt_nil _ _)

/-- Two stores side by side. -/
theorem two {a b : ℕ} (w1 : (⟨2, ![n, b]⟩ : Shape).Idx → Elt Ideal e) (w0 : (⟨2, ![n, a]⟩ : Shape).Idx → Elt Ideal e) (inb1) (inb0)
    (h1 : ∀ d' : Fin b, d.val = a + d'.val → w1 (ix2 r d') = v) (h0 : ∀ d' : Fin a, d.val = 0 + d'.val → w0 (ix2 r d') = v) :
    View.AllAt (S := ⟨2, ![n, m]⟩) [⟨Rect.unit ![0, a] ![n, b] inb1, w1⟩, ⟨Rect.unit ![0, 0] ![n, a] inb0, w0⟩] (ix2 r d) v :=
  View.allAt_cons_unit _ _ _ _ _ (tile _ _ h1) (View.allAt_cons_unit _ _ _ _ _ (tile _ _ h0) (View.allAt_nil _ _))

/-- Three stores side by side. -/
theorem three {a a' b c : ℕ} (w2 : (⟨2, ![n, c]⟩ : Shape).Idx → Elt Ideal e) (w1 : (⟨2, ![n, b]⟩ : Shape).Idx → Elt Ideal e)
    (w0 : (⟨2, ![n, a]⟩ : Shape).Idx → Elt Ideal e) (inb2) (inb1) (inb0)
    (h2 : ∀ d' : Fin c, d.val = a' + d'.val → w2 (ix2 r d') = v) (h1 : ∀ d' : Fin b, d.val = a + d'.val → w1 (ix2 r d') = v)
    (h0 : ∀ d' : Fin a, d.val = 0 + d'.val → w0 (ix2 r d') = v) :
    View.AllAt (S := ⟨2, ![n, m]⟩) [⟨Rect.unit ![0, a'] ![n, c] inb2, w2⟩, ⟨Rect.unit ![0, a] ![n, b] inb1, w1⟩,
      ⟨Rect.unit ![0, 0] ![n, a] inb0, w0⟩] (ix2 r d) v :=
  View.allAt_cons_unit _ _ _ _ _ (tile _ _ h2) (two w1 w0 inb1 inb0 h1 h0)
end

section
variable (x0 : Vec Ideal S512x1024 .f32) (x1 : Vec Ideal S512x768 .f32) (x2 : Vec Ideal S1024x1920 .bf16) (x6 : Vec Ideal S1x128 .f32)
  (r : Fin 512)

/-- The row of the table, and the gains. -/
abbrev trow : Fin 768 → EReal := fun j => x1 (ix2 r j)
abbrev gains : Fin 128 → EReal := fun j => x6 (ix2 (0 : Fin 1) j)

theorem y_eq : (fun j => k0_pay6 (F := Ideal) x0 x2 (ix2 r j)) = yrow x0 x2 r := funext fun j => pay6_at x0 x2 r j

theorem p7 (d : Fin 256) : k0_pay7 (F := Ideal) x0 x2 (ix2 r d)
    = yrow x0 x2 r ⟨512 + d.val, by omega⟩ * yrow x0 x2 r ⟨d.val, by omega⟩ :=
  (pay7_at x0 x2 r d).trans (congrArg₂ (· * ·) (pay6_at x0 x2 r _) (pay6_at x0 x2 r _))

theorem p11 (d : Fin 128) : k0_pay27 (F := Ideal) (k0_pay6 x0 x2) x6 (ix2 r d) = ckv (yrow x0 x2 r) (gains x6) d :=
  (pay27_at (k0_pay6 x0 x2) x6 r d).trans (congrArg (fun y => ckv y (gains x6) d) (y_eq x0 x2 r))

theorem p12 (d : Fin 32) : k0_pay28 (F := Ideal) (k0_pay6 x0 x2) x1 (ix2 r d) = kpe (yrow x0 x2 r) (trow x1 r) d :=
  (pay28_at (k0_pay6 x0 x2) x1 r d).trans (congrArg (fun y => kpe y (trow x1 r) d) (y_eq x0 x2 r))

theorem p14 (d : Fin 128) : k0_pay2 (F := Ideal) (k0_pay6 x0 x2) x1 (ix2 r d)
    = heads (yrow x0 x2 r) (trow x1 r) 1536 (by decide) d :=
  (pay2_at (k0_pay6 x0 x2) x1 r d).trans (congrArg (fun y => heads y (trow x1 r) 1536 (by decide) d) (y_eq x0 x2 r))

theorem p15 (d : Fin 128) : k0_pay3 (F := Ideal) (k0_pay6 x0 x2) (ix2 r d) = yrow x0 x2 r ⟨1664 + d.val, by omega⟩ :=
  (pay3_at (k0_pay6 x0 x2) r d).trans (pay6_at x0 x2 r _)

theorem p10_1 (d : Fin 160) (d' : Fin 32) (h : d.val = 128 + d'.val) :
    k0_pay30 (F := Ideal) (k0_pay28 (k0_pay6 x0 x2) x1) (ix2 r d') = kcat (yrow x0 x2 r) (trow x1 r) (gains x6) d := by
  refine (show _ = k0_pay28 (F := Ideal) (k0_pay6 x0 x2) x1 (ix2 r d') from rfl).trans ((p12 x0 x1 x2 r d').trans ?_)
  unfold kcat
  rw [dif_neg (by omega)]
  exact congrArg _ (Fin.ext (by dsimp only; omega))

theorem p10_0 (d : Fin 160) (d' : Fin 128) (h : d.val = 0 + d'.val) :
    k0_pay29 (F := Ideal) (k0_pay27 (k0_pay6 x0 x2) x6) (ix2 r d') = kcat (yrow x0 x2 r) (trow x1 r) (gains x6) d := by
  refine (show _ = k0_pay27 (F := Ideal) (k0_pay6 x0 x2) x6 (ix2 r d') from rfl).trans ((p11 x0 x2 x6 r d').trans ?_)
  unfold kcat
  rw [dif_pos (by omega)]
  exact congrArg _ (Fin.ext (by dsimp only; omega))

theorem p16_1 (d : Fin 256) (d' : Fin 128) (h : d.val = 128 + d'.val) :
    k0_pay5 (F := Ideal) (k0_pay6 x0 x2) (ix2 r d') = mkv (yrow x0 x2 r) (trow x1 r) d := by
  refine (show _ = k0_pay3 (F := Ideal) (k0_pay6 x0 x2) (ix2 r d') from rfl).trans ((p15 x0 x2 r d').trans ?_)
  unfold mkv
  rw [dif_neg (by omega)]
  exact congrArg _ (Fin.ext (by dsimp only; omega))

theorem p16_0 (d : Fin 256) (d' : Fin 128) (h : d.val = 0 + d'.val) :
    k0_pay4 (F := Ideal) (k0_pay6 x0 x2) x1 (ix2 r d') = mkv (yrow x0 x2 r) (trow x1 r) d := by
  refine (show _ = k0_pay2 (F := Ideal) (k0_pay6 x0 x2) x1 (ix2 r d') from rfl).trans ((p14 x0 x1 x2 r d').trans ?_)
  unfold mkv
  rw [dif_pos (by omega)]
  exact congrArg _ (Fin.ext (by dsimp only; omega))

theorem p13 (o k : ℕ) (hk : k < 3) (ho : o = 1152 + 128 * k) (h' : o + 128 ≤ 1920) (d : Fin 384) (d' : Fin 128) (h : d.val = 128 * k + d'.val) :
    heads (fun j => k0_pay6 (F := Ideal) x0 x2 (ix2 r j)) (trow x1 r) o h' d' * Ideal.ofBits FTy.f32 0x3E000000#32
      = mq (yrow x0 x2 r) (trow x1 r) d := by
  rw [y_eq]
  unfold mq
  exact congrArg (· * _) (heads_congr _ _ (by omega) (Fin.ext (by dsimp only; omega)) _ _)
end

section
variable (c : Dev nD) (i : grid0.Coords)
  (arg1 : Memref sig .tc .vmem S512x1024 .f32) (harg1 : arg1.IsWhole)
  (arg2 : Memref sig .tc .vmem S512x768 .f32) (harg2 : arg2.IsWhole)
  (arg3 : Memref sig .tc .vmem S1024x1920 .bf16) (harg3 : arg3.IsWhole)
  (arg4 : Memref sig .tc .vmem S256x640 .bf16) (harg4 : arg4.IsWhole)
  (arg5 : Memref sig .tc .vmem S384x768 .bf16) (harg5 : arg5.IsWhole)
  (arg6 : Memref sig .tc .vmem S1x256 .f32) (harg6 : arg6.IsWhole)
  (arg7 : Memref sig .tc .vmem S1x128 .f32) (harg7 : arg7.IsWhole)
  (arg8 : Memref sig .tc .vmem S512x256 .f32) (harg8 : arg8.IsWhole)
  (arg9 : Memref sig .tc .vmem S512x256 .f32) (harg9 : arg9.IsWhole)
  (arg10 : Memref sig .tc .vmem S6x512x160 .bf16) (harg10 : arg10.IsWhole)
  (arg11 : Memref sig .tc .vmem S512x160 .bf16) (harg11 : arg11.IsWhole)
  (arg12 : Memref sig .tc .vmem S512x128 .f32) (harg12 : arg12.IsWhole)
  (arg13 : Memref sig .tc .vmem S512x32 .f32) (harg13 : arg13.IsWhole)
  (arg14 : Memref sig .tc .vmem S512x384 .bf16) (harg14 : arg14.IsWhole)
  (arg15 : Memref sig .tc .vmem S512x128 .f32) (harg15 : arg15.IsWhole)
  (arg16 : Memref sig .tc .vmem S512x128 .f32) (harg16 : arg16.IsWhole)
  (arg17 : Memref sig .tc .vmem S512x256 .bf16) (harg17 : arg17.IsWhole)
  (x0 : Vec Ideal S512x1024 .f32) (x1 : Vec Ideal S512x768 .f32) (x2 : Vec Ideal S1024x1920 .bf16) (x3 : Vec Ideal S256x640 .bf16)
  (x4 : Vec Ideal S384x768 .bf16) (x5 : Vec Ideal S1x256 .f32) (x6 : Vec Ideal S1x128 .f32) (r : Fin 512)

theorem sl_y : kernelRun0_A.sl.r (F := Ideal) c arg1 harg1 arg3 harg3 x0 x2 = k0_pay6 x0 x2 := by
  unfold kernelRun0_A.sl.r
  exact congrArg₂ k0_pay6 (ld harg1 x0 _ (funext fun a => by fin_cases a <;> rfl) _) (ld harg3 x2 _ (funext fun a => by fin_cases a <;> rfl) _)

theorem sl_t : kernelRun0_A.sl.r_1 (F := Ideal) c arg2 harg2 x1 = x1 := by
  unfold kernelRun0_A.sl.r_1
  exact ld harg2 x1 _ (funext fun a => by fin_cases a <;> rfl) _

theorem sl_x0 (inb : ∀ a, (![0, 0] : Fin 2 → ℕ) a + (![512, 1024] : Fin 2 → ℕ) a ≤ S512x1024.size a) :
    View.readAt (Elt Ideal) arg1.view (Rect.unit (s := S512x1024) ![0, 0] ![512, 1024] inb).toLoadRect (harg1.unread x0) = x0 :=
  ld harg1 x0 _ (funext fun a => by fin_cases a <;> rfl) _

theorem sl_x2 (inb : ∀ a, (![0, 0] : Fin 2 → ℕ) a + (![1024, 1920] : Fin 2 → ℕ) a ≤ S1024x1920.size a) :
    View.readAt (Elt Ideal) arg3.view (Rect.unit (s := S1024x1920) ![0, 0] ![1024, 1920] inb).toLoadRect (harg3.unread x2) = x2 :=
  ld harg3 x2 _ (funext fun a => by fin_cases a <;> rfl) _

theorem sl_g (inb : ∀ a, (![0, 0] : Fin 2 → ℕ) a + (![1, 128] : Fin 2 → ℕ) a ≤ S1x128.size a) :
    View.readAt (Elt Ideal) arg7.view (Rect.unit (s := S1x128) ![0, 0] ![1, 128] inb).toLoadRect (harg7.unread x6) = x6 :=
  ld harg7 x6 _ (funext fun a => by fin_cases a <;> rfl) _

theorem out7_at (d : Fin 256) : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = yrow x0 x2 r ⟨512 + d.val, by omega⟩ * yrow x0 x2 r ⟨d.val, by omega⟩ := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [sl_x0, sl_x2]
  exact one _ _ (p7 x0 x2 r d)

theorem out8_at (d : Fin 256) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = yrow x0 x2 r ⟨256 + d.val, by omega⟩ := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [sl_x0, sl_x2]
  exact one _ _ ((pay8_at x0 x2 r d).trans (pay6_at x0 x2 r _))

theorem out10_at (d : Fin 160) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = kcat (yrow x0 x2 r) (trow x1 r) (gains x6) d := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [kernelRun0_A.sl.r_8, kernelRun0_A.sl.r_9, sl_y, sl_t, sl_g]
  exact two _ _ _ _ (p10_1 x0 x1 x2 x6 r d) (p10_0 x0 x1 x2 x6 r d)

theorem out11_at (d : Fin 128) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = ckv (yrow x0 x2 r) (gains x6) d := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [sl_y, sl_g]
  exact one _ _ (p11 x0 x2 x6 r d)

theorem out12_at (d : Fin 32) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = kpe (yrow x0 x2 r) (trow x1 r) d := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [kernelRun0_A.sl.r_9, sl_y, sl_t]
  exact one _ _ (p12 x0 x1 x2 r d)

theorem out13_at (d : Fin 384) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = mq (yrow x0 x2 r) (trow x1 r) d := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [kernelRun0_A.sl.r_10, kernelRun0_A.sl.r_11, kernelRun0_A.sl.r_12, kernelRun0_A.sl.r_13, kernelRun0_A.sl.r_14, sl_y, sl_t]
  exact three _ _ _ _ _ _
    (fun d' h => (pay1_at (k0_pay6 x0 x2) x1 r d').trans (p13 x0 x1 x2 r 1408 2 (by decide) rfl _ d d' h))
    (fun d' h => (pay32_at (k0_pay6 x0 x2) x1 r d').trans (p13 x0 x1 x2 r 1280 1 (by decide) rfl _ d d' h))
    (fun d' h => (pay31_at (k0_pay6 x0 x2) x1 r d').trans (p13 x0 x1 x2 r 1152 0 (by decide) rfl _ d d' h))

theorem out14_at (d : Fin 128) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = heads (yrow x0 x2 r) (trow x1 r) 1536 (by decide) d := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [sl_y, sl_t]
  exact one _ _ (p14 x0 x1 x2 r d)

theorem out15_at (d : Fin 128) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = yrow x0 x2 r ⟨1664 + d.val, by omega⟩ := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [sl_y]
  exact one _ _ (p15 x0 x2 r d)

theorem out16_at (d : Fin 256) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix2 r d)
    = mkv (yrow x0 x2 r) (trow x1 r) d := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [sl_y, sl_t]
  exact two _ _ _ _ (p16_1 x0 x1 x2 r d) (p16_0 x0 x1 x2 r d)

end

end Cert.Kernel3Ideal.ProjBlock

end
-- ==== Proof.ProjValue.lean ====
/-
  The kernel's result arrays: the grid points' blocks tile each, and hold the projections of their 512 rows.
-/
module

public import proofs.«01_k».proof.Proof.ProjBlock
public import proofs.«01_k».proof.Proof.Gen.Kernel3Ideal.Value

@[expose] public section

set_option maxRecDepth 16384

noncomputable section

open Idealize.ShloMosaic Idealize.ShloMosaic.TcCoe Idealize.SL.Sem

namespace Cert.Kernel3Ideal.ProjValue

open Cert.Kernel3Ideal Cert.Kernel3Ideal.Gen Cert.ProjSpec Cert.Kernel3Ideal.ProjBlock

variable (m : (ℓ : Loc nD τ sig) → Buf (Elt Ideal) ℓ) (c : Dev nD)

/-- The arguments, as functions of their indices. -/
def a0 (r : Fin 33792) (k : Fin 1024) : EReal := (m ((c : Thread nD τ).loc main_arg0) : S33792x1024.Idx → EReal) (ix2 r k)
def a1 (r : Fin 2560) (j : Fin 768) : EReal := (m ((c : Thread nD τ).loc main_arg1) : S2560x768.Idx → EReal) (ix2 r j)
def a2 (k : Fin 1024) (j : Fin 1920) : EReal := (m ((c : Thread nD τ).loc main_arg2) : S1024x1920.Idx → EReal) (ix2 k j)
def gains (j : Fin 128) : EReal := (m ((c : Thread nD τ).loc main_arg6) : S1x128.Idx → EReal) (ix2 (0 : Fin 1) j)

/-- A row's product with the weights, and its row of the table. -/
def row (r : Fin 33792) : Fin 1920 → EReal := ProjSpec.row (a0 m c r) (a2 m c)
def lanes (r : Fin 33792) : Fin 768 → EReal := a1 m c (place r)

theorem lt_N (t : Fin cfg0.N) : t.val < 66 := t.isLt
theorem index0 : ∀ t : Fin grid0.N, win0_0.index t = ![t.val, 0] := by decide +kernel
theorem index1 : ∀ t : Fin grid0.N, win0_1.index t = ![if t.val < 64 then t.val % 4 else 4, 0] := by decide +kernel
theorem index2 : ∀ t : Fin grid0.N, win0_2.index t = ![0, 0] := by decide +kernel
theorem index6 : ∀ t : Fin grid0.N, win0_6.index t = ![0, 0] := by decide +kernel
theorem index7 : ∀ t : Fin grid0.N, win0_7.index t = ![t.val, 0] := by decide +kernel
theorem index8 : ∀ t : Fin grid0.N, win0_8.index t = ![t.val, 0] := by decide +kernel
theorem index10 : ∀ t : Fin grid0.N, win0_10.index t = ![t.val, 0] := by decide +kernel
theorem index11 : ∀ t : Fin grid0.N, win0_11.index t = ![t.val, 0] := by decide +kernel
theorem index12 : ∀ t : Fin grid0.N, win0_12.index t = ![t.val, 0] := by decide +kernel
theorem index13 : ∀ t : Fin grid0.N, win0_13.index t = ![t.val, 0] := by decide +kernel
theorem index14 : ∀ t : Fin grid0.N, win0_14.index t = ![t.val, 0] := by decide +kernel
theorem index15 : ∀ t : Fin grid0.N, win0_15.index t = ![t.val, 0] := by decide +kernel
theorem index16 : ∀ t : Fin grid0.N, win0_16.index t = ![t.val, 0] := by decide +kernel

/-- A grid point's activations: 512 rows from row `512 t`. -/
theorem iblk0 (t : Fin cfg0.N) (q : Fin 512) (k : Fin 1024) :
    (iblk m c 0 t : S512x1024.Idx → EReal) (ix2 q k) = a0 m c ⟨512 * t.val + q.val, by have := lt_N t; omega⟩ k := by
  have ht := lt_N t
  unfold iblk a0
  rw [View.read_apply]
  show Gen.V m c main_arg0 _ = m (c.tc.loc main_arg0) _
  rw [V_main_arg0]
  congr 1
  have e := index0 t
  funext a
  apply Fin.ext
  match a with
  | ⟨0, _⟩ => show win0_0.index t 0 * 512 + 1 * q.val = 512 * t.val + q.val; rw [e]; simp; omega
  | ⟨1, _⟩ => show win0_0.index t 1 * 1024 + 1 * k.val = k.val; rw [e]; simp

/-- Its rows of the table. -/
theorem iblk1 (t : Fin cfg0.N) (q : Fin 512) (j : Fin 768) :
    (iblk m c 1 t : S512x768.Idx → EReal) (ix2 q j) = a1 m c ⟨512 * (if t.val < 64 then t.val % 4 else 4) + q.val, by have := lt_N t; split <;> omega⟩ j := by
  have ht := lt_N t
  unfold iblk a1
  rw [View.read_apply]
  show Gen.V m c main_arg1 _ = m (c.tc.loc main_arg1) _
  rw [V_main_arg1]
  congr 1
  have e := index1 t
  funext a
  apply Fin.ext
  match a with
  | ⟨0, _⟩ => show win0_1.index t 0 * 512 + 1 * q.val = 512 * (if t.val < 64 then t.val % 4 else 4) + q.val; rw [e]; dsimp; omega
  | ⟨1, _⟩ => show win0_1.index t 1 * 768 + 1 * j.val = j.val; rw [e]; simp

/-- Every grid point has all the weights. -/
theorem iblk2 (t : Fin cfg0.N) (k : Fin 1024) (j : Fin 1920) :
    (iblk m c 2 t : S1024x1920.Idx → EReal) (ix2 k j) = a2 m c k j := by
  have ht := lt_N t
  unfold iblk a2
  rw [View.read_apply]
  show Gen.V m c main_arg2 _ = m (c.tc.loc main_arg2) _
  rw [V_main_arg2]
  congr 1
  have e := index2 t
  funext a
  apply Fin.ext
  match a with
  | ⟨0, _⟩ => show win0_2.index t 0 * 1024 + 1 * k.val = k.val; rw [e]; simp
  | ⟨1, _⟩ => show win0_2.index t 1 * 1920 + 1 * j.val = j.val; rw [e]; simp

/-- Every grid point has the gains. -/
theorem iblk6 (t : Fin cfg0.N) (j : Fin 128) :
    (iblk m c 6 t : S1x128.Idx → EReal) (ix2 (0 : Fin 1) j) = gains m c j := by
  have ht := lt_N t
  unfold iblk gains
  rw [View.read_apply]
  show Gen.V m c main_arg6 _ = m (c.tc.loc main_arg6) _
  rw [V_main_arg6]
  congr 1
  have e := index6 t
  funext a
  apply Fin.ext
  match a with
  | ⟨0, _⟩ => show win0_6.index t 0 * 1 + 1 * 0 = 0; rw [e]; simp
  | ⟨1, _⟩ => show win0_6.index t 1 * 128 + 1 * j.val = j.val; rw [e]; simp

/-- The row of the array that a grid point's row `q` is. -/
abbrev at' (t : Fin cfg0.N) (q : Fin 512) : Fin 33792 := ⟨512 * t.val + q.val, by have := lt_N t; omega⟩

theorem yrow_eq (t : Fin cfg0.N) (q : Fin 512) : yrow (iblk m c 0 t) (iblk m c 2 t) q = row m c (at' t q) := by
  unfold yrow row
  funext j
  exact congrArg₂ (fun x w => ProjSpec.row x w j) (funext fun k => iblk0 m c t q k) (funext fun k => funext fun j => iblk2 m c t k j)

theorem lanes_eq (t : Fin cfg0.N) (q : Fin 512) : trow (iblk m c 1 t) q = lanes m c (at' t q) := by
  have ht := lt_N t
  unfold lanes place
  funext j
  refine (iblk1 m c t q j).trans (congrArg (fun r => a1 m c r j) (Fin.ext ?_))
  dsimp only
  split <;> split <;> dsimp only <;> omega

theorem gains_eq (t : Fin cfg0.N) : ProjBlock.gains (iblk m c 6 t) = gains m c := funext fun j => iblk6 m c t j

variable (r : Fin 33792)

/-- Result 0 at an index. -/
def val7 (d : Fin 256) : EReal := row m c r ⟨512 + d.val, by omega⟩ * row m c r ⟨d.val, by omega⟩
def res7 : S33792x256.Idx → EReal := fun y => val7 m c (y 0) (y 1)

theorem flushed7 (t : Fin cfg0.N) : (dats m 0 c).flushed 7 t = ((cfg0.win 7).blk t).view.read (Elt Ideal) (res7 m c) := by
  rw [Value.flushed7_A]
  funext y
  obtain ⟨q, k, rfl⟩ : ∃ (q : Fin 512) (k : Fin 256), y = ix2 q k :=
    ⟨y 0, y 1, funext fun a => by match a with | ⟨0, _⟩ => rfl | ⟨1, _⟩ => rfl⟩
  rw [View.read_apply]
  refine (out7_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q]
  have e := index7 t
  have r0 : (((cfg0.win 7).blk t).view.emb (ix2 q k)) 0 = at' t q := Fin.ext (by
    show win0_7.index t 0 * 512 + 1 * q.val = 512 * t.val + q.val
    rw [e]; simp; omega)
  have r1 : (((cfg0.win 7).blk t).view.emb (ix2 q k)) 1 = k := Fin.ext (by
    show win0_7.index t 1 * 256 + 1 * k.val = k.val
    rw [e]; simp)
  show _ = val7 m c ((((cfg0.win 7).blk t).view.emb (ix2 q k)) 0) ((((cfg0.win 7).blk t).view.emb (ix2 q k)) 1)
  rw [r0, r1]
  rfl

theorem cover7 (i : S33792x256.Idx) : ∃ t : Fin cfg0.N, (cfg0.win 7).flush t = true ∧ i ∈ ((cfg0.win 7).blk t).view.set := by
  have i0 : (i 0).val < 33792 := (i 0).isLt
  have i1 : (i 1).val < 256 := (i 1).isLt
  have hlt : (i 0).val / 512 < cfg0.N := by show (i 0).val / 512 < 66; omega
  refine ⟨⟨(i 0).val / 512, hlt⟩, flush0_7 _, ?_⟩
  show i ∈ ((View.whole main_v0_0).slice (win0_7.rect ⟨(i 0).val / 512, hlt⟩)).set
  rw [View.set_slice_whole, Rect.mem_set_unit]
  have e := index7 ⟨(i 0).val / 512, hlt⟩
  intro a
  match a with
  | ⟨0, _⟩ =>
    show win0_7.index ⟨(i 0).val / 512, hlt⟩ 0 * 512 ≤ (i 0).val ∧ (i 0).val < win0_7.index ⟨(i 0).val / 512, hlt⟩ 0 * 512 + 512
    rw [e]; simp; omega
  | ⟨1, _⟩ =>
    show win0_7.index ⟨(i 0).val / 512, hlt⟩ 1 * 256 ≤ (i 1).val ∧ (i 1).val < win0_7.index ⟨(i 0).val / 512, hlt⟩ 1 * 256 + 256
    rw [e]; simp; omega

theorem arr7 : (dats m 0 c).arrAt 7 cfg0.N = res7 m c :=
  (dats m 0 c).arrAt_eq_of_cover 7 (res7 m c) (fun t _ => flushed7 m c t) cover7

/-- Result 1 at an index. -/
def val8 (d : Fin 256) : EReal := row m c r ⟨256 + d.val, by omega⟩
def res8 : S33792x256.Idx → EReal := fun y => val8 m c (y 0) (y 1)

theorem flushed8 (t : Fin cfg0.N) : (dats m 0 c).flushed 8 t = ((cfg0.win 8).blk t).view.read (Elt Ideal) (res8 m c) := by
  rw [Value.flushed8_A]
  funext y
  obtain ⟨q, k, rfl⟩ : ∃ (q : Fin 512) (k : Fin 256), y = ix2 q k :=
    ⟨y 0, y 1, funext fun a => by match a with | ⟨0, _⟩ => rfl | ⟨1, _⟩ => rfl⟩
  rw [View.read_apply]
  refine (out8_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q]
  have e := index8 t
  have r0 : (((cfg0.win 8).blk t).view.emb (ix2 q k)) 0 = at' t q := Fin.ext (by
    show win0_8.index t 0 * 512 + 1 * q.val = 512 * t.val + q.val
    rw [e]; simp; omega)
  have r1 : (((cfg0.win 8).blk t).view.emb (ix2 q k)) 1 = k := Fin.ext (by
    show win0_8.index t 1 * 256 + 1 * k.val = k.val
    rw [e]; simp)
  show _ = val8 m c ((((cfg0.win 8).blk t).view.emb (ix2 q k)) 0) ((((cfg0.win 8).blk t).view.emb (ix2 q k)) 1)
  rw [r0, r1]
  rfl

theorem cover8 (i : S33792x256.Idx) : ∃ t : Fin cfg0.N, (cfg0.win 8).flush t = true ∧ i ∈ ((cfg0.win 8).blk t).view.set := by
  have i0 : (i 0).val < 33792 := (i 0).isLt
  have i1 : (i 1).val < 256 := (i 1).isLt
  have hlt : (i 0).val / 512 < cfg0.N := by show (i 0).val / 512 < 66; omega
  refine ⟨⟨(i 0).val / 512, hlt⟩, flush0_8 _, ?_⟩
  show i ∈ ((View.whole main_v0_1).slice (win0_8.rect ⟨(i 0).val / 512, hlt⟩)).set
  rw [View.set_slice_whole, Rect.mem_set_unit]
  have e := index8 ⟨(i 0).val / 512, hlt⟩
  intro a
  match a with
  | ⟨0, _⟩ =>
    show win0_8.index ⟨(i 0).val / 512, hlt⟩ 0 * 512 ≤ (i 0).val ∧ (i 0).val < win0_8.index ⟨(i 0).val / 512, hlt⟩ 0 * 512 + 512
    rw [e]; simp; omega
  | ⟨1, _⟩ =>
    show win0_8.index ⟨(i 0).val / 512, hlt⟩ 1 * 256 ≤ (i 1).val ∧ (i 1).val < win0_8.index ⟨(i 0).val / 512, hlt⟩ 1 * 256 + 256
    rw [e]; simp; omega

theorem arr8 : (dats m 0 c).arrAt 8 cfg0.N = res8 m c :=
  (dats m 0 c).arrAt_eq_of_cover 8 (res8 m c) (fun t _ => flushed8 m c t) cover8

/-- Result 3 at an index. -/
def val10 (d : Fin 160) : EReal := kcat (row m c r) (lanes m c r) (gains m c) d
def res10 : S33792x160.Idx → EReal := fun y => val10 m c (y 0) (y 1)

theorem flushed10 (t : Fin cfg0.N) : (dats m 0 c).flushed 10 t = ((cfg0.win 10).blk t).view.read (Elt Ideal) (res10 m c) := by
  rw [Value.flushed10_A]
  funext y
  obtain ⟨q, k, rfl⟩ : ∃ (q : Fin 512) (k : Fin 160), y = ix2 q k :=
    ⟨y 0, y 1, funext fun a => by match a with | ⟨0, _⟩ => rfl | ⟨1, _⟩ => rfl⟩
  rw [View.read_apply]
  refine (out10_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q, lanes_eq m c t q, gains_eq m c t]
  have e := index10 t
  have r0 : (((cfg0.win 10).blk t).view.emb (ix2 q k)) 0 = at' t q := Fin.ext (by
    show win0_10.index t 0 * 512 + 1 * q.val = 512 * t.val + q.val
    rw [e]; simp; omega)
  have r1 : (((cfg0.win 10).blk t).view.emb (ix2 q k)) 1 = k := Fin.ext (by
    show win0_10.index t 1 * 160 + 1 * k.val = k.val
    rw [e]; simp)
  show _ = val10 m c ((((cfg0.win 10).blk t).view.emb (ix2 q k)) 0) ((((cfg0.win 10).blk t).view.emb (ix2 q k)) 1)
  rw [r0, r1]
  rfl

theorem cover10 (i : S33792x160.Idx) : ∃ t : Fin cfg0.N, (cfg0.win 10).flush t = true ∧ i ∈ ((cfg0.win 10).blk t).view.set := by
  have i0 : (i 0).val < 33792 := (i 0).isLt
  have i1 : (i 1).val < 160 := (i 1).isLt
  have hlt : (i 0).val / 512 < cfg0.N := by show (i 0).val / 512 < 66; omega
  refine ⟨⟨(i 0).val / 512, hlt⟩, flush0_10 _, ?_⟩
  show i ∈ ((View.whole main_v0_3).slice (win0_10.rect ⟨(i 0).val / 512, hlt⟩)).set
  rw [View.set_slice_whole, Rect.mem_set_unit]
  have e := index10 ⟨(i 0).val / 512, hlt⟩
  intro a
  match a with
  | ⟨0, _⟩ =>
    show win0_10.index ⟨(i 0).val / 512, hlt⟩ 0 * 512 ≤ (i 0).val ∧ (i 0).val < win0_10.index ⟨(i 0).val / 512, hlt⟩ 0 * 512 + 512
    rw [e]; simp; omega
  | ⟨1, _⟩ =>
    show win0_10.index ⟨(i 0).val / 512, hlt⟩ 1 * 160 ≤ (i 1).val ∧ (i 1).val < win0_10.index ⟨(i 0).val / 512, hlt⟩ 1 * 160 + 160
    rw [e]; simp; omega

theorem arr10 : (dats m 0 c).arrAt 10 cfg0.N = res10 m c :=
  (dats m 0 c).arrAt_eq_of_cover 10 (res10 m c) (fun t _ => flushed10 m c t) cover10

/-- Result 4 at an index. -/
def val11 (d : Fin 128) : EReal := ckv (row m c r) (gains m c) d
def res11 : S33792x128.Idx → EReal := fun y => val11 m c (y 0) (y 1)

theorem flushed11 (t : Fin cfg0.N) : (dats m 0 c).flushed 11 t = ((cfg0.win 11).blk t).view.read (Elt Ideal) (res11 m c) := by
  rw [Value.flushed11_A]
  funext y
  obtain ⟨q, k, rfl⟩ : ∃ (q : Fin 512) (k : Fin 128), y = ix2 q k :=
    ⟨y 0, y 1, funext fun a => by match a with | ⟨0, _⟩ => rfl | ⟨1, _⟩ => rfl⟩
  rw [View.read_apply]
  refine (out11_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q, gains_eq m c t]
  have e := index11 t
  have r0 : (((cfg0.win 11).blk t).view.emb (ix2 q k)) 0 = at' t q := Fin.ext (by
    show win0_11.index t 0 * 512 + 1 * q.val = 512 * t.val + q.val
    rw [e]; simp; omega)
  have r1 : (((cfg0.win 11).blk t).view.emb (ix2 q k)) 1 = k := Fin.ext (by
    show win0_11.index t 1 * 128 + 1 * k.val = k.val
    rw [e]; simp)
  show _ = val11 m c ((((cfg0.win 11).blk t).view.emb (ix2 q k)) 0) ((((cfg0.win 11).blk t).view.emb (ix2 q k)) 1)
  rw [r0, r1]
  rfl

theorem cover11 (i : S33792x128.Idx) : ∃ t : Fin cfg0.N, (cfg0.win 11).flush t = true ∧ i ∈ ((cfg0.win 11).blk t).view.set := by
  have i0 : (i 0).val < 33792 := (i 0).isLt
  have i1 : (i 1).val < 128 := (i 1).isLt
  have hlt : (i 0).val / 512 < cfg0.N := by show (i 0).val / 512 < 66; omega
  refine ⟨⟨(i 0).val / 512, hlt⟩, flush0_11 _, ?_⟩
  show i ∈ ((View.whole main_v0_4).slice (win0_11.rect ⟨(i 0).val / 512, hlt⟩)).set
  rw [View.set_slice_whole, Rect.mem_set_unit]
  have e := index11 ⟨(i 0).val / 512, hlt⟩
  intro a
  match a with
  | ⟨0, _⟩ =>
    show win0_11.index ⟨(i 0).val / 512, hlt⟩ 0 * 512 ≤ (i 0).val ∧ (i 0).val < win0_11.index ⟨(i 0).val / 512, hlt⟩ 0 * 512 + 512
    rw [e]; simp; omega
  | ⟨1, _⟩ =>
    show win0_11.index ⟨(i 0).val / 512, hlt⟩ 1 * 128 ≤ (i 1).val ∧ (i 1).val < win0_11.index ⟨(i 0).val / 512, hlt⟩ 1 * 128 + 128
    rw [e]; simp; omega

theorem arr11 : (dats m 0 c).arrAt 11 cfg0.N = res11 m c :=
  (dats m 0 c).arrAt_eq_of_cover 11 (res11 m c) (fun t _ => flushed11 m c t) cover11

/-- Result 5 at an index. -/
def val12 (d : Fin 32) : EReal := kpe (row m c r) (lanes m c r) d
def res12 : S33792x32.Idx → EReal := fun y => val12 m c (y 0) (y 1)

theorem flushed12 (t : Fin cfg0.N) : (dats m 0 c).flushed 12 t = ((cfg0.win 12).blk t).view.read (Elt Ideal) (res12 m c) := by
  rw [Value.flushed12_A]
  funext y
  obtain ⟨q, k, rfl⟩ : ∃ (q : Fin 512) (k : Fin 32), y = ix2 q k :=
    ⟨y 0, y 1, funext fun a => by match a with | ⟨0, _⟩ => rfl | ⟨1, _⟩ => rfl⟩
  rw [View.read_apply]
  refine (out12_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q, lanes_eq m c t q]
  have e := index12 t
  have r0 : (((cfg0.win 12).blk t).view.emb (ix2 q k)) 0 = at' t q := Fin.ext (by
    show win0_12.index t 0 * 512 + 1 * q.val = 512 * t.val + q.val
    rw [e]; simp; omega)
  have r1 : (((cfg0.win 12).blk t).view.emb (ix2 q k)) 1 = k := Fin.ext (by
    show win0_12.index t 1 * 32 + 1 * k.val = k.val
    rw [e]; simp)
  show _ = val12 m c ((((cfg0.win 12).blk t).view.emb (ix2 q k)) 0) ((((cfg0.win 12).blk t).view.emb (ix2 q k)) 1)
  rw [r0, r1]
  rfl

theorem cover12 (i : S33792x32.Idx) : ∃ t : Fin cfg0.N, (cfg0.win 12).flush t = true ∧ i ∈ ((cfg0.win 12).blk t).view.set := by
  have i0 : (i 0).val < 33792 := (i 0).isLt
  have i1 : (i 1).val < 32 := (i 1).isLt
  have hlt : (i 0).val / 512 < cfg0.N := by show (i 0).val / 512 < 66; omega
  refine ⟨⟨(i 0).val / 512, hlt⟩, flush0_12 _, ?_⟩
  show i ∈ ((View.whole main_v0_5).slice (win0_12.rect ⟨(i 0).val / 512, hlt⟩)).set
  rw [View.set_slice_whole, Rect.mem_set_unit]
  have e := index12 ⟨(i 0).val / 512, hlt⟩
  intro a
  match a with
  | ⟨0, _⟩ =>
    show win0_12.index ⟨(i 0).val / 512, hlt⟩ 0 * 512 ≤ (i 0).val ∧ (i 0).val < win0_12.index ⟨(i 0).val / 512, hlt⟩ 0 * 512 + 512
    rw [e]; simp; omega
  | ⟨1, _⟩ =>
    show win0_12.index ⟨(i 0).val / 512, hlt⟩ 1 * 32 ≤ (i 1).val ∧ (i 1).val < win0_12.index ⟨(i 0).val / 512, hlt⟩ 1 * 32 + 32
    rw [e]; simp; omega

theorem arr12 : (dats m 0 c).arrAt 12 cfg0.N = res12 m c :=
  (dats m 0 c).arrAt_eq_of_cover 12 (res12 m c) (fun t _ => flushed12 m c t) cover12

/-- Result 6 at an index. -/
def val13 (d : Fin 384) : EReal := mq (row m c r) (lanes m c r) d
def res13 : S33792x384.Idx → EReal := fun y => val13 m c (y 0) (y 1)

theorem flushed13 (t : Fin cfg0.N) : (dats m 0 c).flushed 13 t = ((cfg0.win 13).blk t).view.read (Elt Ideal) (res13 m c) := by
  rw [Value.flushed13_A]
  funext y
  obtain ⟨q, k, rfl⟩ : ∃ (q : Fin 512) (k : Fin 384), y = ix2 q k :=
    ⟨y 0, y 1, funext fun a => by match a with | ⟨0, _⟩ => rfl | ⟨1, _⟩ => rfl⟩
  rw [View.read_apply]
  refine (out13_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q, lanes_eq m c t q]
  have e := index13 t
  have r0 : (((cfg0.win 13).blk t).view.emb (ix2 q k)) 0 = at' t q := Fin.ext (by
    show win0_13.index t 0 * 512 + 1 * q.val = 512 * t.val + q.val
    rw [e]; simp; omega)
  have r1 : (((cfg0.win 13).blk t).view.emb (ix2 q k)) 1 = k := Fin.ext (by
    show win0_13.index t 1 * 384 + 1 * k.val = k.val
    rw [e]; simp)
  show _ = val13 m c ((((cfg0.win 13).blk t).view.emb (ix2 q k)) 0) ((((cfg0.win 13).blk t).view.emb (ix2 q k)) 1)
  rw [r0, r1]
  rfl

theorem cover13 (i : S33792x384.Idx) : ∃ t : Fin cfg0.N, (cfg0.win 13).flush t = true ∧ i ∈ ((cfg0.win 13).blk t).view.set := by
  have i0 : (i 0).val < 33792 := (i 0).isLt
  have i1 : (i 1).val < 384 := (i 1).isLt
  have hlt : (i 0).val / 512 < cfg0.N := by show (i 0).val / 512 < 66; omega
  refine ⟨⟨(i 0).val / 512, hlt⟩, flush0_13 _, ?_⟩
  show i ∈ ((View.whole main_v0_6).slice (win0_13.rect ⟨(i 0).val / 512, hlt⟩)).set
  rw [View.set_slice_whole, Rect.mem_set_unit]
  have e := index13 ⟨(i 0).val / 512, hlt⟩
  intro a
  match a with
  | ⟨0, _⟩ =>
    show win0_13.index ⟨(i 0).val / 512, hlt⟩ 0 * 512 ≤ (i 0).val ∧ (i 0).val < win0_13.index ⟨(i 0).val / 512, hlt⟩ 0 * 512 + 512
    rw [e]; simp; omega
  | ⟨1, _⟩ =>
    show win0_13.index ⟨(i 0).val / 512, hlt⟩ 1 * 384 ≤ (i 1).val ∧ (i 1).val < win0_13.index ⟨(i 0).val / 512, hlt⟩ 1 * 384 + 384
    rw [e]; simp; omega

theorem arr13 : (dats m 0 c).arrAt 13 cfg0.N = res13 m c :=
  (dats m 0 c).arrAt_eq_of_cover 13 (res13 m c) (fun t _ => flushed13 m c t) cover13

/-- Result 7 at an index. -/
def val14 (d : Fin 128) : EReal := heads (row m c r) (lanes m c r) 1536 (by decide) d
def res14 : S33792x128.Idx → EReal := fun y => val14 m c (y 0) (y 1)

theorem flushed14 (t : Fin cfg0.N) : (dats m 0 c).flushed 14 t = ((cfg0.win 14).blk t).view.read (Elt Ideal) (res14 m c) := by
  rw [Value.flushed14_A]
  funext y
  obtain ⟨q, k, rfl⟩ : ∃ (q : Fin 512) (k : Fin 128), y = ix2 q k :=
    ⟨y 0, y 1, funext fun a => by match a with | ⟨0, _⟩ => rfl | ⟨1, _⟩ => rfl⟩
  rw [View.read_apply]
  refine (out14_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q, lanes_eq m c t q]
  have e := index14 t
  have r0 : (((cfg0.win 14).blk t).view.emb (ix2 q k)) 0 = at' t q := Fin.ext (by
    show win0_14.index t 0 * 512 + 1 * q.val = 512 * t.val + q.val
    rw [e]; simp; omega)
  have r1 : (((cfg0.win 14).blk t).view.emb (ix2 q k)) 1 = k := Fin.ext (by
    show win0_14.index t 1 * 128 + 1 * k.val = k.val
    rw [e]; simp)
  show _ = val14 m c ((((cfg0.win 14).blk t).view.emb (ix2 q k)) 0) ((((cfg0.win 14).blk t).view.emb (ix2 q k)) 1)
  rw [r0, r1]
  rfl

theorem cover14 (i : S33792x128.Idx) : ∃ t : Fin cfg0.N, (cfg0.win 14).flush t = true ∧ i ∈ ((cfg0.win 14).blk t).view.set := by
  have i0 : (i 0).val < 33792 := (i 0).isLt
  have i1 : (i 1).val < 128 := (i 1).isLt
  have hlt : (i 0).val / 512 < cfg0.N := by show (i 0).val / 512 < 66; omega
  refine ⟨⟨(i 0).val / 512, hlt⟩, flush0_14 _, ?_⟩
  show i ∈ ((View.whole main_v0_7).slice (win0_14.rect ⟨(i 0).val / 512, hlt⟩)).set
  rw [View.set_slice_whole, Rect.mem_set_unit]
  have e := index14 ⟨(i 0).val / 512, hlt⟩
  intro a
  match a with
  | ⟨0, _⟩ =>
    show win0_14.index ⟨(i 0).val / 512, hlt⟩ 0 * 512 ≤ (i 0).val ∧ (i 0).val < win0_14.index ⟨(i 0).val / 512, hlt⟩ 0 * 512 + 512
    rw [e]; simp; omega
  | ⟨1, _⟩ =>
    show win0_14.index ⟨(i 0).val / 512, hlt⟩ 1 * 128 ≤ (i 1).val ∧ (i 1).val < win0_14.index ⟨(i 0).val / 512, hlt⟩ 1 * 128 + 128
    rw [e]; simp; omega

theorem arr14 : (dats m 0 c).arrAt 14 cfg0.N = res14 m c :=
  (dats m 0 c).arrAt_eq_of_cover 14 (res14 m c) (fun t _ => flushed14 m c t) cover14

/-- Result 8 at an index. -/
def val15 (d : Fin 128) : EReal := row m c r ⟨1664 + d.val, by omega⟩
def res15 : S33792x128.Idx → EReal := fun y => val15 m c (y 0) (y 1)

theorem flushed15 (t : Fin cfg0.N) : (dats m 0 c).flushed 15 t = ((cfg0.win 15).blk t).view.read (Elt Ideal) (res15 m c) := by
  rw [Value.flushed15_A]
  funext y
  obtain ⟨q, k, rfl⟩ : ∃ (q : Fin 512) (k : Fin 128), y = ix2 q k :=
    ⟨y 0, y 1, funext fun a => by match a with | ⟨0, _⟩ => rfl | ⟨1, _⟩ => rfl⟩
  rw [View.read_apply]
  refine (out15_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q]
  have e := index15 t
  have r0 : (((cfg0.win 15).blk t).view.emb (ix2 q k)) 0 = at' t q := Fin.ext (by
    show win0_15.index t 0 * 512 + 1 * q.val = 512 * t.val + q.val
    rw [e]; simp; omega)
  have r1 : (((cfg0.win 15).blk t).view.emb (ix2 q k)) 1 = k := Fin.ext (by
    show win0_15.index t 1 * 128 + 1 * k.val = k.val
    rw [e]; simp)
  show _ = val15 m c ((((cfg0.win 15).blk t).view.emb (ix2 q k)) 0) ((((cfg0.win 15).blk t).view.emb (ix2 q k)) 1)
  rw [r0, r1]
  rfl

theorem cover15 (i : S33792x128.Idx) : ∃ t : Fin cfg0.N, (cfg0.win 15).flush t = true ∧ i ∈ ((cfg0.win 15).blk t).view.set := by
  have i0 : (i 0).val < 33792 := (i 0).isLt
  have i1 : (i 1).val < 128 := (i 1).isLt
  have hlt : (i 0).val / 512 < cfg0.N := by show (i 0).val / 512 < 66; omega
  refine ⟨⟨(i 0).val / 512, hlt⟩, flush0_15 _, ?_⟩
  show i ∈ ((View.whole main_v0_8).slice (win0_15.rect ⟨(i 0).val / 512, hlt⟩)).set
  rw [View.set_slice_whole, Rect.mem_set_unit]
  have e := index15 ⟨(i 0).val / 512, hlt⟩
  intro a
  match a with
  | ⟨0, _⟩ =>
    show win0_15.index ⟨(i 0).val / 512, hlt⟩ 0 * 512 ≤ (i 0).val ∧ (i 0).val < win0_15.index ⟨(i 0).val / 512, hlt⟩ 0 * 512 + 512
    rw [e]; simp; omega
  | ⟨1, _⟩ =>
    show win0_15.index ⟨(i 0).val / 512, hlt⟩ 1 * 128 ≤ (i 1).val ∧ (i 1).val < win0_15.index ⟨(i 0).val / 512, hlt⟩ 1 * 128 + 128
    rw [e]; simp; omega

theorem arr15 : (dats m 0 c).arrAt 15 cfg0.N = res15 m c :=
  (dats m 0 c).arrAt_eq_of_cover 15 (res15 m c) (fun t _ => flushed15 m c t) cover15

/-- Result 9 at an index. -/
def val16 (d : Fin 256) : EReal := mkv (row m c r) (lanes m c r) d
def res16 : S33792x256.Idx → EReal := fun y => val16 m c (y 0) (y 1)

theorem flushed16 (t : Fin cfg0.N) : (dats m 0 c).flushed 16 t = ((cfg0.win 16).blk t).view.read (Elt Ideal) (res16 m c) := by
  rw [Value.flushed16_A]
  funext y
  obtain ⟨q, k, rfl⟩ : ∃ (q : Fin 512) (k : Fin 256), y = ix2 q k :=
    ⟨y 0, y 1, funext fun a => by match a with | ⟨0, _⟩ => rfl | ⟨1, _⟩ => rfl⟩
  rw [View.read_apply]
  refine (out16_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q k).trans ?_
  rw [yrow_eq m c t q, lanes_eq m c t q]
  have e := index16 t
  have r0 : (((cfg0.win 16).blk t).view.emb (ix2 q k)) 0 = at' t q := Fin.ext (by
    show win0_16.index t 0 * 512 + 1 * q.val = 512 * t.val + q.val
    rw [e]; simp; omega)
  have r1 : (((cfg0.win 16).blk t).view.emb (ix2 q k)) 1 = k := Fin.ext (by
    show win0_16.index t 1 * 256 + 1 * k.val = k.val
    rw [e]; simp)
  show _ = val16 m c ((((cfg0.win 16).blk t).view.emb (ix2 q k)) 0) ((((cfg0.win 16).blk t).view.emb (ix2 q k)) 1)
  rw [r0, r1]
  rfl

theorem cover16 (i : S33792x256.Idx) : ∃ t : Fin cfg0.N, (cfg0.win 16).flush t = true ∧ i ∈ ((cfg0.win 16).blk t).view.set := by
  have i0 : (i 0).val < 33792 := (i 0).isLt
  have i1 : (i 1).val < 256 := (i 1).isLt
  have hlt : (i 0).val / 512 < cfg0.N := by show (i 0).val / 512 < 66; omega
  refine ⟨⟨(i 0).val / 512, hlt⟩, flush0_16 _, ?_⟩
  show i ∈ ((View.whole main_v0_9).slice (win0_16.rect ⟨(i 0).val / 512, hlt⟩)).set
  rw [View.set_slice_whole, Rect.mem_set_unit]
  have e := index16 ⟨(i 0).val / 512, hlt⟩
  intro a
  match a with
  | ⟨0, _⟩ =>
    show win0_16.index ⟨(i 0).val / 512, hlt⟩ 0 * 512 ≤ (i 0).val ∧ (i 0).val < win0_16.index ⟨(i 0).val / 512, hlt⟩ 0 * 512 + 512
    rw [e]; simp; omega
  | ⟨1, _⟩ =>
    show win0_16.index ⟨(i 0).val / 512, hlt⟩ 1 * 256 ≤ (i 1).val ∧ (i 1).val < win0_16.index ⟨(i 0).val / 512, hlt⟩ 1 * 256 + 256
    rw [e]; simp; omega

theorem arr16 : (dats m 0 c).arrAt 16 cfg0.N = res16 m c :=
  (dats m 0 c).arrAt_eq_of_cover 16 (res16 m c) (fun t _ => flushed16 m c t) cover16

end Cert.Kernel3Ideal.ProjValue

end
-- ==== Proof.ProjClaims.lean ====
/-
  The claims of the projections: the frames, and the equality of the kernel's and the reference's results on tables of a
  rotation's lanes.
-/
module

public import proofs.«01_k».proof.Defs
public import proofs.«01_k».proof.Proof.ProjPre
public import proofs.«01_k».proof.Proof.ProjRef
public import proofs.«01_k».proof.Proof.ProjValue
public import proofs.«01_k».proof.Proof.Gen.Kernel3.Frame
public import proofs.«01_k».proof.Proof.Gen.Kernel3Ideal.Frame
public import proofs.«01_k».proof.Proof.Gen.Reference3Ideal.Run

@[expose] public section

noncomputable section

open Idealize.ShloMosaic Idealize.ShloMosaic.TcCoe Idealize.SL.Sem

namespace Cert.Proof.ProjClaims

open Cert.ProjSpec Cert.Kernel3Ideal.ProjValue Cert.Reference3Ideal.ProjRef

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ideal_pre : Cert.quiescent_Kernel3Ideal_pre_rotary := fun m ρ _ => Cert.Kernel3Ideal.Gen.frame m ρ

/-- The reference declares no semaphore and writes no argument. -/
theorem frame_reference : Cert.quiescent_Reference3Ideal := fun m ρ _ =>
  (θ_run Cert.Reference3Ideal.defs _ _).mono (fun r h => ⟨fun c => (h c).2.2.2.2.2.2.2.2.2,
      Idealize.ShloMosaic.sem_eq_zero_of_no_sems (by decide) r.2⟩)
    (Cert.Reference3Ideal.Value.run (F := Ideal) m ρ)

theorem frame_reference_pre : Cert.quiescent_Reference3Ideal_pre_rotary := fun m ρ _ =>
  (θ_run Cert.Reference3Ideal.defs _ _).mono (fun r h => ⟨fun c => (h c).2.2.2.2.2.2.2.2.2,
      Idealize.ShloMosaic.sem_eq_zero_of_no_sems (by decide) r.2⟩)
    (Cert.Reference3Ideal.Value.run (F := Ideal) m ρ)

/-- No operation is rewritten between the two prints. -/
theorem preserves : Cert.preserves_Kernel3_Kernel3Ideal := trivial

section
variable (m : (ℓ : Loc Cert.Kernel3Ideal.nD Cert.Kernel3Ideal.τ Cert.Kernel3Ideal.sig) → Buf (Elt Ideal) ℓ) (c : Dev Cert.Kernel3Ideal.nD)

/-- The arguments that the reference reads. -/
abbrev A0 : Cert.Reference3Ideal.S33792x1024.Idx → EReal := m ((c : Thread Cert.Kernel3Ideal.nD Cert.Kernel3Ideal.τ).loc Cert.Kernel3Ideal.main_arg0)
abbrev A1 : Cert.Reference3Ideal.S2560x768.Idx → EReal := m ((c : Thread Cert.Kernel3Ideal.nD Cert.Kernel3Ideal.τ).loc Cert.Kernel3Ideal.main_arg1)
abbrev A2 : Cert.Reference3Ideal.S1024x1920.Idx → EReal := m ((c : Thread Cert.Kernel3Ideal.nD Cert.Kernel3Ideal.τ).loc Cert.Kernel3Ideal.main_arg2)
abbrev A6 : Cert.Reference3Ideal.S1x128.Idx → EReal := m ((c : Thread Cert.Kernel3Ideal.nD Cert.Kernel3Ideal.τ).loc Cert.Kernel3Ideal.main_arg6)

theorem e7 : Cert.Reference3Ideal.Read.val_main_v85 (F := Ideal) (A0 m c) (A2 m c) = res7 m c := by
  funext i; idx_vars i
  exact v85_at _ _ _ _
theorem e8 : Cert.Reference3Ideal.Read.val_main_v3 (F := Ideal) (A0 m c) (A2 m c) = res8 m c := by
  funext i; idx_vars i
  exact v3_at _ _ _ _
theorem e11 : Cert.Reference3Ideal.Read.val_main_v32 (F := Ideal) (A0 m c) (A2 m c) (A6 m c) = res11 m c := by
  funext i; idx_vars i
  exact v32_at _ _ _ _ _
theorem e15 : Cert.Reference3Ideal.Read.val_main_v9 (F := Ideal) (A0 m c) (A2 m c) = res15 m c := by
  funext i; idx_vars i
  exact v9_at _ _ _ _

variable (hk : ∀ r, Keys 1 (lanes m c r)) (hh : ∀ r, Heads (lanes m c r))

include hk in
theorem at12 (r : Fin 33792) (d : Fin 32) : Cert.Reference3Ideal.Read.val_main_v43 (F := Ideal) (A0 m c) (A1 m c) (A2 m c) (ix2 r d) = val12 m c r d :=
  (v43_at _ _ _ _ _).trans (kpe_eq (hk r) d).symm

include hh in
theorem at14 (r : Fin 33792) (d : Fin 128) : Cert.Reference3Ideal.Read.val_main_v84 (F := Ideal) (A0 m c) (A1 m c) (A2 m c) (ix2 r d) = val14 m c r d :=
  (v84_at _ _ _ _ _).trans (heads_at (hh r) 1536 (by decide) d).symm

include hk in
theorem e12 : Cert.Reference3Ideal.Read.val_main_v43 (F := Ideal) (A0 m c) (A1 m c) (A2 m c) = res12 m c := by
  funext i; idx_vars i
  exact at12 m c hk _ _
include hh in
theorem e14 : Cert.Reference3Ideal.Read.val_main_v84 (F := Ideal) (A0 m c) (A1 m c) (A2 m c) = res14 m c := by
  funext i; idx_vars i
  exact at14 m c hh _ _
include hh in
theorem e13 : Cert.Reference3Ideal.Read.val_main_v87 (F := Ideal) (A0 m c) (A1 m c) (A2 m c) = res13 m c := by
  funext i; idx_vars i
  exact (v87_at _ _ _ _ _).trans (mq_eq (hh _) _).symm
include hk in
theorem e10 : Cert.Reference3Ideal.Read.val_main_v89 (F := Ideal) (A0 m c) (A1 m c) (A2 m c) (A6 m c) = res10 m c := by
  funext i; idx_vars i
  refine (v89_at _ _ _ _ _ _).trans ?_
  show _ = dite (i1.val < 128) (fun h => val11 m c i0 ⟨i1.val, h⟩) (fun h => val12 m c i0 ⟨i1.val - 128, by omega⟩)
  by_cases hd : i1.val < 128
  · rw [dif_pos hd, dif_pos hd]; exact v32_at _ _ _ _ _
  · rw [dif_neg hd, dif_neg hd]; exact at12 m c hk _ _
include hh in
theorem e16 : Cert.Reference3Ideal.Read.val_main_v91 (F := Ideal) (A0 m c) (A1 m c) (A2 m c) = res16 m c := by
  funext i; idx_vars i
  refine (v91_at _ _ _ _ _).trans ?_
  show _ = dite (i1.val < 128) (fun h => val14 m c i0 ⟨i1.val, h⟩) (fun h => val15 m c i0 ⟨i1.val - 128, by omega⟩)
  by_cases hd : i1.val < 128
  · rw [dif_pos hd, dif_pos hd]; exact at14 m c hh _ _
  · rw [dif_neg hd, dif_neg hd]; exact v9_at _ _ _ _
end

/-- Both programs end with the projections of the arguments. -/
theorem algebraic : Cert.algebraic_Kernel3Ideal_Reference3Ideal_pre_rotary := by
  intro m ρ m' ρ' hpre hagree
  have hk : ∀ c r, Keys 1 (lanes m c r) := fun c r => Cert.ProjPre.keys _ _ _ _ _ _ _
    ⟨(hpre c).1, (hpre c).2.1, (hpre c).2.2.1, (hpre c).2.2.2.1⟩ (place r)
  have hh : ∀ c r, Heads (lanes m c r) := fun c r => by
    obtain ⟨_, _, _, _, h0, h1, h2, h3, h4, h5, h6, h7⟩ := hpre c
    exact ⟨Cert.ProjPre.h_cos0 _ _ _ _ _ _ _ h0 _, Cert.ProjPre.h_cos1 _ _ _ _ _ _ _ h1 _, Cert.ProjPre.h_one _ _ _ _ _ _ _ h2 _,
      Cert.ProjPre.h_neg _ _ _ _ _ _ _ h3 _, Cert.ProjPre.h_no1 _ _ _ _ _ _ _ h4 _, Cert.ProjPre.h_no2 _ _ _ _ _ _ _ h5 _,
      Cert.ProjPre.h_sin _ _ _ _ _ _ _ h6 _, Cert.ProjPre.h_no3 _ _ _ _ _ _ _ h7 _⟩
  refine ⟨fun c => res7 m c, fun c => res8 m c, fun c => res11 m c, fun c => res12 m c, fun c => res14 m c, fun c => res15 m c,
    fun c => res13 m c, fun c => res10 m c, fun c => res16 m c, ?_, ?_⟩
  · refine (θ_run Cert.Kernel3Ideal.defs _ _).mono (fun r h c => ?_) (Cert.Kernel3Ideal.Value.run_blocks (F := Ideal) m ρ)
    obtain ⟨h7, h8, _, h10, h11, h12, h13, h14, h15, h16, hargs⟩ := h c
    exact ⟨h7.trans (arr7 m c), h8.trans (arr8 m c), h11.trans (arr11 m c), h12.trans (arr12 m c), h14.trans (arr14 m c),
      h15.trans (arr15 m c), h13.trans (arr13 m c), h10.trans (arr10 m c), h16.trans (arr16 m c), hargs⟩
  · refine (θ_run Cert.Reference3Ideal.defs _ _).mono (fun _ h c => ?_) (Cert.Reference3Ideal.Value.run (F := Ideal) m' ρ')
    obtain ⟨g0, g1, g2, g3, g4, g5, g6, g7, g8, hargs⟩ := h c
    obtain ⟨a0, a1, a2, _, _, _, a6⟩ := hagree c
    refine ⟨g0.trans ?_, g1.trans ?_, g2.trans ?_, g3.trans ?_, g4.trans ?_, g5.trans ?_, g6.trans ?_, g7.trans ?_, g8.trans ?_, hargs⟩
    · rw [Cert.Reference3Ideal.Read.val_main_v85_eq, a0, a2]; exact e7 m c
    · rw [Cert.Reference3Ideal.Read.val_main_v3_eq, a0, a2]; exact e8 m c
    · rw [Cert.Reference3Ideal.Read.val_main_v32_eq, a0, a2, a6]; exact e11 m c
    · rw [Cert.Reference3Ideal.Read.val_main_v43_eq, a0, a1, a2]; exact e12 m c (hk c)
    · rw [Cert.Reference3Ideal.Read.val_main_v84_eq, a0, a1, a2]; exact e14 m c (hh c)
    · rw [Cert.Reference3Ideal.Read.val_main_v9_eq, a0, a2]; exact e15 m c
    · rw [Cert.Reference3Ideal.Read.val_main_v87_eq, a0, a1, a2]; exact e13 m c (hh c)
    · rw [Cert.Reference3Ideal.Read.val_main_v89_eq, a0, a1, a2, a6]; exact e10 m c (hk c)
    · rw [Cert.Reference3Ideal.Read.val_main_v91_eq, a0, a1, a2]; exact e16 m c (hh c)

end Cert.Proof.ProjClaims

end
-- ==== Proof.QueryPre.lean ====
/-
  The precondition of the queries, read: the lanes of each row of the table are a rotation's over all four periods, and each
  head's latent columns are made from its own columns alone.
-/
module

public import proofs.«01_k».proof.Proof.ProjPre
public import proofs.«01_k».proof.Pre_rotary_heads
public import proofs.«01_k».proof.Proof.Gen.Pre_rotary_heads

@[expose] public section

noncomputable section

namespace Cert.QueryPre

open Idealize.ShloMosaic Cert.Pre_rotary_heads Cert.ProjSpec Cert.ProjPre

variable [Cert.Pre_rotary_heads.Facts]
variable (x0 : FVec Ideal S33792x1024 .f32) (x1 : FVec Ideal S2560x768 .f32) (x2 : FVec Ideal S1024x1920 .bf16) (x3 : FVec Ideal S256x640 .bf16)
  (x4 : FVec Ideal S384x768 .bf16) (x5 : FVec Ideal S1x256 .f32) (x6 : FVec Ideal S1x128 .f32)

theorem cos0 (h : (fn (F := Ideal) x0 x1 x2 x3 x4 x5 x6).1 = fun _ => 1#1) (r : Fin 2560) (p : Fin 4) (j : Fin 16) :
    (x1 (ix2 r ⟨p.val * 32 + j.val, by omega⟩) : EReal) = x1 (ix2 r ⟨j.val, by omega⟩) := by
  refine eq_of_cmp (Eq.trans ?_ (congrFun h (ix3 r p j)))
  unfold fn fn_part1
  dsimp only
  pointwise []
  try exact cmp_congr (congrArg (fun k => x1 (ix2 r k)) (Fin.ext (by dsimp only <;> omega))) (by exact congrArg (fun k => (x1 (ix2 r k) : EReal)) (Fin.ext (by dsimp only <;> omega)))

theorem cos1 (h : (fn (F := Ideal) x0 x1 x2 x3 x4 x5 x6).2.1 = fun _ => 1#1) (r : Fin 2560) (p : Fin 4) (j : Fin 16) :
    (x1 (ix2 r ⟨p.val * 32 + (16 + j.val), by omega⟩) : EReal) = x1 (ix2 r ⟨j.val, by omega⟩) := by
  refine eq_of_cmp (Eq.trans ?_ (congrFun h (ix3 r p j)))
  unfold fn fn_part1
  dsimp only
  pointwise []
  try exact cmp_congr (congrArg (fun k => x1 (ix2 r k)) (Fin.ext (by dsimp only <;> omega))) (by exact congrArg (fun k => (x1 (ix2 r k) : EReal)) (Fin.ext (by dsimp only <;> omega)))

theorem neg (h : (fn (F := Ideal) x0 x1 x2 x3 x4 x5 x6).2.2.1 = fun _ => 1#1) (r : Fin 2560) (p : Fin 4) (j : Fin 16) :
    (x1 (ix2 r ⟨128 + (p.val * 32 + j.val), by omega⟩) : EReal) = -x1 (ix2 r ⟨272 + j.val, by omega⟩) := by
  refine eq_of_cmp (Eq.trans ?_ (congrFun h (ix3 r p j)))
  unfold fn fn_part1
  dsimp only
  pointwise []
  try exact cmp_congr (congrArg (fun k => x1 (ix2 r k)) (Fin.ext (by dsimp only <;> omega))) (by exact congrArg (fun k => -(x1 (ix2 r k) : EReal)) (Fin.ext (by dsimp only <;> omega)))

theorem no1 (h : (fn (F := Ideal) x0 x1 x2 x3 x4 x5 x6).2.2.2.1 = fun _ => 1#1) (r : Fin 2560) (p : Fin 4) (j : Fin 16) :
    (x1 (ix2 r ⟨128 + (p.val * 32 + (16 + j.val)), by omega⟩) : EReal) = 0 := by
  refine eq_of_cmp (Eq.trans ?_ (congrFun h (ix3 r p j)))
  unfold fn fn_part1
  dsimp only
  pointwise []
  try exact cmp_congr (congrArg (fun k => x1 (ix2 r k)) (Fin.ext (by dsimp only <;> omega))) (by rfl)

theorem no2 (h : (fn (F := Ideal) x0 x1 x2 x3 x4 x5 x6).2.2.2.2.1 = fun _ => 1#1) (r : Fin 2560) (p : Fin 4) (j : Fin 16) :
    (x1 (ix2 r ⟨256 + (p.val * 32 + j.val), by omega⟩) : EReal) = 0 := by
  refine eq_of_cmp (Eq.trans ?_ (congrFun h (ix3 r p j)))
  unfold fn fn_part1
  dsimp only
  pointwise []
  try exact cmp_congr (congrArg (fun k => x1 (ix2 r k)) (Fin.ext (by dsimp only <;> omega))) (by rfl)

theorem sin (h : (fn (F := Ideal) x0 x1 x2 x3 x4 x5 x6).2.2.2.2.2.1 = fun _ => 1#1) (r : Fin 2560) (p : Fin 4) (j : Fin 16) :
    (x1 (ix2 r ⟨256 + (p.val * 32 + (16 + j.val)), by omega⟩) : EReal) = x1 (ix2 r ⟨272 + j.val, by omega⟩) := by
  refine eq_of_cmp (Eq.trans ?_ (congrFun h (ix3 r p j)))
  unfold fn fn_part1
  dsimp only
  pointwise []
  try exact cmp_congr (congrArg (fun k => x1 (ix2 r k)) (Fin.ext (by dsimp only <;> omega))) (by exact congrArg (fun k => (x1 (ix2 r k) : EReal)) (Fin.ext (by dsimp only <;> omega)))

theorem ne_word : ∀ a b : Fin 6, a ≠ b → IntOp.cmpi CmpIPredicate.eq (BitVec.ofNat 32 a.val) (BitVec.ofNat 32 b.val) = 0#1 := by
  decide

theorem own (h : (fn (F := Ideal) x0 x1 x2 x3 x4 x5 x6).2.2.2.2.2.2 = fun _ => 1#1) : Own (fun k j => x4 (ix2 k j)) := by
  intro a b n r hne
  refine eq_of_cmp (Eq.trans ?_ (congrFun h (ix4 a n b r)))
  unfold fn fn_part1 fn_where
  dsimp only
  pointwise []
  rw [ne_word a b hne]
  rfl

end Cert.QueryPre

end
-- ==== Proof.QueryRef.lean ====
/-
  The reference's queries read at an index.
-/
module

public import proofs.«01_k».proof.Proof.ProjSpec
public import proofs.«01_k».proof.Proof.Gen.Reference4Ideal.Read

@[expose] public section

set_option maxRecDepth 16384

noncomputable section

open Idealize.ShloMosaic

namespace Cert.Reference4Ideal.QueryRef

open Cert.Reference4Ideal Cert.Reference4Ideal.Gen Cert.Reference4Ideal.Read Cert.ProjSpec

variable (x0 : S33792x1024.Idx → EReal) (x1 : S2560x768.Idx → EReal) (x2 : S1024x1920.Idx → EReal) (x3 : S256x640.Idx → EReal)
  (x4 : S384x768.Idx → EReal) (x5 : S1x256.Idx → EReal) (r : Fin 33792)

/-- A row's product with the weights, and its queries before the latent columns. -/
def y : Fin 1920 → EReal := row (fun k => x0 (ix2 r k)) (fun k j => x2 (ix2 k j))
def q : Fin 640 → EReal := qrow (y x0 x2 r) (fun j => x5 (ix2 (0 : Fin 1) j)) (fun k j => x3 (ix2 k j))

theorem v2_at (d : Fin 256) : val_main_v2 (F := Ideal) x0 x2 (ix2 r d) = y x0 x2 r ⟨768 + d.val, by omega⟩ := by
  unfold y row
  pointwise [val_main_v2, val_main_v1, val_main_v0]

theorem v5_at (q : Fin 16) (p : Fin 2048) (l : Fin 768) :
    val_main_v5 (F := Ideal) x1 (ix4 q p (0 : Fin 1) l) = x1 (ix2 ⟨p.val, by omega⟩ l) := by
  pointwise [val_main_v5, val_main_v4, val_main_v3]

theorem v6_at (p : Fin 32768) (l : Fin 768) :
    val_main_v6 (F := Ideal) x1 (ix2 p l) = x1 (ix2 ⟨p.val % 2048, by omega⟩ l) := by
  pointwise [val_main_v6]
  exact v5_at x1 _ _ l

theorem v9_at (q : Fin 2) (p : Fin 512) (l : Fin 768) :
    val_main_v9 (F := Ideal) x1 (ix4 q p (0 : Fin 1) l) = x1 (ix2 ⟨2048 + p.val, by omega⟩ l) := by
  pointwise [val_main_v9, val_main_v8, val_main_v7]

theorem v10_at (p : Fin 1024) (l : Fin 768) :
    val_main_v10 (F := Ideal) x1 (ix2 p l) = x1 (ix2 ⟨2048 + p.val % 512, by omega⟩ l) := by
  pointwise [val_main_v10]
  exact v9_at x1 _ _ l

theorem v11_at (l : Fin 768) : val_main_v11 (F := Ideal) x1 (ix2 r l) = x1 (ix2 (place r) l) := by
  unfold place
  pointwise [val_main_v11]
  split
  · exact v6_at x1 _ l
  · refine (v10_at x1 _ l).trans (congrArg (fun k => x1 (ix2 k l)) (Fin.ext ?_))
    dsimp only; omega

theorem v23_at (k : Fin 256) : val_main_v23 (F := Ideal) x0 x2 x5 (ix2 r k)
    = rmsq (fun d => y x0 x2 r ⟨768 + d.val, by omega⟩) (fun j => x5 (ix2 (0 : Fin 1) j)) k := by
  unfold rmsq
  simp only [← v2_at]
  pointwise [val_main_v23, val_main_v22, val_main_v21, val_main_v20, val_main_v19, val_main_v18, val_main_v17, val_main_v16, val_main_v15,
    val_main_v14, val_main_v13, val_main_v12, val_main_cst, val_main_cst_0, val_main_cst_1]

theorem v25_at (j : Fin 640) : val_main_v25 (F := Ideal) x0 x2 x3 x5 (ix2 r j) = q x0 x2 x3 x5 r j := by
  unfold q qrow
  simp only [← v23_at]
  pointwise [val_main_v25, val_main_v24]

/-- Each head's weights into the latent columns. -/
theorem v39_at (h : Fin 6) (n : Fin 64) (d : Fin 128) : val_main_v39 (F := Ideal) x4 (ix3 h n d)
    = x4 (ix2 ⟨h.val * 64 + n.val, by omega⟩ ⟨h.val * 128 + d.val, by omega⟩) := by
  fin_cases h
  all_goals
    pointwise [val_main_v39, val_main_v38, val_main_v37, val_main_v36, val_main_v35, val_main_v34, val_main_v33, val_main_v32, val_main_v31,
      val_main_v30, val_main_v29, val_main_v28, val_main_v27, val_main_v26]

theorem v42_at (h : Fin 6) (d : Fin 128) : val_main_v42 (F := Ideal) x0 x2 x3 x4 x5 (ix3 h r d)
    = ∑ n : Fin 64, q x0 x2 x3 x5 r ⟨h.val * 64 + n.val, by omega⟩
        * x4 (ix2 ⟨h.val * 64 + n.val, by omega⟩ ⟨h.val * 128 + d.val, by omega⟩) := by
  simp only [← v25_at, ← v39_at]
  pointwise [val_main_v42, val_main_v41, val_main_v40]

theorem v61_at (h : Fin 6) (d : Fin 32) : val_main_v61 (F := Ideal) x0 x1 x2 x3 x5 (ix3 r h d)
    = pairR (q x0 x2 x3 x5 r) (fun j => x1 (ix2 (place r) j)) (384 + h.val * 32) (by omega) d := by
  unfold pairR
  simp only [← v25_at, ← v11_at]
  pointwise [val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44,
    val_main_v43]
  simp only [Nat.add_assoc]

theorem v66_at (h : Fin 6) (d : Fin 160) : val_main_v66 (F := Ideal) x0 x1 x2 x3 x4 x5 (ix3 h r d)
    = (if hd : d.val < 128 then val_main_v42 (F := Ideal) x0 x2 x3 x4 x5 (ix3 h r ⟨d.val, hd⟩)
       else val_main_v61 (F := Ideal) x0 x1 x2 x3 x5 (ix3 r h ⟨d.val - 128, by omega⟩)) * scale := by
  pointwise [val_main_v66, val_main_v65, val_main_v64, val_main_v63, val_main_v62, val_main_cst_2]

end Cert.Reference4Ideal.QueryRef

end
-- ==== Proof.QueryPay.lean ====
/-
  The query values a grid point stores, read at an index.
-/
module

public import proofs.«01_k».proof.Proof.ProjSpec
public import proofs.«01_k».proof.Proof.Gen.Kernel4Ideal.Skeleton

@[expose] public section

set_option maxRecDepth 16384

noncomputable section

open Idealize.ShloMosaic

namespace Cert.Kernel4Ideal.Pay

open Cert.Kernel4Ideal Cert.Kernel4Ideal.Gen Cert.ProjSpec

variable (v0 : Vec Ideal S512x1024 .f32) (v2 : Vec Ideal S1024x1920 .bf16) (v4 : Vec Ideal S512x768 .f32) (r : Fin 512)

theorem pay6_at (j : Fin 1920) : k0_pay6 (F := Ideal) v0 v2 (ix2 r j) = row (fun k => v0 (ix2 r k)) (fun k j => v2 (ix2 k j)) j := by
  unfold row
  pointwise [k0_pay6]

variable (gq : Vec Ideal S1x256 .f32) (wq : Vec Ideal S256x640 .bf16) (wk : Vec Ideal S384x768 .bf16) (q : FVec Ideal S512x640 .f32)
  (qa : FVec Ideal S512x768 .f32)

theorem pay9_at (j : Fin 640) : k0_pay9 (F := Ideal) v0 v2 gq wq (ix2 r j)
    = qrow (fun j => k0_pay6 (F := Ideal) v0 v2 (ix2 r j)) (fun j => gq (ix2 (0 : Fin 1) j)) (fun k j => wq (ix2 k j)) j := by
  unfold qrow rmsq
  pointwise [k0_pay9]

theorem pay10_at (j : Fin 768) : k0_pay10 (F := Ideal) v0 v2 gq wq wk (ix2 r j)
    = qabs (fun j => k0_pay9 (F := Ideal) v0 v2 gq wq (ix2 r j)) (fun k j => wk (ix2 k j)) j := by
  unfold qabs
  pointwise [k0_pay10]

theorem pay11_at (d : Fin 128) : k0_pay11 (F := Ideal) v4 q (ix2 r d)
    = qpe (fun j => q (ix2 r j)) (fun j => v4 (ix2 r j)) 384 (by decide) d := by
  unfold qpe turn slab
  pointwise [k0_pay11]

theorem pay12_at (d : Fin 128) : k0_pay12 (F := Ideal) v4 q (ix2 r d)
    = qpe (fun j => q (ix2 r j)) (fun j => v4 (ix2 r j)) 512 (by decide) d := by
  unfold qpe turn slab
  pointwise [k0_pay12]

theorem pay13_at (d : Fin 128) : k0_pay13 (F := Ideal) qa (ix3 (0 : Fin 1) r d) = qa (ix2 r ⟨d.val, by omega⟩) := by
  pointwise [k0_pay13]
theorem pay15_at (d : Fin 128) : k0_pay15 (F := Ideal) qa (ix3 (0 : Fin 1) r d) = qa (ix2 r ⟨128 + d.val, by omega⟩) := by
  pointwise [k0_pay15]
theorem pay18_at (d : Fin 128) : k0_pay18 (F := Ideal) qa (ix3 (0 : Fin 1) r d) = qa (ix2 r ⟨256 + d.val, by omega⟩) := by
  pointwise [k0_pay18]
theorem pay20_at (d : Fin 128) : k0_pay20 (F := Ideal) qa (ix3 (0 : Fin 1) r d) = qa (ix2 r ⟨384 + d.val, by omega⟩) := by
  pointwise [k0_pay20]
theorem pay22_at (d : Fin 128) : k0_pay22 (F := Ideal) qa (ix3 (0 : Fin 1) r d) = qa (ix2 r ⟨512 + d.val, by omega⟩) := by
  pointwise [k0_pay22]
theorem pay25_at (d : Fin 128) : k0_pay25 (F := Ideal) qa (ix3 (0 : Fin 1) r d) = qa (ix2 r ⟨640 + d.val, by omega⟩) := by
  pointwise [k0_pay25]
variable (s : FVec Ideal S512x128 .f32)
theorem pay14_at (d : Fin 32) : k0_pay14 (F := Ideal) v4 q (ix3 (0 : Fin 1) r d) = k0_pay11 (F := Ideal) v4 q (ix2 r ⟨d.val, by omega⟩) := by
  pointwise [k0_pay14]
theorem pay17_at (d : Fin 32) : k0_pay17 (F := Ideal) (k0_pay16 v4 q) (ix3 (0 : Fin 1) r d)
    = k0_pay11 (F := Ideal) v4 q (ix2 r ⟨32 + d.val, by omega⟩) := by
  pointwise [k0_pay17, k0_pay16]
theorem pay19_at (d : Fin 32) : k0_pay19 (F := Ideal) s (ix3 (0 : Fin 1) r d) = s (ix2 r ⟨64 + d.val, by omega⟩) := by
  pointwise [k0_pay19]
theorem pay21_at (d : Fin 32) : k0_pay21 (F := Ideal) s (ix3 (0 : Fin 1) r d) = s (ix2 r ⟨96 + d.val, by omega⟩) := by
  pointwise [k0_pay21]
theorem pay24_at (d : Fin 32) : k0_pay24 (F := Ideal) (k0_pay23 s) (ix3 (0 : Fin 1) r d) = s (ix2 r ⟨d.val, by omega⟩) := by
  pointwise [k0_pay24, k0_pay23]
theorem pay26_at (d : Fin 32) : k0_pay26 (F := Ideal) s (ix3 (0 : Fin 1) r d) = s (ix2 r ⟨32 + d.val, by omega⟩) := by
  pointwise [k0_pay26]

end Cert.Kernel4Ideal.Pay

end
-- ==== Proof.QueryBlock.lean ====
/-
  What a grid point's stores leave in the block of the queries, read at an index: the row's queries.
-/
module

public import proofs.«01_k».proof.Proof.QueryPay
public import proofs.«01_k».proof.Proof.Gen.Kernel4Ideal.Value
public import Idealize.ShloMosaic.Lib.Pipeline.ValueKit.Tiles

@[expose] public section

set_option maxRecDepth 16384

noncomputable section

open Idealize.ShloMosaic Idealize.ShloMosaic.TcCoe Idealize.SL.Sem

namespace Cert.Kernel4Ideal.QueryBlock

open Cert.Kernel4Ideal Cert.Kernel4Ideal.Gen Cert.Kernel4Ideal.Pay Cert.ProjSpec

/-- A load of a whole block is the block. -/
theorem ld {s : Shape} {e : EltTy} {arg : Memref sig .tc .vmem s e} (harg : arg.IsWhole) (x : Vec Ideal s e) (o : Fin s.rank → ℕ)
    (ho : o = fun _ => 0) (inb : ∀ a, o a + s.size a ≤ s.size a) :
    View.readAt (Elt Ideal) arg.view (Rect.unit (s := s) o s.size inb).toLoadRect (harg.unread x) = x := by
  rw [View.readAt_eq_ld, harg.read_unread]
  exact View.ld_unit_zero ho _ _

/-- A stored tile: head `h'`, all rows, the columns from `o`. -/
theorem tile {k : ℕ} {e : EltTy} {h : Fin 6} {r : Fin 512} {d : Fin 160} (h' o : ℕ) (w : (⟨3, ![1, 512, k]⟩ : Shape).Idx → Elt Ideal e)
    (v : Elt Ideal e) (hw : ∀ d' : Fin k, h.val = h' → d.val = o + d'.val → w (ix3 (0 : Fin 1) r d') = v) :
    View.TileAt (S := ⟨3, ![6, 512, 160]⟩) (ix3 h r d) ![h', 0, o] ![1, 512, k] w v := by
  intro x hx
  obtain ⟨z, r', d', rfl⟩ : ∃ (z : Fin 1) (r' : Fin 512) (d' : Fin k), x = ix3 z r' d' :=
    ⟨x 0, x 1, x 2, funext fun a => by match a with | ⟨0, _⟩ => rfl | ⟨1, _⟩ => rfl | ⟨2, _⟩ => rfl⟩
  have h0 : h.val = h' + z.val := hx 0
  have h1 : r.val = 0 + r'.val := hx 1
  have h2 : d.val = o + d'.val := hx 2
  obtain rfl : z = 0 := Fin.ext (by omega)
  obtain rfl : r = r' := Fin.ext (by omega)
  exact hw d' h0 h2

section
variable (x0 : Vec Ideal S512x1024 .f32) (x1 : Vec Ideal S512x768 .f32) (x2 : Vec Ideal S1024x1920 .bf16) (x3 : Vec Ideal S256x640 .bf16)
  (x4 : Vec Ideal S384x768 .bf16) (x5 : Vec Ideal S1x256 .f32) (r : Fin 512) (h : Fin 6) (d : Fin 160)

/-- The row's queries, its row of the table, and the weights into the latent columns. -/
def queries : Fin 640 → EReal :=
  qrow (row (fun k => x0 (ix2 r k)) (fun k j => x2 (ix2 k j))) (fun j => x5 (ix2 (0 : Fin 1) j)) (fun k j => x3 (ix2 k j))
abbrev trow : Fin 768 → EReal := fun j => x1 (ix2 r j)
abbrev latent : Fin 384 → Fin 768 → EReal := fun k j => x4 (ix2 k j)

theorem q_eq : (fun j => k0_pay9 (F := Ideal) x0 x2 x5 x3 (ix2 r j)) = queries x0 x2 x3 x5 r := by
  funext j
  unfold queries
  refine (pay9_at x0 x2 r x5 x3 j).trans ?_
  exact congrArg (fun y => qrow y _ _ j) (funext fun j => pay6_at x0 x2 r j)

/-- A latent column of head `h'`. -/
theorem qa (h' : ℕ) (d' : Fin 128) (e : h.val = h') (hd : d.val = 0 + d'.val) (j : Fin 768) (hj : j.val = h' * 128 + d'.val) :
    k0_pay10 (F := Ideal) x0 x2 x5 x3 x4 (ix2 r j) = qcat (queries x0 x2 x3 x5 r) (trow x1 r) (latent x4) h d := by
  refine (pay10_at x0 x2 r x5 x3 x4 j).trans ?_
  rw [q_eq]
  unfold qcat
  rw [dif_pos (by omega)]
  exact congrArg _ (Fin.ext (by dsimp only; omega))

/-- A rotary column of head `h'`, in the first slab of four heads or in the second. -/
theorem qp {o : ℕ} (ho : o + 128 ≤ 640) (h' : ℕ) (d' : Fin 32) (e : h.val = h') (hd : d.val = 128 + d'.val) (j : Fin 128)
    (hj : j.val = h' % 4 * 32 + d'.val) (hs : o = 384 + h' / 4 * 128) :
    qpe (queries x0 x2 x3 x5 r) (trow x1 r) o ho j = qcat (queries x0 x2 x3 x5 r) (trow x1 r) (latent x4) h d := by
  unfold qcat
  rw [dif_neg (by omega)]
  exact qpe_congr _ _ (by omega) (Fin.ext (by dsimp only; omega)) _ _

theorem qp11 (h' : ℕ) (d' : Fin 32) (_ : h' < 6) (e : h.val = h') (hd : d.val = 128 + d'.val) (j : Fin 128)
    (hj : j.val = h' % 4 * 32 + d'.val) (hs : 384 = 384 + h' / 4 * 128) :
    k0_pay11 (F := Ideal) x1 (k0_pay9 x0 x2 x5 x3) (ix2 r j) = qcat (queries x0 x2 x3 x5 r) (trow x1 r) (latent x4) h d := by
  refine (pay11_at x1 r (k0_pay9 x0 x2 x5 x3) j).trans ?_
  rw [q_eq]
  exact qp x0 x1 x2 x3 x4 x5 r h d (by decide) h' d' e hd j hj hs

theorem qp12 (h' : ℕ) (d' : Fin 32) (_ : h' < 6) (e : h.val = h') (hd : d.val = 128 + d'.val) (j : Fin 128)
    (hj : j.val = h' % 4 * 32 + d'.val) (hs : 512 = 384 + h' / 4 * 128) :
    k0_pay12 (F := Ideal) x1 (k0_pay9 x0 x2 x5 x3) (ix2 r j) = qcat (queries x0 x2 x3 x5 r) (trow x1 r) (latent x4) h d := by
  refine (pay12_at x1 r (k0_pay9 x0 x2 x5 x3) j).trans ?_
  rw [q_eq]
  exact qp x0 x1 x2 x3 x4 x5 r h d (by decide) h' d' e hd j hj hs
end

variable (c : Dev nD) (i : grid0.Coords)
  (arg1 : Memref sig .tc .vmem S512x1024 .f32) (harg1 : arg1.IsWhole)
  (arg2 : Memref sig .tc .vmem S512x768 .f32) (harg2 : arg2.IsWhole)
  (arg3 : Memref sig .tc .vmem S1024x1920 .bf16) (harg3 : arg3.IsWhole)
  (arg4 : Memref sig .tc .vmem S256x640 .bf16) (harg4 : arg4.IsWhole)
  (arg5 : Memref sig .tc .vmem S384x768 .bf16) (harg5 : arg5.IsWhole)
  (arg6 : Memref sig .tc .vmem S1x256 .f32) (harg6 : arg6.IsWhole)
  (arg7 : Memref sig .tc .vmem S1x128 .f32) (harg7 : arg7.IsWhole)
  (arg8 : Memref sig .tc .vmem S512x256 .f32) (harg8 : arg8.IsWhole)
  (arg9 : Memref sig .tc .vmem S512x256 .f32) (harg9 : arg9.IsWhole)
  (arg10 : Memref sig .tc .vmem S6x512x160 .bf16) (harg10 : arg10.IsWhole)
  (arg11 : Memref sig .tc .vmem S512x160 .bf16) (harg11 : arg11.IsWhole)
  (arg12 : Memref sig .tc .vmem S512x128 .f32) (harg12 : arg12.IsWhole)
  (arg13 : Memref sig .tc .vmem S512x32 .f32) (harg13 : arg13.IsWhole)
  (arg14 : Memref sig .tc .vmem S512x384 .bf16) (harg14 : arg14.IsWhole)
  (arg15 : Memref sig .tc .vmem S512x128 .f32) (harg15 : arg15.IsWhole)
  (arg16 : Memref sig .tc .vmem S512x128 .f32) (harg16 : arg16.IsWhole)
  (arg17 : Memref sig .tc .vmem S512x256 .bf16) (harg17 : arg17.IsWhole)
  (x0 : Vec Ideal S512x1024 .f32) (x1 : Vec Ideal S512x768 .f32) (x2 : Vec Ideal S1024x1920 .bf16) (x3 : Vec Ideal S256x640 .bf16)
  (x4 : Vec Ideal S384x768 .bf16) (x5 : Vec Ideal S1x256 .f32) (x6 : Vec Ideal S1x128 .f32) (r : Fin 512)

theorem sl_t : kernelRun0_A.sl.r_1 (F := Ideal) c arg2 harg2 x1 = x1 := by
  unfold kernelRun0_A.sl.r_1
  exact ld harg2 x1 _ (funext fun a => by fin_cases a <;> rfl) _

theorem sl_q : kernelRun0_A.sl.r_2 (F := Ideal) c arg1 harg1 arg3 harg3 arg4 harg4 arg6 harg6 x0 x2 x3 x5 = k0_pay9 x0 x2 x5 x3 := by
  unfold kernelRun0_A.sl.r_2
  rw [ld harg1 x0 _ (funext fun a => by fin_cases a <;> rfl) _, ld harg3 x2 _ (funext fun a => by fin_cases a <;> rfl) _,
    ld harg6 x5 _ (funext fun a => by fin_cases a <;> rfl) _, ld harg4 x3 _ (funext fun a => by fin_cases a <;> rfl) _]

theorem sl_a : kernelRun0_A.sl.r_3 (F := Ideal) c arg1 harg1 arg3 harg3 arg4 harg4 arg5 harg5 arg6 harg6 x0 x2 x3 x4 x5 = k0_pay10 x0 x2 x5 x3 x4 := by
  unfold kernelRun0_A.sl.r_3
  rw [ld harg1 x0 _ (funext fun a => by fin_cases a <;> rfl) _, ld harg3 x2 _ (funext fun a => by fin_cases a <;> rfl) _,
    ld harg6 x5 _ (funext fun a => by fin_cases a <;> rfl) _, ld harg4 x3 _ (funext fun a => by fin_cases a <;> rfl) _,
    ld harg5 x4 _ (funext fun a => by fin_cases a <;> rfl) _]

theorem out9_at (h : Fin 6) (d : Fin 160) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (ix3 h r d)
    = qcat (queries x0 x2 x3 x5 r) (trow x1 r) (latent x4) h d := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  refine View.canon_eq_of_allAt _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _) ?_
  unfold kernelRun0_A
  simp only [kernelRun0_A.sl.r_4, kernelRun0_A.sl.r_5, kernelRun0_A.sl.r_6, kernelRun0_A.sl.r_7, sl_q, sl_a, sl_t]
  refine View.allAt_cons_unit _ _ _ _ _ (tile 5 128 _ _ (fun d' e hd => (pay26_at r (k0_pay12 x1 (k0_pay9 x0 x2 x5 x3)) d').trans (qp12 x0 x1 x2 x3 x4 x5 r h d 5 d' (by decide) e hd _ (by simp) rfl))) ?_
  refine View.allAt_cons_unit _ _ _ _ _ (tile 5 0 _ _ (fun d' e hd => (pay25_at r (k0_pay10 x0 x2 x5 x3 x4) d').trans (qa x0 x1 x2 x3 x4 x5 r h d 5 d' e hd _ (by simp)))) ?_
  refine View.allAt_cons_unit _ _ _ _ _ (tile 4 128 _ _ (fun d' e hd => (pay24_at r (k0_pay12 x1 (k0_pay9 x0 x2 x5 x3)) d').trans (qp12 x0 x1 x2 x3 x4 x5 r h d 4 d' (by decide) e hd _ (by simp) rfl))) ?_
  refine View.allAt_cons_unit _ _ _ _ _ (tile 4 0 _ _ (fun d' e hd => (pay22_at r (k0_pay10 x0 x2 x5 x3 x4) d').trans (qa x0 x1 x2 x3 x4 x5 r h d 4 d' e hd _ (by simp)))) ?_
  refine View.allAt_cons_unit _ _ _ _ _ (tile 3 128 _ _ (fun d' e hd => (pay21_at r (k0_pay11 x1 (k0_pay9 x0 x2 x5 x3)) d').trans (qp11 x0 x1 x2 x3 x4 x5 r h d 3 d' (by decide) e hd _ (by simp) rfl))) ?_
  refine View.allAt_cons_unit _ _ _ _ _ (tile 3 0 _ _ (fun d' e hd => (pay20_at r (k0_pay10 x0 x2 x5 x3 x4) d').trans (qa x0 x1 x2 x3 x4 x5 r h d 3 d' e hd _ (by simp)))) ?_
  refine View.allAt_cons_unit _ _ _ _ _ (tile 2 128 _ _ (fun d' e hd => (pay19_at r (k0_pay11 x1 (k0_pay9 x0 x2 x5 x3)) d').trans (qp11 x0 x1 x2 x3 x4 x5 r h d 2 d' (by decide) e hd _ (by simp) rfl))) ?_
  refine View.allAt_cons_unit _ _ _ _ _ (tile 2 0 _ _ (fun d' e hd => (pay18_at r (k0_pay10 x0 x2 x5 x3 x4) d').trans (qa x0 x1 x2 x3 x4 x5 r h d 2 d' e hd _ (by simp)))) ?_
  refine View.allAt_cons_unit _ _ _ _ _ (tile 1 128 _ _ (fun d' e hd => (pay17_at x1 r (k0_pay9 x0 x2 x5 x3) d').trans (qp11 x0 x1 x2 x3 x4 x5 r h d 1 d' (by decide) e hd _ (by simp) rfl))) ?_
  refine View.allAt_cons_unit _ _ _ _ _ (tile 1 0 _ _ (fun d' e hd => (pay15_at r (k0_pay10 x0 x2 x5 x3 x4) d').trans (qa x0 x1 x2 x3 x4 x5 r h d 1 d' e hd _ (by simp)))) ?_
  refine View.allAt_cons_unit _ _ _ _ _ (tile 0 128 _ _ (fun d' e hd => (pay14_at x1 r (k0_pay9 x0 x2 x5 x3) d').trans (qp11 x0 x1 x2 x3 x4 x5 r h d 0 d' (by decide) e hd _ (by simp) rfl))) ?_
  refine View.allAt_cons_unit _ _ _ _ _ (tile 0 0 _ _ (fun d' e hd => (pay13_at r (k0_pay10 x0 x2 x5 x3 x4) d').trans (qa x0 x1 x2 x3 x4 x5 r h d 0 d' e hd _ (by simp)))) ?_
  exact View.allAt_nil _ _

end Cert.Kernel4Ideal.QueryBlock

end
-- ==== Proof.QueryValue.lean ====
/-
  The kernel's array of queries: the grid points' blocks tile it, and hold the queries of their 512 rows.
-/
module

public import proofs.«01_k».proof.Proof.QueryBlock
public import proofs.«01_k».proof.Proof.Gen.Kernel4Ideal.Value

@[expose] public section

set_option maxRecDepth 16384

noncomputable section

open Idealize.ShloMosaic Idealize.ShloMosaic.TcCoe Idealize.SL.Sem

namespace Cert.Kernel4Ideal.QueryValue

open Cert.Kernel4Ideal Cert.Kernel4Ideal.Gen Cert.ProjSpec Cert.Kernel4Ideal.QueryBlock

variable (m : (ℓ : Loc nD τ sig) → Buf (Elt Ideal) ℓ) (c : Dev nD)

/-- The arguments, as functions of their indices. -/
def a0 (r : Fin 33792) (k : Fin 1024) : EReal := (m ((c : Thread nD τ).loc main_arg0) : S33792x1024.Idx → EReal) (ix2 r k)
def a1 (r : Fin 2560) (j : Fin 768) : EReal := (m ((c : Thread nD τ).loc main_arg1) : S2560x768.Idx → EReal) (ix2 r j)
def a2 (k : Fin 1024) (j : Fin 1920) : EReal := (m ((c : Thread nD τ).loc main_arg2) : S1024x1920.Idx → EReal) (ix2 k j)
def a3 (k : Fin 256) (j : Fin 640) : EReal := (m ((c : Thread nD τ).loc main_arg3) : S256x640.Idx → EReal) (ix2 k j)
def a4 (k : Fin 384) (j : Fin 768) : EReal := (m ((c : Thread nD τ).loc main_arg4) : S384x768.Idx → EReal) (ix2 k j)
def a5 (j : Fin 256) : EReal := (m ((c : Thread nD τ).loc main_arg5) : S1x256.Idx → EReal) (ix2 (0 : Fin 1) j)

/-- A row's queries before the latent columns, and its row of the table. -/
def query (r : Fin 33792) : Fin 640 → EReal := qrow (ProjSpec.row (a0 m c r) (a2 m c)) (a5 m c) (a3 m c)
def lanes (r : Fin 33792) : Fin 768 → EReal := a1 m c (place r)

theorem lt_N (t : Fin cfg0.N) : t.val < 66 := t.isLt
theorem index0 : ∀ t : Fin grid0.N, win0_0.index t = ![t.val, 0] := by decide +kernel
theorem index1 : ∀ t : Fin grid0.N, win0_1.index t = ![if t.val < 64 then t.val % 4 else 4, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index9 : ∀ t : Fin grid0.N, win0_9.index t = ![0, t.val, 0] := by decide +kernel

/-- A grid point's activations: 512 rows from row `512 t`. -/
theorem iblk0 (t : Fin cfg0.N) (q : Fin 512) (k : Fin 1024) :
    (iblk m c 0 t : S512x1024.Idx → EReal) (ix2 q k) = a0 m c ⟨512 * t.val + q.val, by have := lt_N t; omega⟩ k := by
  have ht := lt_N t
  unfold iblk a0
  rw [View.read_apply]
  show Gen.V m c main_arg0 _ = m (c.tc.loc main_arg0) _
  rw [V_main_arg0]
  congr 1
  have e := index0 t
  funext a
  apply Fin.ext
  match a with
  | ⟨0, _⟩ => show win0_0.index t 0 * 512 + 1 * q.val = 512 * t.val + q.val; rw [e]; simp; omega
  | ⟨1, _⟩ => show win0_0.index t 1 * 1024 + 1 * k.val = k.val; rw [e]; simp

/-- Its rows of the table. -/
theorem iblk1 (t : Fin cfg0.N) (q : Fin 512) (j : Fin 768) :
    (iblk m c 1 t : S512x768.Idx → EReal) (ix2 q j) = a1 m c ⟨512 * (if t.val < 64 then t.val % 4 else 4) + q.val, by have := lt_N t; split <;> omega⟩ j := by
  have ht := lt_N t
  unfold iblk a1
  rw [View.read_apply]
  show Gen.V m c main_arg1 _ = m (c.tc.loc main_arg1) _
  rw [V_main_arg1]
  congr 1
  have e := index1 t
  funext a
  apply Fin.ext
  match a with
  | ⟨0, _⟩ => show win0_1.index t 0 * 512 + 1 * q.val = 512 * (if t.val < 64 then t.val % 4 else 4) + q.val; rw [e]; dsimp; omega
  | ⟨1, _⟩ => show win0_1.index t 1 * 768 + 1 * j.val = j.val; rw [e]; simp

/-- Every grid point has all the weights. -/
theorem iblk2 (t : Fin cfg0.N) (k : Fin 1024) (j : Fin 1920) : (iblk m c 2 t : S1024x1920.Idx → EReal) (ix2 k j) = a2 m c k j := by
  unfold iblk a2
  rw [View.read_apply]
  show Gen.V m c main_arg2 _ = m (c.tc.loc main_arg2) _
  rw [V_main_arg2]
  congr 1
  have e := index2 t
  funext a
  apply Fin.ext
  match a with
  | ⟨0, _⟩ => show win0_2.index t 0 * 1024 + 1 * k.val = k.val; rw [e]; simp
  | ⟨1, _⟩ => show win0_2.index t 1 * 1920 + 1 * j.val = j.val; rw [e]; simp

/-- The queries' weights. -/
theorem iblk3 (t : Fin cfg0.N) (k : Fin 256) (j : Fin 640) : (iblk m c 3 t : S256x640.Idx → EReal) (ix2 k j) = a3 m c k j := by
  unfold iblk a3
  rw [View.read_apply]
  show Gen.V m c main_arg3 _ = m (c.tc.loc main_arg3) _
  rw [V_main_arg3]
  congr 1
  have e := index3 t
  funext a
  apply Fin.ext
  match a with
  | ⟨0, _⟩ => show win0_3.index t 0 * 256 + 1 * k.val = k.val; rw [e]; simp
  | ⟨1, _⟩ => show win0_3.index t 1 * 640 + 1 * j.val = j.val; rw [e]; simp

/-- The weights into the latent columns. -/
theorem iblk4 (t : Fin cfg0.N) (k : Fin 384) (j : Fin 768) : (iblk m c 4 t : S384x768.Idx → EReal) (ix2 k j) = a4 m c k j := by
  unfold iblk a4
  rw [View.read_apply]
  show Gen.V m c main_arg4 _ = m (c.tc.loc main_arg4) _
  rw [V_main_arg4]
  congr 1
  have e := index4 t
  funext a
  apply Fin.ext
  match a with
  | ⟨0, _⟩ => show win0_4.index t 0 * 384 + 1 * k.val = k.val; rw [e]; simp
  | ⟨1, _⟩ => show win0_4.index t 1 * 768 + 1 * j.val = j.val; rw [e]; simp

/-- The query latent's gains. -/
theorem iblk5 (t : Fin cfg0.N) (j : Fin 256) : (iblk m c 5 t : S1x256.Idx → EReal) (ix2 (0 : Fin 1) j) = a5 m c j := by
  unfold iblk a5
  rw [View.read_apply]
  show Gen.V m c main_arg5 _ = m (c.tc.loc main_arg5) _
  rw [V_main_arg5]
  congr 1
  have e := index5 t
  funext a
  apply Fin.ext
  match a with
  | ⟨0, _⟩ => show win0_5.index t 0 * 1 + 1 * 0 = 0; rw [e]; simp
  | ⟨1, _⟩ => show win0_5.index t 1 * 256 + 1 * j.val = j.val; rw [e]; simp

/-- The row of the array that a grid point's row `q` is. -/
abbrev at' (t : Fin cfg0.N) (q : Fin 512) : Fin 33792 := ⟨512 * t.val + q.val, by have := lt_N t; omega⟩

theorem queries_eq (t : Fin cfg0.N) (q : Fin 512) :
    queries (iblk m c 0 t) (iblk m c 2 t) (iblk m c 3 t) (iblk m c 5 t) q = query m c (at' t q) := by
  unfold queries query
  rw [show (fun k => iblk m c 0 t (ix2 q k)) = a0 m c (at' t q) from funext fun k => iblk0 m c t q k,
    show (fun k j => iblk m c 2 t (ix2 k j)) = a2 m c from funext fun k => funext fun j => iblk2 m c t k j,
    show (fun j => iblk m c 5 t (ix2 (0 : Fin 1) j)) = a5 m c from funext fun j => iblk5 m c t j,
    show (fun k j => iblk m c 3 t (ix2 k j)) = a3 m c from funext fun k => funext fun j => iblk3 m c t k j]

theorem lanes_eq (t : Fin cfg0.N) (q : Fin 512) : trow (iblk m c 1 t) q = lanes m c (at' t q) := by
  have ht := lt_N t
  unfold lanes place
  funext j
  refine (iblk1 m c t q j).trans (congrArg (fun r => a1 m c r j) (Fin.ext ?_))
  dsimp only
  split <;> split <;> dsimp only <;> omega

theorem latent_eq (t : Fin cfg0.N) : latent (iblk m c 4 t) = a4 m c := funext fun k => funext fun j => iblk4 m c t k j

/-- The queries of the latent attention at an index. -/
def val9 (h : Fin 6) (r : Fin 33792) (d : Fin 160) : EReal := qcat (query m c r) (lanes m c r) (a4 m c) h d
def res9 : S6x33792x160.Idx → EReal := fun y => val9 m c (y 0) (y 1) (y 2)

theorem flushed9 (t : Fin cfg0.N) : (dats m 0 c).flushed 9 t = ((cfg0.win 9).blk t).view.read (Elt Ideal) (res9 m c) := by
  rw [Value.flushed9_A]
  funext y
  obtain ⟨h, q, k, rfl⟩ : ∃ (h : Fin 6) (q : Fin 512) (k : Fin 160), y = ix3 h q k :=
    ⟨y 0, y 1, y 2, funext fun a => by match a with | ⟨0, _⟩ => rfl | ⟨1, _⟩ => rfl | ⟨2, _⟩ => rfl⟩
  rw [View.read_apply]
  refine (out9_at _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) q h k).trans ?_
  rw [queries_eq m c t q, lanes_eq m c t q, latent_eq m c t]
  have e := index9 t
  have r0 : (((cfg0.win 9).blk t).view.emb (ix3 h q k)) 0 = h := Fin.ext (by
    show win0_9.index t 0 * 6 + 1 * h.val = h.val
    rw [e]; simp)
  have r1 : (((cfg0.win 9).blk t).view.emb (ix3 h q k)) 1 = at' t q := Fin.ext (by
    show win0_9.index t 1 * 512 + 1 * q.val = 512 * t.val + q.val
    rw [e]; simp; omega)
  have r2 : (((cfg0.win 9).blk t).view.emb (ix3 h q k)) 2 = k := Fin.ext (by
    show win0_9.index t 2 * 160 + 1 * k.val = k.val
    rw [e]; simp)
  show _ = val9 m c ((((cfg0.win 9).blk t).view.emb (ix3 h q k)) 0) ((((cfg0.win 9).blk t).view.emb (ix3 h q k)) 1)
    ((((cfg0.win 9).blk t).view.emb (ix3 h q k)) 2)
  rw [r0, r1, r2]
  rfl

theorem cover9 (i : S6x33792x160.Idx) : ∃ t : Fin cfg0.N, (cfg0.win 9).flush t = true ∧ i ∈ ((cfg0.win 9).blk t).view.set := by
  have i0 : (i 0).val < 6 := (i 0).isLt
  have i1 : (i 1).val < 33792 := (i 1).isLt
  have i2 : (i 2).val < 160 := (i 2).isLt
  have hlt : (i 1).val / 512 < cfg0.N := by show (i 1).val / 512 < 66; omega
  refine ⟨⟨(i 1).val / 512, hlt⟩, flush0_9 _, ?_⟩
  show i ∈ ((View.whole main_v0_2).slice (win0_9.rect ⟨(i 1).val / 512, hlt⟩)).set
  rw [View.set_slice_whole, Rect.mem_set_unit]
  have e := index9 ⟨(i 1).val / 512, hlt⟩
  intro a
  match a with
  | ⟨0, _⟩ =>
    show win0_9.index ⟨(i 1).val / 512, hlt⟩ 0 * 6 ≤ (i 0).val ∧ (i 0).val < win0_9.index ⟨(i 1).val / 512, hlt⟩ 0 * 6 + 6
    rw [e]; simp; omega
  | ⟨1, _⟩ =>
    show win0_9.index ⟨(i 1).val / 512, hlt⟩ 1 * 512 ≤ (i 1).val ∧ (i 1).val < win0_9.index ⟨(i 1).val / 512, hlt⟩ 1 * 512 + 512
    rw [e]; simp; omega
  | ⟨2, _⟩ =>
    show win0_9.index ⟨(i 1).val / 512, hlt⟩ 2 * 160 ≤ (i 2).val ∧ (i 2).val < win0_9.index ⟨(i 1).val / 512, hlt⟩ 2 * 160 + 160
    rw [e]; simp; omega

theorem arr9 : (dats m 0 c).arrAt 9 cfg0.N = res9 m c :=
  (dats m 0 c).arrAt_eq_of_cover 9 (res9 m c) (fun t _ => flushed9 m c t) cover9

end Cert.Kernel4Ideal.QueryValue

end
-- ==== Proof.QueryClaims.lean ====
/-
  The claims of the latent attention's queries: the frames, and the equality of the kernel's and the reference's results on
  tables of a rotation's lanes and on weights that keep each head's columns to itself.
-/
module

public import proofs.«01_k».proof.Defs
public import proofs.«01_k».proof.Proof.QueryPre
public import proofs.«01_k».proof.Proof.QueryRef
public import proofs.«01_k».proof.Proof.QueryValue
public import proofs.«01_k».proof.Proof.Gen.Kernel4.Frame
public import proofs.«01_k».proof.Proof.Gen.Kernel4Ideal.Frame
public import proofs.«01_k».proof.Proof.Gen.Reference4Ideal.Run

@[expose] public section

noncomputable section

open Idealize.ShloMosaic Idealize.ShloMosaic.TcCoe Idealize.SL.Sem

namespace Cert.Proof.QueryClaims

open Cert.ProjSpec Cert.Kernel4Ideal.QueryValue Cert.Reference4Ideal.QueryRef

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ideal_pre : Cert.quiescent_Kernel4Ideal_pre_rotary_heads := fun m ρ _ => Cert.Kernel4Ideal.Gen.frame m ρ

/-- The reference declares no semaphore and writes no argument. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_reference_pre : Cert.quiescent_Reference4Ideal_pre_rotary_heads := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- No operation is rewritten between the two prints. -/
theorem preserves : Cert.preserves_Kernel4_Kernel4Ideal := trivial

section
variable (m : (ℓ : Loc Cert.Kernel4Ideal.nD Cert.Kernel4Ideal.τ Cert.Kernel4Ideal.sig) → Buf (Elt Ideal) ℓ) (c : Dev Cert.Kernel4Ideal.nD)

/-- The arguments that the reference reads. -/
abbrev A0 : Cert.Reference4Ideal.S33792x1024.Idx → EReal := m ((c : Thread Cert.Kernel4Ideal.nD Cert.Kernel4Ideal.τ).loc Cert.Kernel4Ideal.main_arg0)
abbrev A1 : Cert.Reference4Ideal.S2560x768.Idx → EReal := m ((c : Thread Cert.Kernel4Ideal.nD Cert.Kernel4Ideal.τ).loc Cert.Kernel4Ideal.main_arg1)
abbrev A2 : Cert.Reference4Ideal.S1024x1920.Idx → EReal := m ((c : Thread Cert.Kernel4Ideal.nD Cert.Kernel4Ideal.τ).loc Cert.Kernel4Ideal.main_arg2)
abbrev A3 : Cert.Reference4Ideal.S256x640.Idx → EReal := m ((c : Thread Cert.Kernel4Ideal.nD Cert.Kernel4Ideal.τ).loc Cert.Kernel4Ideal.main_arg3)
abbrev A4 : Cert.Reference4Ideal.S384x768.Idx → EReal := m ((c : Thread Cert.Kernel4Ideal.nD Cert.Kernel4Ideal.τ).loc Cert.Kernel4Ideal.main_arg4)
abbrev A5 : Cert.Reference4Ideal.S1x256.Idx → EReal := m ((c : Thread Cert.Kernel4Ideal.nD Cert.Kernel4Ideal.τ).loc Cert.Kernel4Ideal.main_arg5)

theorem e9 (hk : ∀ r, Keys 4 (lanes m c r)) (hw : Own (a4 m c)) :
    Cert.Reference4Ideal.Read.val_main_v66 (F := Ideal) (A0 m c) (A1 m c) (A2 m c) (A3 m c) (A4 m c) (A5 m c) = res9 m c := by
  funext i; idx_vars i
  refine (v66_at _ _ _ _ _ _ _ _ _).trans ((congrArg (· * scale) ?_).trans (qcat_eq (q := query m c i1) (hk i1) hw i0 i2).symm)
  by_cases hd : i2.val < 128
  · rw [dif_pos hd, dif_pos hd]; exact v42_at _ _ _ _ _ _ _ _
  · rw [dif_neg hd, dif_neg hd]; exact v61_at _ _ _ _ _ _ _ _
end

/-- Both programs end with the queries of the arguments. -/
theorem algebraic : Cert.algebraic_Kernel4Ideal_Reference4Ideal_pre_rotary_heads := by
  intro m ρ m' ρ' hpre hagree
  have hk : ∀ c r, Keys 4 (lanes m c r) := fun c r => by
    obtain ⟨h0, h1, h2, h3, h4, h5, _⟩ := hpre c
    exact ⟨fun p _ => Cert.QueryPre.cos0 _ _ _ _ _ _ _ h0 _ p, fun p _ => Cert.QueryPre.cos1 _ _ _ _ _ _ _ h1 _ p,
      fun p _ => Cert.QueryPre.neg _ _ _ _ _ _ _ h2 _ p, fun p _ => Cert.QueryPre.no1 _ _ _ _ _ _ _ h3 _ p,
      fun p _ => Cert.QueryPre.no2 _ _ _ _ _ _ _ h4 _ p, fun p _ => Cert.QueryPre.sin _ _ _ _ _ _ _ h5 _ p⟩
  have hw : ∀ c, Own (a4 m c) := fun c => Cert.QueryPre.own _ _ _ _ _ _ _ (hpre c).2.2.2.2.2.2
  refine ⟨fun c => res9 m c, ?_, ?_⟩
  · refine (θ_run Cert.Kernel4Ideal.defs _ _).mono (fun r h c => ?_) (Cert.Kernel4Ideal.Value.run_blocks (F := Ideal) m ρ)
    obtain ⟨_, _, h9, _, _, _, _, _, _, _, hargs⟩ := h c
    exact ⟨h9.trans (arr9 m c), hargs⟩
  · refine (θ_run Cert.Reference4Ideal.defs _ _).mono (fun _ h c => ⟨(h c).1.trans ?_, (h c).2⟩)
      (Cert.Reference4Ideal.Value.run (F := Ideal) m' ρ')
    obtain ⟨a0, a1, a2, a3, a4, a5, _⟩ := hagree c
    rw [Cert.Reference4Ideal.Read.val_main_v66_eq, a0, a1, a2, a3, a4, a5]
    exact e9 m c (hk c) (hw c)

end Cert.Proof.QueryClaims

end
-- ==== Proof.lean ====
/-
  The proof of `Cert.Claim`: the claims of proof/Proof/Claims.lean and proof/Proof/MoeClaims.lean, put together.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_rows
public import proofs.«01_k».proof.Proof.Gen.Pre_routed
public import proofs.«01_k».proof.Proof.Gen.Pre_rotary
public import proofs.«01_k».proof.Proof.Claims
public import proofs.«01_k».proof.Proof.MoeClaims
public import proofs.«01_k».proof.Proof.ProjClaims
public import proofs.«01_k».proof.Proof.QueryClaims
public import Idealize.ShloMosaic.Adequacy
public import Idealize.ShloMosaic.Init
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_rotary_heads

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_rows.Gen.facts, Cert.Pre_routed.Gen.facts, Cert.Pre_rotary.Gen.facts, Cert.Pre_rotary_heads.Gen.facts,
  Claims.frame_kernel, Claims.frame_ideal, Claims.frame_ideal_pre, Claims.frame_reference, Claims.frame_reference_pre,
  MoeClaims.frame_kernel, MoeClaims.frame_ideal, MoeClaims.frame_reference, MoeClaims.frame_reference_pre,
  ProjClaims.frame_kernel, ProjClaims.frame_ideal, ProjClaims.frame_ideal_pre, ProjClaims.frame_reference, ProjClaims.frame_reference_pre,
  QueryClaims.frame_kernel, QueryClaims.frame_ideal, QueryClaims.frame_ideal_pre, QueryClaims.frame_reference,
  QueryClaims.frame_reference_pre,
  Claims.preserves, Claims.algebraic, MoeClaims.preserves, MoeClaims.algebraic, ProjClaims.preserves, ProjClaims.algebraic,
  QueryClaims.preserves, QueryClaims.algebraic⟩

end Cert.Proof

end
